-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_tables_agree : Cert.Pre_tables_agree.Facts] (m : (ℓ : Loc Cert.Kernel7.nD Cert.Kernel7.τ Cert.Kernel7.sig) → Buf (Elt Bits) ℓ) : Prop :=
  ∀ c : Dev Cert.Kernel7.nD,
    (Cert.Pre_tables_agree.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7))) = (fun _ => 1#1)

def Pre_Kernel7Ideal [hPre_tables_agree : Cert.Pre_tables_agree.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_tables_agree.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_tables_agree [hPre_tables_agree : Cert.Pre_tables_agree.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_tables_agree.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_tables_agree : Cert.Pre_tables_agree.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] [hPre_tables_agree : Cert.Pre_tables_agree.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_tables_agree [hReference7Ideal : Cert.Reference7Ideal.Facts] [hPre_tables_agree : Cert.Pre_tables_agree.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_tables_agree m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_tables_agree : Cert.Pre_tables_agree.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scales : Cert.Pre_finite_scales.Facts) (hPre_tables_agree : Cert.Pre_tables_agree.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_tables_agree := hPre_tables_agree)
    ∧ quiescent_Kernel7Ideal (hKernel7Ideal := hKernel7Ideal) (hPre_tables_agree := hPre_tables_agree)
    ∧ quiescent_Reference7Ideal (hReference7Ideal := hReference7Ideal)
    ∧ quiescent_Reference7Ideal_pre_tables_agree (hReference7Ideal := hReference7Ideal) (hPre_tables_agree := hPre_tables_agree)
    ∧ preserves_Kernel_KernelIdeal
    ∧ algebraic_KernelIdeal_ReferenceIdeal_pre_finite_scales (hKernelIdeal := hKernelIdeal) (hReferenceIdeal := hReferenceIdeal) (hPre_finite_scales := hPre_finite_scales)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_tables_agree := hPre_tables_agree)
-- ==== Pre_finite_scales.lean ====
abbrev S2x8192x18432 : Shape := ⟨3, ![2, 8192, 18432]⟩
abbrev S128 : Shape := ⟨1, ![128]⟩
abbrev S8x257 : Shape := ⟨2, ![8, 257]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S2x8192x18432 .bf16) (main_arg1 : FVec F S128 .f32) (main_arg2 : FVec F S128 .f32) (main_arg3 : FVec F S8x257 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S8x257 .f32 := Host.absf main_arg3
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  main_v13
-- ==== Pre_tables_agree.lean ====
abbrev S40960x4096 : Shape := ⟨2, ![40960, 4096]⟩
abbrev S160 : Shape := ⟨1, ![160]⟩
abbrev S1 : Shape := ⟨1, ![1]⟩
abbrev S2x32x4096x512 : Shape := ⟨4, ![2, 32, 4096, 512]⟩
abbrev S2x32x512x4096 : Shape := ⟨4, ![2, 32, 512, 4096]⟩
abbrev S160x160 : Shape := ⟨2, ![160, 160]⟩
abbrev S160x1 : Shape := ⟨2, ![160, 1]⟩
abbrev S1x160 : Shape := ⟨2, ![1, 160]⟩
abbrev S1x1 : Shape := ⟨2, ![1, 1]⟩
abbrev S_ : Shape := ⟨0, ![]⟩

class Facts : Prop where
  bcast_S160_S160x1_0 : S160.BroadcastsInDim S160x1 (![0] : Fin 1 → Fin S160x1.rank)
  bcast_S160_S1x160_1 : S160.BroadcastsInDim S1x160 (![1] : Fin 1 → Fin S1x160.rank)
  bcast_S1_S1x1_1 : S1.BroadcastsInDim S1x1 (![1] : Fin 1 → Fin S1x1.rank)
  bcast_S1x1_S160x160_0_1 : S1x1.BroadcastsInDim S160x160 (![0, 1] : Fin 2 → Fin S160x160.rank)
  bcast_S_S1x160 : S_.BroadcastsInDim S1x160 (![] : Fin 0 → Fin S1x160.rank)
  bcast_S_S1x1 : S_.BroadcastsInDim S1x1 (![] : Fin 0 → Fin S1x1.rank)
  bcast_S1x1_S1x160_0_1 : S1x1.BroadcastsInDim S1x160 (![0, 1] : Fin 2 → Fin S1x160.rank)
  bcast_S_S160x160 : S_.BroadcastsInDim S160x160 (![] : Fin 0 → Fin S160x160.rank)
  bcast_S1x160_S160x160_0_1 : S1x160.BroadcastsInDim S160x160 (![0, 1] : Fin 2 → Fin S160x160.rank)
  bcast_S160x1_S160x160_0_1 : S160x1.BroadcastsInDim S160x160 (![0, 1] : Fin 2 → Fin S160x160.rank)

variable [Facts]

def fn_where {F : FTy → Type} [FloatOps F] (arg0 : IVec S160x160 1) (arg1 : IVec S_ 32) (arg2 : IVec S_ 32) : IVec S160x160 32 :=
  let v0 : IVec S160x160 32 := broadcastInDim S160x160 ![] bcast_S_S160x160 arg1
  let v1 : IVec S160x160 32 := broadcastInDim S160x160 ![] bcast_S_S160x160 arg2
  let v2 : IVec S160x160 32 := select arg0 v0 v1
  v2

def fn_where_0 {F : FTy → Type} [FloatOps F] (arg0 : IVec S1x160 1) (arg1 : IVec S1x160 32) (arg2 : IVec S1x160 32) : IVec S1x160 32 :=
  let v0 : IVec S1x160 32 := select arg0 arg1 arg2
  v0

def fn_part2 {F : FTy → Type} [FloatOps F] (main_v0 : IVec S160x160 32) (main_v1 : IVec S160x160 32) (main_v3 : IVec S1x160 32) (main_v4 : IVec S1x160 32) (main_v5 : IVec S160x1 32) (main_v6 : IVec S1x160 32) (main_v22 : IVec S1x160 1) (main_v35 : IVec S160x160 1) (main_v39 : IVec S160x160 1) : IVec S160x160 1 :=
  let main_c_7 : IVec S_ 32 := constantI S_ 32 1#32
  let main_c_8 : IVec S_ 32 := constantI S_ 32 0#32
  let main_v40 : IVec S160x160 32 := fn_where (F := F) main_v39 main_c_7 main_c_8
  let main_c_9 : IVec S_ 32 := constantI S_ 32 1#32
  let main_v41 : IVec S160x160 32 := broadcastInDim S160x160 ![] bcast_S_S160x160 main_c_9
  let main_v42 : IVec S160x160 32 := addi main_v0 main_v41
  let main_v43 : IVec S160x160 1 := cmpi .ne main_v1 main_v42
  let main_v44 : IVec S160x160 32 := id main_v40
  let main_v45 : IVec S160x160 32 := broadcastInDim S160x160 ![0, 1] bcast_S1x160_S160x160_0_1 main_v4
  let main_v46 : IVec S160x160 1 := cmpi .eq main_v45 main_v44
  let main_c_10 : IVec S_ 32 := constantI S_ 32 1#32
  let main_v47 : IVec S1x160 32 := broadcastInDim S1x160 ![] bcast_S_S1x160 main_c_10
  let main_v48 : IVec S1x160 1 := cmpi .eq main_v4 main_v47
  let main_v49 : IVec S1x160 32 := fn_where_0 (F := F) main_v48 main_v3 main_v6
  let main_v50 : IVec S160x160 32 := broadcastInDim S160x160 ![0, 1] bcast_S160x1_S160x160_0_1 main_v5
  let main_v51 : IVec S160x160 32 := broadcastInDim S160x160 ![0, 1] bcast_S1x160_S160x160_0_1 main_v49
  let main_v52 : IVec S160x160 1 := cmpi .eq main_v50 main_v51
  let main_v53 : IVec S160x160 1 := andi main_v46 main_v52
  let main_v54 : IVec S160x160 1 := ori main_v43 main_v53
  let main_v55 : IVec S160x160 1 := broadcastInDim S160x160 ![0, 1] bcast_S1x160_S160x160_0_1 main_v22
  let main_v56 : IVec S160x160 1 := andi main_v55 main_v35
  let main_v57 : IVec S160x160 1 := andi main_v56 main_v54
  main_v57

def fn_part1 {F : FTy → Type} [FloatOps F] (main_v0 : IVec S160x160 32) (main_v1 : IVec S160x160 32) (main_v2 : IVec S160x1 32) (main_v3 : IVec S1x160 32) (main_v4 : IVec S1x160 32) (main_v5 : IVec S160x1 32) (main_v6 : IVec S1x160 32) (main_v9 : IVec S160x160 1) (main_v17 : IVec S1x160 1) (main_v18 : IVec S1x1 32) (main_v19 : IVec S1x1 32) : IVec S160x160 1 :=
  let main_v20 : IVec S1x1 1 := cmpi .sgt main_v18 main_v19
  let main_v21 : IVec S1x160 1 := broadcastInDim S1x160 ![0, 1] bcast_S1x1_S1x160_0_1 main_v20
  let main_v22 : IVec S1x160 1 := andi main_v17 main_v21
  let main_c_3 : IVec S_ 32 := constantI S_ 32 0#32
  let main_v23 : IVec S160x160 32 := broadcastInDim S160x160 ![] bcast_S_S160x160 main_c_3
  let main_v24 : IVec S160x160 1 := cmpi .ne main_v1 main_v23
  let main_c_4 : IVec S_ 32 := constantI S_ 32 1#32
  let main_v25 : IVec S1x160 32 := broadcastInDim S1x160 ![] bcast_S_S1x160 main_c_4
  let main_v26 : IVec S1x160 1 := cmpi .eq main_v4 main_v25
  let main_v27 : IVec S160x160 1 := broadcastInDim S160x160 ![0, 1] bcast_S1x160_S160x160_0_1 main_v26
  let main_v28 : IVec S160x160 1 := ori main_v24 main_v27
  let main_c_5 : IVec S_ 32 := constantI S_ 32 159#32
  let main_v29 : IVec S160x160 32 := broadcastInDim S160x160 ![] bcast_S_S160x160 main_c_5
  let main_v30 : IVec S160x160 1 := cmpi .ne main_v1 main_v29
  let main_c_6 : IVec S_ 32 := constantI S_ 32 0#32
  let main_v31 : IVec S1x160 32 := broadcastInDim S1x160 ![] bcast_S_S1x160 main_c_6
  let main_v32 : IVec S1x160 1 := cmpi .slt main_v6 main_v31
  let main_v33 : IVec S160x160 1 := broadcastInDim S160x160 ![0, 1] bcast_S1x160_S160x160_0_1 main_v32
  let main_v34 : IVec S160x160 1 := ori main_v30 main_v33
  let main_v35 : IVec S160x160 1 := andi main_v28 main_v34
  let main_v36 : IVec S160x160 32 := broadcastInDim S160x160 ![0, 1] bcast_S160x1_S160x160_0_1 main_v2
  let main_v37 : IVec S160x160 32 := broadcastInDim S160x160 ![0, 1] bcast_S1x160_S160x160_0_1 main_v3
  let main_v38 : IVec S160x160 1 := cmpi .ne main_v36 main_v37
  let main_v39 : IVec S160x160 1 := andi main_v9 main_v38
  fn_part2 (F := F) main_v0 main_v1 main_v3 main_v4 main_v5 main_v6 main_v22 main_v35 main_v39

def fn {F : FTy → Type} [FloatOps F] (main_arg0 : FVec F S40960x4096 .bf16) (main_arg1 : IVec S160 32) (main_arg2 : IVec S160 32) (main_arg3 : IVec S160 32) (main_arg4 : IVec S1 32) (main_arg5 : FVec F S2x32x4096x512 .f32) (main_arg6 : FVec F S2x32x4096x512 .f32) (main_arg7 : FVec F S2x32x512x4096 .f32) : IVec S160x160 1 :=
  let main_v0 : IVec S160x160 32 := iotaInDim S160x160 32 0
  let main_v1 : IVec S160x160 32 := iotaInDim S160x160 32 1
  let main_v2 : IVec S160x1 32 := broadcastInDim S160x1 ![0] bcast_S160_S160x1_0 main_arg1
  let main_v3 : IVec S1x160 32 := broadcastInDim S1x160 ![1] bcast_S160_S1x160_1 main_arg1
  let main_v4 : IVec S1x160 32 := broadcastInDim S1x160 ![1] bcast_S160_S1x160_1 main_arg2
  let main_v5 : IVec S160x1 32 := broadcastInDim S160x1 ![0] bcast_S160_S160x1_0 main_arg3
  let main_v6 : IVec S1x160 32 := broadcastInDim S1x160 ![1] bcast_S160_S1x160_1 main_arg3
  let main_v7 : IVec S1x1 32 := broadcastInDim S1x1 ![1] bcast_S1_S1x1_1 main_arg4
  let main_v8 : IVec S160x160 32 := broadcastInDim S160x160 ![0, 1] bcast_S1x1_S160x160_0_1 main_v7
  let main_v9 : IVec S160x160 1 := cmpi .slt main_v1 main_v8
  let main_c : IVec S_ 32 := constantI S_ 32 0#32
  let main_v10 : IVec S1x160 32 := broadcastInDim S1x160 ![] bcast_S_S1x160 main_c
  let main_v11 : IVec S1x160 1 := cmpi .sge main_v3 main_v10
  let main_c_0 : IVec S_ 32 := constantI S_ 32 32#32
  let main_v12 : IVec S1x160 32 := broadcastInDim S1x160 ![] bcast_S_S1x160 main_c_0
  let main_v13 : IVec S1x160 1 := cmpi .slt main_v3 main_v12
  let main_v14 : IVec S1x160 1 := andi main_v11 main_v13
  let main_c_1 : IVec S_ 32 := constantI S_ 32 32#32
  let main_v15 : IVec S1x160 32 := broadcastInDim S1x160 ![] bcast_S_S1x160 main_c_1
  let main_v16 : IVec S1x160 1 := cmpi .slt main_v6 main_v15
  let main_v17 : IVec S1x160 1 := andi main_v14 main_v16
  let main_v18 : IVec S1x1 32 := broadcastInDim S1x1 ![1] bcast_S1_S1x1_1 main_arg4
  let main_c_2 : IVec S_ 32 := constantI S_ 32 0#32
  let main_v19 : IVec S1x1 32 := broadcastInDim S1x1 ![] bcast_S_S1x1 main_c_2
  fn_part1 (F := F) main_v0 main_v1 main_v2 main_v3 main_v4 main_v5 main_v6 main_v9 main_v17 main_v18 main_v19
-- ==== Kernel.lean ====
abbrev S2x8192x18432 : Shape := ⟨3, ![2, 8192, 18432]⟩
abbrev S128 : Shape := ⟨1, ![128]⟩
abbrev S8x257 : Shape := ⟨2, ![8, 257]⟩
abbrev S1024 : Shape := ⟨1, ![1024]⟩
abbrev S_ : Shape := ⟨0, ![]⟩
abbrev S1024x1 : Shape := ⟨2, ![1024, 1]⟩
abbrev S8x1024 : Shape := ⟨2, ![8, 1024]⟩
abbrev S8x1x1024 : Shape := ⟨3, ![8, 1, 1024]⟩
abbrev S1x128 : Shape := ⟨2, ![1, 128]⟩
abbrev S2x8192x1024 : Shape := ⟨3, ![2, 8192, 1024]⟩
abbrev S1x2048x128 : Shape := ⟨3, ![1, 2048, 128]⟩
abbrev S1x512x128 : Shape := ⟨3, ![1, 512, 128]⟩
abbrev S1x1x1024 : Shape := ⟨3, ![1, 1, 1024]⟩
abbrev S128x640 : Shape := ⟨2, ![128, 640]⟩
abbrev S1x1024 : Shape := ⟨2, ![1, 1024]⟩
abbrev S128x1024 : Shape := ⟨2, ![128, 1024]⟩
abbrev S2048x128 : Shape := ⟨2, ![2048, 128]⟩
abbrev S2048 : Shape := ⟨1, ![2048]⟩
abbrev S2048x1 : Shape := ⟨2, ![2048, 1]⟩
abbrev S512x128 : Shape := ⟨2, ![512, 128]⟩
abbrev S2560x128 : Shape := ⟨2, ![2560, 128]⟩
abbrev S2560 : Shape := ⟨1, ![2560]⟩
abbrev S2560x1 : Shape := ⟨2, ![2560, 1]⟩
abbrev S128x128 : Shape := ⟨2, ![128, 128]⟩
abbrev S640x128 : Shape := ⟨2, ![640, 128]⟩
abbrev S128x1 : Shape := ⟨2, ![128, 1]⟩

abbrev nBuf : Space → Nat
  | .hbm => 39
  | .vmem => 17
  | .smem => 0
  | _ => 0

abbrev bufTy : (tb : Table) → Fin (tcTables nBuf tb) → BufTy
  | .hbm, ⟨0, _⟩ => ⟨S2x8192x18432, .bf16⟩
  | .hbm, ⟨1, _⟩ => ⟨S128, .f32⟩
  | .hbm, ⟨2, _⟩ => ⟨S128, .f32⟩
  | .hbm, ⟨3, _⟩ => ⟨S8x257, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S8x1024, .f32⟩
  | .hbm, ⟨35, _⟩ => ⟨S8x1x1024, .f32⟩
  | .hbm, ⟨36, _⟩ => ⟨S1x128, .f32⟩
  | .hbm, ⟨37, _⟩ => ⟨S1x128, .f32⟩
  | .hbm, ⟨38, _⟩ => ⟨S2x8192x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x1x1024, .f32⟩
  | .local _ .vmem, ⟨11, _⟩ => ⟨S1x1x1024, .f32⟩
  | .local _ .vmem, ⟨12, _⟩ => ⟨S1x128, .f32⟩
  | .local _ .vmem, ⟨13, _⟩ => ⟨S1x128, .f32⟩
  | .local _ .vmem, ⟨14, _⟩ => ⟨S1x2048x128, .bf16⟩
  | .local _ .vmem, ⟨15, _⟩ => ⟨S1x2048x128, .bf16⟩
  | .local _ .vmem, ⟨16, _⟩ => ⟨S128x640, .f32⟩
  | _, _ => ⟨S2x8192x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_c_5 : Ref sig .tc := ⟨.hbm, 26, rfl⟩
abbrev main_v11 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg1
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg1
  let c0_i32_0 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x18432 : Shape := ⟨3, ![2, 8192, 18432]⟩
abbrev S128 : Shape := ⟨1, ![128]⟩
abbrev S8x257 : Shape := ⟨2, ![8, 257]⟩
abbrev S2x8192x1024 : Shape := ⟨3, ![2, 8192, 1024]⟩
abbrev S2x8192x8x128 : Shape := ⟨4, ![2, 8192, 8, 128]⟩
abbrev S_ : Shape := ⟨0, ![]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x128x64x8x128 : Shape := ⟨5, ![2, 128, 64, 8, 128]⟩
abbrev S2x136x64x8x128 : Shape := ⟨5, ![2, 136, 64, 8, 128]⟩
abbrev S2x128x576x8x128 : Shape := ⟨5, ![2, 128, 576, 8, 128]⟩
abbrev S2x128x8x64x576 : Shape := ⟨5, ![2, 128, 8, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128x1 : Shape := ⟨2, ![128, 1]⟩
abbrev S128x576 : Shape := ⟨2, ![128, 576]⟩
abbrev S1x128x1x1x576 : Shape := ⟨5, ![1, 128, 1, 1, 576]⟩
abbrev S1x1x8x64x576 : Shape := ⟨5, ![1, 1, 8, 64, 576]⟩
abbrev S2x128x8x64 : Shape := ⟨4, ![2, 128, 8, 64]⟩
abbrev S2x128x8x64x1 : Shape := ⟨5, ![2, 128, 8, 64, 1]⟩
abbrev S2x128x8x128x64 : Shape := ⟨5, ![2, 128, 8, 128, 64]⟩

abbrev nBuf : Space → Nat
  | .hbm => 141
  | .vmem => 0
  | .smem => 0
  | _ => 0

abbrev hbmTy0_0 (i : Nat) : BufTy := match i % 128 with
  | 0 => ⟨S2x8192x18432, .bf16⟩
  | 1 => ⟨S128, .f32⟩
  | 2 => ⟨S128, .f32⟩
  | 3 => ⟨S8x257, .f32⟩
  | 4 => ⟨S2x8192x18432, .f32⟩
  | 5 => ⟨S2x8192x1024, .f32⟩
  | 6 => ⟨S2x8192x8x128, .f32⟩
  | 7 => ⟨S2x8192x1024, .f32⟩
  | 8 => ⟨S2x8192x8x128, .f32⟩
  | 9 => ⟨S2x8192x1024, .f32⟩
  | 10 => ⟨S2x8192x8x128, .f32⟩
  | 11 => ⟨S2x8192x8x128, .f32⟩
  | 12 => ⟨S_, .f32⟩
  | 13 => ⟨S2x8192x8, .f32⟩
  | 14 => ⟨S2x8192x8x1, .f32⟩
  | 15 => ⟨S_, .f32⟩
  | 16 => ⟨S2x8192x8x1, .f32⟩
  | 17 => ⟨S2x8192x8x1, .f32⟩
  | 18 => ⟨S_, .f32⟩
  | 19 => ⟨S2x8192x8x1, .f32⟩
  | 20 => ⟨S2x8192x8x1, .f32⟩
  | 21 => ⟨S2x8192x8x1, .f32⟩
  | 22 => ⟨S2x8192x8x128, .f32⟩
  | 23 => ⟨S2x8192x8x128, .f32⟩
  | 24 => ⟨S1x1x1x128, .f32⟩
  | 25 => ⟨S2x8192x8x128, .f32⟩
  | 26 => ⟨S2x8192x8x128, .f32⟩
  | 27 => ⟨S_, .f32⟩
  | 28 => ⟨S2x8192x8x128, .f32⟩
  | 29 => ⟨S2x8192x8x128, .f32⟩
  | 30 => ⟨S2x8192x8x128, .f32⟩
  | 31 => ⟨S_, .f32⟩
  | 32 => ⟨S2x8192x8, .f32⟩
  | 33 => ⟨S2x8192x8x1, .f32⟩
  | 34 => ⟨S_, .f32⟩
  | 35 => ⟨S2x8192x8x1, .f32⟩
  | 36 => ⟨S2x8192x8x1, .f32⟩
  | 37 => ⟨S_, .f32⟩
  | 38 => ⟨S2x8192x8x1, .f32⟩
  | 39 => ⟨S2x8192x8x1, .f32⟩
  | 40 => ⟨S2x8192x8x1, .f32⟩
  | 41 => ⟨S2x8192x8x128, .f32⟩
  | 42 => ⟨S2x8192x8x128, .f32⟩
  | 43 => ⟨S1x1x1x128, .f32⟩
  | 44 => ⟨S2x8192x8x128, .f32⟩
  | 45 => ⟨S2x8192x8x128, .f32⟩
  | 46 => ⟨S2x128x64x8x128, .f32⟩
  | 47 => ⟨S2x128x64x8x128, .f32⟩
  | 48 => ⟨S_, .i32⟩
  | 49 => ⟨S_, .f32⟩
  | 50 => ⟨S2x136x64x8x128, .f32⟩
  | 51 => ⟨S2x128x64x8x128, .f32⟩
  | 52 => ⟨S2x128x64x8x128, .f32⟩
  | 53 => ⟨S2x128x64x8x128, .f32⟩
  | 54 => ⟨S2x128x64x8x128, .f32⟩
  | 55 => ⟨S2x128x64x8x128, .f32⟩
  | 56 => ⟨S2x128x64x8x128, .f32⟩
  | 57 => ⟨S2x128x64x8x128, .f32⟩
  | 58 => ⟨S2x128x64x8x128, .f32⟩
  | 59 => ⟨S2x128x64x8x128, .f32⟩
  | 60 => ⟨S2x128x576x8x128, .f32⟩
  | 61 => ⟨S2x128x64x8x128, .f32⟩
  | 62 => ⟨S_, .i32⟩
  | 63 => ⟨S_, .f32⟩
  | 64 => ⟨S2x136x64x8x128, .f32⟩
  | 65 => ⟨S2x128x64x8x128, .f32⟩
  | 66 => ⟨S2x128x64x8x128, .f32⟩
  | 67 => ⟨S2x128x64x8x128, .f32⟩
  | 68 => ⟨S2x128x64x8x128, .f32⟩
  | 69 => ⟨S2x128x64x8x128, .f32⟩
  | 70 => ⟨S2x128x64x8x128, .f32⟩
  | 71 => ⟨S2x128x64x8x128, .f32⟩
  | 72 => ⟨S2x128x64x8x128, .f32⟩
  | 73 => ⟨S2x128x64x8x128, .f32⟩
  | 74 => ⟨S2x128x576x8x128, .f32⟩
  | 75 => ⟨S2x128x8x64x576, .f32⟩
  | 76 => ⟨S64, .i32⟩
  | 77 => ⟨S576, .i32⟩
  | 78 => ⟨S64x1, .i32⟩
  | 79 => ⟨S_, .i32⟩
  | 80 => ⟨S64x1, .i32⟩
  | 81 => ⟨S64x1, .i32⟩
  | 82 => ⟨S1x576, .i32⟩
  | 83 => ⟨S64x576, .i32⟩
  | 84 => ⟨S64x576, .i32⟩
  | 85 => ⟨S64x576, .i32⟩
  | 86 => ⟨S_, .i32⟩
  | 87 => ⟨S_, .i32⟩
  | 88 => ⟨S_, .i32⟩
  | 89 => ⟨S64x576, .i32⟩
  | 90 => ⟨S64x576, .i32⟩
  | 91 => ⟨S_, .i32⟩
  | 92 => ⟨S64x576, .i32⟩
  | 93 => ⟨S64x576, .i32⟩
  | 94 => ⟨S_, .i32⟩
  | 95 => ⟨S64x576, .i32⟩
  | 96 => ⟨S64x576, .i32⟩
  | 97 => ⟨S64x576x1, .i32⟩
  | 98 => ⟨S8x64x576, .f32⟩
  | 99 => ⟨S128, .i32⟩
  | 100 => ⟨S128x1, .i32⟩
  | 101 => ⟨S_, .i32⟩
  | 102 => ⟨S128x1, .i32⟩
  | 103 => ⟨S128x1, .i32⟩
  | 104 => ⟨S_, .i32⟩
  | 105 => ⟨S576, .i32⟩
  | 106 => ⟨S576, .i32⟩
  | 107 => ⟨S1x576, .i32⟩
  | 108 => ⟨S128x576, .i32⟩
  | 109 => ⟨S128x576, .i32⟩
  | 110 => ⟨S128x576, .i32⟩
  | 111 => ⟨S_, .i32⟩
  | 112 => ⟨S128x576, .i32⟩
  | 113 => ⟨S128x576, .i1⟩
  | 114 => ⟨S1x128x1x1x576, .i1⟩
  | 115 => ⟨S1x1x8x64x576, .f32⟩
  | 116 => ⟨S2x128x8x64x576, .f32⟩
  | 117 => ⟨S2x128x8x64x576, .f32⟩
  | 118 => ⟨S_, .f32⟩
  | 119 => ⟨S_, .f32⟩
  | 120 => ⟨S2x128x8x64x576, .i1⟩
  | 121 => ⟨S2x128x8x64x576, .f32⟩
  | 122 => ⟨S2x128x8x64x576, .f32⟩
  | 123 => ⟨S_, .f32⟩
  | 124 => ⟨S2x128x8x64, .f32⟩
  | 125 => ⟨S_, .f32⟩
  | 126 => ⟨S2x128x8x64, .f32⟩
  | 127 => ⟨S2x128x8x64, .f32⟩
  | _ => ⟨S2x8192x18432, .bf16⟩

abbrev hbmTy0_1 (i : Nat) : BufTy := match i % 128 with
  | 0 => ⟨S2x128x8x64x1, .f32⟩
  | 1 => ⟨S2x128x8x64x576, .f32⟩
  | 2 => ⟨S2x128x8x64x576, .f32⟩
  | 3 => ⟨S2x128x8x64x576, .f32⟩
  | 4 => ⟨S_, .f32⟩
  | 5 => ⟨S2x128x8x64, .f32⟩
  | 6 => ⟨S2x128x8x64x1, .f32⟩
  | 7 => ⟨S2x128x8x64x576, .f32⟩
  | 8 => ⟨S2x128x8x64x576, .f32⟩
  | 9 => ⟨S2x128x8x128x64, .f32⟩
  | 10 => ⟨S2x128x64x8x128, .f32⟩
  | 11 => ⟨S2x8192x1024, .f32⟩
  | 12 => ⟨S2x8192x1024, .bf16⟩
  | _ => ⟨S2x8192x18432, .bf16⟩

abbrev hbmTy (i : Nat) : BufTy := match i / 128 with
  | 0 => hbmTy0_0 i
  | 1 => hbmTy0_1 i
  | _ => ⟨S2x8192x18432, .bf16⟩

abbrev bufTy : (tb : Table) → Fin (tcTables nBuf tb) → BufTy
  | .hbm, ⟨i, _⟩ => hbmTy i
  | _, _ => ⟨S2x8192x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_call1_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_8 : Ref sig .tc := ⟨.hbm, 86, rfl⟩
abbrev main_c_9 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v70 : Ref sig .tc := ⟨.hbm, 93, rfl⟩
abbrev main_c_10 : Ref sig .tc := ⟨.hbm, 94, rfl⟩
abbrev main_v71 : Ref sig .tc := ⟨.hbm, 95, rfl⟩
abbrev main_v72 : Ref sig .tc := ⟨.hbm, 96, rfl⟩
abbrev main_call3_v0 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_11 : Ref sig .tc := ⟨.hbm, 101, rfl⟩
abbrev main_v76 : Ref sig .tc := ⟨.hbm, 102, rfl⟩
abbrev main_v77 : Ref sig .tc := ⟨.hbm, 103, rfl⟩
abbrev main_c_12 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_13 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_14 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v90 : Ref sig .tc := ⟨.hbm, 122, rfl⟩
abbrev main_cst_15 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_17 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== Kernel2.lean ====
abbrev S16384x4096 : Shape := ⟨2, ![16384, 4096]⟩
abbrev S2x4096x18432 : Shape := ⟨3, ![2, 4096, 18432]⟩
abbrev S16384x18432 : Shape := ⟨2, ![16384, 18432]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩
abbrev S1x4096x1024 : Shape := ⟨3, ![1, 4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x18432, .f32⟩
  | .hbm, ⟨2, _⟩ => ⟨S16384x18432, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .f32⟩
  | .local _ .vmem, ⟨5, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![18, 16], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32 : BitVec 32 := 1#32
  let v20 : BitVec 32 := Scalar.addi arg0 c1_i32
  let c18_i32 : BitVec 32 := 18#32
  let v21 : BitVec 1 := Scalar.cmpi .slt v20 c18_i32
  let v22 : BitVec 32 := Scalar.extui v21
  let c0_i32_16 : BitVec 32 := 0#32
  let v23 : BitVec 1 := Scalar.cmpi .ne v22 c0_i32_16
  v23

def k0_off1 (i : grid0.Coords) : Fin 3 → Nat :=
  let c0_i32_18 : BitVec 32 := 0#32
  let c0_i32_19 : BitVec 32 := 0#32
  let arg0 : BitVec 32 := BitVec.ofNat 32 (i 0).val
  let c1_i32_17 : BitVec 32 := 1#32
  let v24 : BitVec 32 := Scalar.addi arg0 c1_i32_17
  let c1024_i32 : BitVec 32 := 1024#32
  let v25 : BitVec 32 := Scalar.muli v24 c1024_i32
  ![0, 0, v25.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S16384x4096 : Shape := ⟨2, ![16384, 4096]⟩
abbrev S2x4096x18432 : Shape := ⟨3, ![2, 4096, 18432]⟩
abbrev S1x4096x18432 : Shape := ⟨3, ![1, 4096, 18432]⟩
abbrev S4096x18432 : Shape := ⟨2, ![4096, 18432]⟩
abbrev S16384x18432 : Shape := ⟨2, ![16384, 18432]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x18432, .f32⟩
  | .hbm, ⟨2, _⟩ => ⟨S16384x4096, .f32⟩
  | .hbm, ⟨3, _⟩ => ⟨S1x4096x18432, .f32⟩
  | .hbm, ⟨4, _⟩ => ⟨S4096x18432, .f32⟩
  | .hbm, ⟨5, _⟩ => ⟨S16384x18432, .f32⟩
  | .hbm, ⟨6, _⟩ => ⟨S16384x18432, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S2x2048x4096 : Shape := ⟨3, ![2, 2048, 4096]⟩
abbrev S2x1024x4096 : Shape := ⟨3, ![2, 1024, 4096]⟩
abbrev S16384x18432 : Shape := ⟨2, ![16384, 18432]⟩
abbrev S16384x4096 : Shape := ⟨2, ![16384, 4096]⟩
abbrev S1024x2048 : Shape := ⟨2, ![1024, 2048]⟩
abbrev S1024x1024 : Shape := ⟨2, ![1024, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 11
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2x2048x4096, .f32⟩
  | .hbm, ⟨4, _⟩ => ⟨S2x1024x4096, .f32⟩
  | .hbm, ⟨5, _⟩ => ⟨S2x1024x4096, .f32⟩
  | .hbm, ⟨6, _⟩ => ⟨S16384x18432, .bf16⟩
  | .hbm, ⟨7, _⟩ => ⟨S2x2048x4096, .bf16⟩
  | .hbm, ⟨8, _⟩ => ⟨S2x1024x4096, .bf16⟩
  | .hbm, ⟨9, _⟩ => ⟨S2x1024x4096, .bf16⟩
  | .hbm, ⟨10, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S16384x2048 : Shape := ⟨2, ![16384, 2048]⟩
abbrev S16384x1024 : Shape := ⟨2, ![16384, 1024]⟩
abbrev S2x2048x4096 : Shape := ⟨3, ![2, 2048, 4096]⟩
abbrev S2x1024x4096 : Shape := ⟨3, ![2, 1024, 4096]⟩
abbrev S16384x18432 : Shape := ⟨2, ![16384, 18432]⟩
abbrev S16384x12288 : Shape := ⟨2, ![16384, 12288]⟩
abbrev S16384x4096 : Shape := ⟨2, ![16384, 4096]⟩
abbrev S_ : Shape := ⟨0, ![]⟩
abbrev S1x2048x4096 : Shape := ⟨3, ![1, 2048, 4096]⟩
abbrev S2048x4096 : Shape := ⟨2, ![2048, 4096]⟩
abbrev S1x1024x4096 : Shape := ⟨3, ![1, 1024, 4096]⟩
abbrev S1024x4096 : Shape := ⟨2, ![1024, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2x2048x4096, .f32⟩
  | .hbm, ⟨4, _⟩ => ⟨S2x1024x4096, .f32⟩
  | .hbm, ⟨5, _⟩ => ⟨S2x1024x4096, .f32⟩
  | .hbm, ⟨6, _⟩ => ⟨S16384x18432, .bf16⟩
  | .hbm, ⟨7, _⟩ => ⟨S16384x12288, .bf16⟩
  | .hbm, ⟨8, _⟩ => ⟨S16384x12288, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x2048, .f32⟩
  | .hbm, ⟨19, _⟩ => ⟨S1x2048x4096, .f32⟩
  | .hbm, ⟨20, _⟩ => ⟨S2048x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S1x1024x4096, .f32⟩
  | .hbm, ⟨34, _⟩ => ⟨S1024x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S16384x1024, .f32⟩
  | .hbm, ⟨48, _⟩ => ⟨S1x1024x4096, .f32⟩
  | .hbm, ⟨49, _⟩ => ⟨S1024x4096, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel4.lean ====
abbrev S16384x4096 : Shape := ⟨2, ![16384, 4096]⟩
abbrev S2x4096x4096 : Shape := ⟨3, ![2, 4096, 4096]⟩
abbrev S1024x1024 : Shape := ⟨2, ![1024, 1024]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S2x4096x4096, .f32⟩
  | .hbm, ⟨3, _⟩ => ⟨S2x4096x4096, .bf16⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1024x4096, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1024x1024, .f32⟩
  | .local _ .vmem, ⟨7, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S2x4096x4096, .f32⟩
  | .hbm, ⟨3, _⟩ => ⟨S16384x4096, .f32⟩
  | .hbm, ⟨4, _⟩ => ⟨S1x4096x4096, .f32⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16384x4096 : Shape := ⟨2, ![16384, 4096]⟩
abbrev S2x4096x4096 : Shape := ⟨3, ![2, 4096, 4096]⟩
abbrev S2x16384x256 : Shape := ⟨3, ![2, 16384, 256]⟩
abbrev S2x256x4096 : Shape := ⟨3, ![2, 256, 4096]⟩
abbrev S1024x512 : Shape := ⟨2, ![1024, 512]⟩
abbrev S1024x4096 : Shape := ⟨2, ![1024, 4096]⟩
abbrev S1x4096x512 : Shape := ⟨3, ![1, 4096, 512]⟩
abbrev S1x1024x256 : Shape := ⟨3, ![1, 1024, 256]⟩
abbrev S1x256x512 : Shape := ⟨3, ![1, 256, 512]⟩
abbrev S4096x512 : Shape := ⟨2, ![4096, 512]⟩
abbrev S1024x256 : Shape := ⟨2, ![1024, 256]⟩
abbrev S256x512 : Shape := ⟨2, ![256, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S2x4096x4096, .f32⟩
  | .hbm, ⟨3, _⟩ => ⟨S2x16384x256, .f32⟩
  | .hbm, ⟨4, _⟩ => ⟨S2x256x4096, .f32⟩
  | .hbm, ⟨5, _⟩ => ⟨S2x4096x4096, .bf16⟩
  | .hbm, ⟨6, _⟩ => ⟨S2x16384x256, .bf16⟩
  | .hbm, ⟨7, _⟩ => ⟨S2x256x4096, .bf16⟩
  | .hbm, ⟨8, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S1024x4096, .bf16⟩
  | .local _ .vmem, ⟨3, _⟩ => ⟨S1024x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x512, .bf16⟩
  | .local _ .vmem, ⟨9, _⟩ => ⟨S1x256x512, .bf16⟩
  | .local _ .vmem, ⟨10, _⟩ => ⟨S1024x512, .f32⟩
  | .local _ .vmem, ⟨11, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x4096 : Shape := ⟨2, ![16384, 4096]⟩
abbrev S2x4096x4096 : Shape := ⟨3, ![2, 4096, 4096]⟩
abbrev S2x16384x256 : Shape := ⟨3, ![2, 16384, 256]⟩
abbrev S2x256x4096 : Shape := ⟨3, ![2, 256, 4096]⟩
abbrev S1x4096x4096 : Shape := ⟨3, ![1, 4096, 4096]⟩
abbrev S4096x4096 : Shape := ⟨2, ![4096, 4096]⟩
abbrev S_ : Shape := ⟨0, ![]⟩
abbrev S1x16384x256 : Shape := ⟨3, ![1, 16384, 256]⟩
abbrev S16384x256 : Shape := ⟨2, ![16384, 256]⟩
abbrev S1x256x4096 : Shape := ⟨3, ![1, 256, 4096]⟩
abbrev S256x4096 : Shape := ⟨2, ![256, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S2x4096x4096, .f32⟩
  | .hbm, ⟨3, _⟩ => ⟨S2x16384x256, .f32⟩
  | .hbm, ⟨4, _⟩ => ⟨S2x256x4096, .f32⟩
  | .hbm, ⟨5, _⟩ => ⟨S16384x4096, .f32⟩
  | .hbm, ⟨6, _⟩ => ⟨S1x4096x4096, .f32⟩
  | .hbm, ⟨7, _⟩ => ⟨S4096x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S1x16384x256, .f32⟩
  | .hbm, ⟨18, _⟩ => ⟨S16384x256, .f32⟩
  | .hbm, ⟨19, _⟩ => ⟨S1x256x4096, .f32⟩
  | .hbm, ⟨20, _⟩ => ⟨S256x4096, .f32⟩
  | .hbm, ⟨21, _⟩ => ⟨S16384x4096, .f32⟩
  | .hbm, ⟨22, _⟩ => ⟨S16384x4096, .f32⟩
  | .hbm, ⟨23, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S16384x1024 : Shape := ⟨2, ![16384, 1024]⟩
abbrev S2x1024x2048 : Shape := ⟨3, ![2, 1024, 2048]⟩
abbrev S2048 : Shape := ⟨1, ![2048]⟩
abbrev S1x2048 : Shape := ⟨2, ![1, 2048]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2x1024x2048, .f32⟩
  | .hbm, ⟨2, _⟩ => ⟨S2048, .f32⟩
  | .hbm, ⟨3, _⟩ => ⟨S2x1024x2048, .bf16⟩
  | .hbm, ⟨4, _⟩ => ⟨S1x2048, .f32⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x2048, .f32⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x1024 : Shape := ⟨2, ![16384, 1024]⟩
abbrev S2x1024x2048 : Shape := ⟨3, ![2, 1024, 2048]⟩
abbrev S2048 : Shape := ⟨1, ![2048]⟩
abbrev S1x1024x2048 : Shape := ⟨3, ![1, 1024, 2048]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x2048, .f32⟩
  | .hbm, ⟨2, _⟩ => ⟨S2048, .f32⟩
  | .hbm, ⟨3, _⟩ => ⟨S16384x1024, .f32⟩
  | .hbm, ⟨4, _⟩ => ⟨S1x1024x2048, .f32⟩
  | .hbm, ⟨5, _⟩ => ⟨S1024x2048, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel7.lean ====
abbrev S40960x4096 : Shape := ⟨2, ![40960, 4096]⟩
abbrev S160 : Shape := ⟨1, ![160]⟩
abbrev S1 : Shape := ⟨1, ![1]⟩
abbrev S2x32x4096x512 : Shape := ⟨4, ![2, 32, 4096, 512]⟩
abbrev S2x32x512x4096 : Shape := ⟨4, ![2, 32, 512, 4096]⟩
abbrev S256x4096 : Shape := ⟨2, ![256, 4096]⟩
abbrev S4096x512 : Shape := ⟨2, ![4096, 512]⟩
abbrev S512x4096 : Shape := ⟨2, ![512, 4096]⟩
abbrev S3 : Shape := ⟨1, ![3]⟩
abbrev S_ : Shape := ⟨0, ![]⟩
abbrev S1x1x4096x512 : Shape := ⟨4, ![1, 1, 4096, 512]⟩
abbrev S1x1x512x4096 : Shape := ⟨4, ![1, 1, 512, 4096]⟩
abbrev S256x512 : Shape := ⟨2, ![256, 512]⟩

abbrev nBuf : Space → Nat
  | .hbm => 5
  | .vmem => 10
  | .smem => 4
  | _ => 0

abbrev bufTy : (tb : Table) → Fin (tcTables nBuf tb) → BufTy
  | .hbm, ⟨0, _⟩ => ⟨S40960x4096, .bf16⟩
  | .hbm, ⟨1, _⟩ => ⟨S2x32x4096x512, .f32⟩
  | .hbm, ⟨2, _⟩ => ⟨S2x32x4096x512, .f32⟩
  | .hbm, ⟨3, _⟩ => ⟨S2x32x512x4096, .f32⟩
  | .hbm, ⟨4, _⟩ => ⟨S40960x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S4096x512, .f32⟩
  | .local _ .vmem, ⟨5, _⟩ => ⟨S4096x512, .f32⟩
  | .local _ .vmem, ⟨6, _⟩ => ⟨S512x4096, .f32⟩
  | .local _ .vmem, ⟨7, _⟩ => ⟨S4096x512, .bf16⟩
  | .local _ .vmem, ⟨8, _⟩ => ⟨S4096x512, .bf16⟩
  | .local _ .vmem, ⟨9, _⟩ => ⟨S512x4096, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S1, .i32⟩
  | _, _ => ⟨S40960x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (v16 : BitVec 32) : Fin 4 → Nat :=
  let c0_i32_5 : BitVec 32 := 0#32
  let c0_i32_7 : BitVec 32 := 0#32
  let c0_i32_8 : BitVec 32 := 0#32
  ![0, v16.toNat, 0, 0]

def k0_chk1 (i : grid0.Coords) (v16 : BitVec 32) : Prop :=
  (∀ (k0_h1 : k0_cond1 i = 1#1), ∀ a, (k0_off1 v16) a + S1x1x4096x512.size a ≤ S2x32x4096x512.size a)
theorem k0_off1_inb : ∀ (i : grid0.Coords) (v16 : BitVec 32) (k0_hw1 : k0_chk1 i v16), ∀ (k0_h1 : k0_cond1 i = 1#1), ∀ a, (k0_off1 v16) a + S1x1x4096x512.size a ≤ S2x32x4096x512.size a := fun i v16 k0_hw1 k0_h1 => k0_hw1 k0_h1

def k0_off2 (v21 : BitVec 32) : Fin 4 → Nat :=
  let c0_i32_10 : BitVec 32 := 0#32
  let c0_i32_12 : BitVec 32 := 0#32
  let c0_i32_13 : BitVec 32 := 0#32
  ![0, v21.toNat, 0, 0]

def k0_chk2 (i : grid0.Coords) (v21 : BitVec 32) : Prop :=
  (∀ (k0_h1 : k0_cond1 i = 1#1), ∀ a, (k0_off2 v21) a + S1x1x4096x512.size a ≤ S2x32x4096x512.size a)
theorem k0_off2_inb : ∀ (i : grid0.Coords) (v21 : BitVec 32) (k0_hw2 : k0_chk2 i v21), ∀ (k0_h1 : k0_cond1 i = 1#1), ∀ a, (k0_off2 v21) a + S1x1x4096x512.size a ≤ S2x32x4096x512.size a := fun i v21 k0_hw2 k0_h1 => k0_hw2 k0_h1

def k0_off3 (v26 : BitVec 32) : Fin 4 → Nat :=
  let c0_i32_15 : BitVec 32 := 0#32
  let c0_i32_16 : BitVec 32 := 0#32
  let c0_i32_17 : BitVec 32 := 0#32
  ![0, v26.toNat, 0, 0]

def k0_chk3 (i : grid0.Coords) (v26 : BitVec 32) : Prop :=
  (∀ (k0_h1 : k0_cond1 i = 1#1), ∀ a, (k0_off3 v26) a + S1x1x512x4096.size a ≤ S2x32x512x4096.size a)
theorem k0_off3_inb : ∀ (i : grid0.Coords) (v26 : BitVec 32) (k0_hw3 : k0_chk3 i v26), ∀ (k0_h1 : k0_cond1 i = 1#1), ∀ a, (k0_off3 v26) a + S1x1x512x4096.size a ≤ S2x32x512x4096.size a := fun i v26 k0_hw3 k0_h1 => k0_hw3 k0_h1

def k0_off4 (i : grid0.Coords) : Fin 1 → Nat :=
  let arg0 : BitVec 32 := BitVec.ofNat 32 (i 0).val
  let v5 : Index := Scalar.indexCast arg0
  ![v5.toNat]
def k0_off5 (i : grid0.Coords) : Fin 1 → Nat :=
  let arg0 : BitVec 32 := BitVec.ofNat 32 (i 0).val
  let v43 : Index := Scalar.indexCast arg0
  ![v43.toNat]
def k0_off6 (i : grid0.Coords) : Fin 1 → Nat :=
  let arg0 : BitVec 32 := BitVec.ofNat 32 (i 0).val
  let v48 : Index := Scalar.indexCast arg0
  ![v48.toNat]
def k0_off7 (v49 : BitVec 32) : Fin 4 → Nat :=
  let c0_i32_32 : BitVec 32 := 0#32
  let c0_i32_34 : BitVec 32 := 0#32
  let c0_i32_35 : BitVec 32 := 0#32
  ![0, v49.toNat, 0, 0]
def k0_cond2 (i : grid0.Coords) (v0 : BitVec 32) (v6 : BitVec 32) : BitVec 1 :=
  let arg0 : BitVec 32 := BitVec.ofNat 32 (i 0).val
  let v1 : BitVec 1 := Scalar.cmpi .slt arg0 v0
  let c1_i32 : BitVec 32 := 1#32
  let v7 : BitVec 1 := Scalar.cmpi .eq v6 c1_i32
  let v8 : BitVec 1 := Scalar.andi v1 v7
  let v9 : BitVec 32 := Scalar.extui v8
  let c0_i32_1 : BitVec 32 := 0#32
  let v10 : BitVec 1 := Scalar.cmpi .ne v9 c0_i32_1
  v10

def k0_cond3 (v44 : BitVec 32) : BitVec 1 :=
  let c0_i32_30 : BitVec 32 := 0#32
  let v45 : BitVec 1 := Scalar.cmpi .sge v44 c0_i32_30
  let v46 : BitVec 32 := Scalar.extui v45
  let c0_i32_31 : BitVec 32 := 0#32
  let v47 : BitVec 1 := Scalar.cmpi .ne v46 c0_i32_31
  v47

def k0_chk4 (i : grid0.Coords) (v0 : BitVec 32) (v6 : BitVec 32) (v44 : BitVec 32) (v49 : BitVec 32) : Prop :=
  (∀ (k0_h2 : k0_cond2 i v0 v6 = 1#1), ∀ (k0_h3 : k0_cond3 v44 = 1#1), ∀ a, (k0_off7 v49) a + S1x1x4096x512.size a ≤ S2x32x4096x512.size a)
theorem k0_off7_inb : ∀ (i : grid0.Coords) (v0 : BitVec 32) (v6 : BitVec 32) (v44 : BitVec 32) (v49 : BitVec 32) (k0_hw4 : k0_chk4 i v0 v6 v44 v49), ∀ (k0_h2 : k0_cond2 i v0 v6 = 1#1), ∀ (k0_h3 : k0_cond3 v44 = 1#1), ∀ a, (k0_off7 v49) a + S1x1x4096x512.size a ≤ S2x32x4096x512.size a := fun i v0 v6 v44 v49 k0_hw4 k0_h2 k0_h3 => k0_hw4 k0_h2 k0_h3

def k0_off8 (i : grid0.Coords) : Fin 1 → Nat :=
  let arg0 : BitVec 32 := BitVec.ofNat 32 (i 0).val
  let v54 : Index := Scalar.indexCast arg0
  ![v54.toNat]
def k0_off9 (v55 : BitVec 32) : Fin 4 → Nat :=
  let c0_i32_36 : BitVec 32 := 0#32
  let c0_i32_38 : BitVec 32 := 0#32
  let c0_i32_39 : BitVec 32 := 0#32
  ![0, v55.toNat, 0, 0]

def k0_chk5 (i : grid0.Coords) (v0 : BitVec 32) (v6 : BitVec 32) (v44 : BitVec 32) (v55 : BitVec 32) : Prop :=
  (∀ (k0_h2 : k0_cond2 i v0 v6 = 1#1), ∀ (k0_h3 : k0_cond3 v44 = 1#1), ∀ a, (k0_off9 v55) a + S1x1x4096x512.size a ≤ S2x32x4096x512.size a)
theorem k0_off9_inb : ∀ (i : grid0.Coords) (v0 : BitVec 32) (v6 : BitVec 32) (v44 : BitVec 32) (v55 : BitVec 32) (k0_hw5 : k0_chk5 i v0 v6 v44 v55), ∀ (k0_h2 : k0_cond2 i v0 v6 = 1#1), ∀ (k0_h3 : k0_cond3 v44 = 1#1), ∀ a, (k0_off9 v55) a + S1x1x4096x512.size a ≤ S2x32x4096x512.size a := fun i v0 v6 v44 v55 k0_hw5 k0_h2 k0_h3 => k0_hw5 k0_h2 k0_h3

def k0_off10 (i : grid0.Coords) : Fin 1 → Nat :=
  let arg0 : BitVec 32 := BitVec.ofNat 32 (i 0).val
  let v60 : Index := Scalar.indexCast arg0
  ![v60.toNat]
def k0_off11 (v61 : BitVec 32) : Fin 4 → Nat :=
  let c0_i32_40 : BitVec 32 := 0#32
  let c0_i32_42 : BitVec 32 := 0#32
  let c0_i32_43 : BitVec 32 := 0#32
  ![0, v61.toNat, 0, 0]

def k0_chk6 (i : grid0.Coords) (v0 : BitVec 32) (v6 : BitVec 32) (v44 : BitVec 32) (v61 : BitVec 32) : Prop :=
  (∀ (k0_h2 : k0_cond2 i v0 v6 = 1#1), ∀ (k0_h3 : k0_cond3 v44 = 1#1), ∀ a, (k0_off11 v61) a + S1x1x512x4096.size a ≤ S2x32x512x4096.size a)
theorem k0_off11_inb : ∀ (i : grid0.Coords) (v0 : BitVec 32) (v6 : BitVec 32) (v44 : BitVec 32) (v61 : BitVec 32) (k0_hw6 : k0_chk6 i v0 v6 v44 v61), ∀ (k0_h2 : k0_cond2 i v0 v6 = 1#1), ∀ (k0_h3 : k0_cond3 v44 = 1#1), ∀ a, (k0_off11 v61) a + S1x1x512x4096.size a ≤ S2x32x512x4096.size a := fun i v0 v6 v44 v61 k0_hw6 k0_h2 k0_h3 => k0_hw6 k0_h2 k0_h3

def k0_cond4 (i : grid0.Coords) (v0 : BitVec 32) : BitVec 1 :=
  let arg0 : BitVec 32 := BitVec.ofNat 32 (i 0).val
  let v1 : BitVec 1 := Scalar.cmpi .slt arg0 v0
  let v11 : BitVec 32 := Scalar.extui v1
  let c0_i32_2 : BitVec 32 := 0#32
  let v12 : BitVec 1 := Scalar.cmpi .ne v11 c0_i32_2
  v12

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v13 : BitVec 1 := Scalar.xori v1 v_true
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S40960x4096 : Shape := ⟨2, ![40960, 4096]⟩
abbrev S160 : Shape := ⟨1, ![160]⟩
abbrev S1 : Shape := ⟨1, ![1]⟩
abbrev S2x32x4096x512 : Shape := ⟨4, ![2, 32, 4096, 512]⟩
abbrev S2x32x512x4096 : Shape := ⟨4, ![2, 32, 512, 4096]⟩
abbrev S160x256x4096 : Shape := ⟨3, ![160, 256, 4096]⟩
abbrev S1x32x4096x512 : Shape := ⟨4, ![1, 32, 4096, 512]⟩
abbrev S32x4096x512 : Shape := ⟨3, ![32, 4096, 512]⟩
abbrev S160x1 : Shape := ⟨2, ![160, 1]⟩
abbrev S160x4096x512 : Shape := ⟨3, ![160, 4096, 512]⟩
abbrev S160x256x512 : Shape := ⟨3, ![160, 256, 512]⟩
abbrev S_ : Shape := ⟨0, ![]⟩
abbrev S1x32x512x4096 : Shape := ⟨4, ![1, 32, 512, 4096]⟩
abbrev S32x512x4096 : Shape := ⟨3, ![32, 512, 4096]⟩
abbrev S160x512x4096 : Shape := ⟨3, ![160, 512, 4096]⟩
abbrev S160x1x1 : Shape := ⟨3, ![160, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S40960x4096, .bf16⟩
  | .hbm, ⟨1, _⟩ => ⟨S160, .i32⟩
  | .hbm, ⟨2, _⟩ => ⟨S160, .i32⟩
  | .hbm, ⟨3, _⟩ => ⟨S160, .i32⟩
  | .hbm, ⟨4, _⟩ => ⟨S1, .i32⟩
  | .hbm, ⟨5, _⟩ => ⟨S2x32x4096x512, .f32⟩
  | .hbm, ⟨6, _⟩ => ⟨S2x32x4096x512, .f32⟩
  | .hbm, ⟨7, _⟩ => ⟨S2x32x512x4096, .f32⟩
  | .hbm, ⟨8, _⟩ => ⟨S40960x4096, .f32⟩
  | .hbm, ⟨9, _⟩ => ⟨S160x256x4096, .f32⟩
  | .hbm, ⟨10, _⟩ => ⟨S1x32x4096x512, .f32⟩
  | .hbm, ⟨11, _⟩ => ⟨S32x4096x512, .f32⟩
  | .hbm, ⟨12, _⟩ => ⟨S160x1, .i32⟩
  | .hbm, ⟨13, _⟩ => ⟨S160x4096x512, .f32⟩
  | .hbm, ⟨14, _⟩ => ⟨S160x256x512, .f32⟩
  | .hbm, ⟨15, _⟩ => ⟨S160x256x512, .f32⟩
  | .hbm, ⟨16, _⟩ => ⟨S160x256x512, .f32⟩
  | .hbm, ⟨17, _⟩ => ⟨S_, .f32⟩
  | .hbm, ⟨18, _⟩ => ⟨S160x256x512, .f32⟩
  | .hbm, ⟨19, _⟩ => ⟨S160x256x512, .f32⟩
  | .hbm, ⟨20, _⟩ => ⟨S_, .f32⟩
  | .hbm, ⟨21, _⟩ => ⟨S160x256x512, .f32⟩
  | .hbm, ⟨22, _⟩ => ⟨S160x256x512, .f32⟩
  | .hbm, ⟨23, _⟩ => ⟨S160x256x512, .f32⟩
  | .hbm, ⟨24, _⟩ => ⟨S1x32x4096x512, .f32⟩
  | .hbm, ⟨25, _⟩ => ⟨S32x4096x512, .f32⟩
  | .hbm, ⟨26, _⟩ => ⟨S160x1, .i32⟩
  | .hbm, ⟨27, _⟩ => ⟨S160x4096x512, .f32⟩
  | .hbm, ⟨28, _⟩ => ⟨S160x256x512, .f32⟩
  | .hbm, ⟨29, _⟩ => ⟨S160x256x512, .f32⟩
  | .hbm, ⟨30, _⟩ => ⟨S1x32x512x4096, .f32⟩
  | .hbm, ⟨31, _⟩ => ⟨S32x512x4096, .f32⟩
  | .hbm, ⟨32, _⟩ => ⟨S160x1, .i32⟩
  | .hbm, ⟨33, _⟩ => ⟨S160x512x4096, .f32⟩
  | .hbm, ⟨34, _⟩ => ⟨S160x256x4096, .f32⟩
  | .hbm, ⟨35, _⟩ => ⟨S160, .i32⟩
  | .hbm, ⟨36, _⟩ => ⟨S160x1x1, .i32⟩
  | .hbm, ⟨37, _⟩ => ⟨S_, .i32⟩
  | .hbm, ⟨38, _⟩ => ⟨S160x1x1, .i32⟩
  | .hbm, ⟨39, _⟩ => ⟨S160x1x1, .i1⟩
  | .hbm, ⟨40, _⟩ => ⟨S_, .f32⟩
  | .hbm, ⟨41, _⟩ => ⟨S_, .f32⟩
  | .hbm, ⟨42, _⟩ => ⟨S160x256x4096, .i1⟩
  | .hbm, ⟨43, _⟩ => ⟨S160x256x4096, .f32⟩
  | .hbm, ⟨44, _⟩ => ⟨S160x256x4096, .f32⟩
  | .hbm, ⟨45, _⟩ => ⟨S40960x4096, .f32⟩
  | .hbm, ⟨46, _⟩ => ⟨S40960x4096, .bf16⟩
  | _, _ => ⟨S40960x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call2_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call3_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Proof.AttnBlock.lean ====
/- The attention kernel's block: what one grid point leaves in its output block and in its bias table, as a term
   over the point's input blocks. Sixteen query parts of 128 rows share one definition (`part`). -/
module

public import proofs.«01_k».proof.Proof.Gen.KernelIdeal.Value
public import Idealize.ShloMosaic.Lib.Pipeline.Value
public import Idealize.ShloMosaic.Lib.Pointwise

@[expose] public section

set_option maxRecDepth 65536

noncomputable section

namespace Cert.Attn

open Cert.KernelIdeal Cert.KernelIdeal.Gen Idealize.ShloMosaic Idealize.ShloMosaic.TcCoe Idealize.SL.Sem
open Cert.KernelIdeal.Facts

variable {F : FTy → Type} [FloatOps F] [Named F]

/-- The scores of one query part: queries against 640 keys, the bias table added, and the keys before the sequence's
    start masked (only in the first block, whose flag is `v0`). -/
def partScores (v0 : BitVec 1) (s : BitVec 32) (q : FVec F S128x128 .bf16) (k : FVec F S640x128 .bf16)
    (T : FVec F S128x640 .f32) : FVec F S128x640 .f32 :=
  select (andi (broadcast S128x640 v0) (cmpi .slt (addi (broadcast S128x640 s) (iota .tc S128x640 32 [1] iota_S128x640_d1_w32))
      (broadcast S128x640 512#32)))
    (broadcast S128x640 (Named.named κ "mask" 0xF149F2CA#32))
    (addf (matmul dot_S128x128_S640x128_S128x640_1_1_0_0_n_n none q k (constant S128x640 .f32 0x00000000#32)) T)

/-- The unnormalised weights of a score block: exponentials of the distances to each row's maximum. -/
def partWeights (S : FVec F S128x640 .f32) : FVec F S128x640 .f32 :=
  exp (subf S (broadcastTo S128x640 (shapeCast S128x1 (multiReduction .maximumf [1] S128 S 0xFF800000#32
    reduces_S128x640_S128 (.inl rfl) rfl) shapeCasts_S128_S128x1) broadcasts_S128x1_S128x640))

/-- One query part's output: the weighted values over the weights' sum. -/
def partOut (P : FVec F S128x640 .f32) (v : FVec F S640x128 .bf16) : FVec F S128x128 .f32 :=
  divf (matmul dot_S128x640_S640x128_S128x128_1_0_0_1_n_n none (truncf .bf16 P bitsLt_bf16_f32) v
      (constant S128x128 .f32 0x00000000#32))
    (broadcastTo S128x128 (shapeCast S128x1 (multiReduction .add [1] S128 P 0x00000000#32
      reduces_S128x640_S128 (.inl rfl) rfl) shapeCasts_S128_S128x1) broadcasts_S128x1_S128x128)

/-- One query part: scores, weights, weighted values. -/
def part (v0 : BitVec 1) (s : BitVec 32) (q : FVec F S128x128 .bf16) (k v : FVec F S640x128 .bf16)
    (T : FVec F S128x640 .f32) : FVec F S128x128 .f32 :=
  partOut (partWeights (partScores v0 s q k T)) v

/-- The block's sixteen parts, over the normalised queries and keys, the values and the bias table. -/
def parts (v0 : BitVec 1) (Q : FVec F S2048x128 .bf16) (K V : FVec F S2560x128 .bf16) (T : FVec F S128x640 .f32) :
    Fin 16 → FVec F S128x128 .f32 := ![
  part v0 0#32 (extractStridedSlice S128x128 ![0, 0] Q slices_S2048x128_o0_0_S128x128)
    (extractStridedSlice S640x128 ![0, 0] K slices_S2560x128_o0_0_S640x128)
    (extractStridedSlice S640x128 ![0, 0] V slices_S2560x128_o0_0_S640x128) T,
  part v0 128#32 (extractStridedSlice S128x128 ![128, 0] Q slices_S2048x128_o128_0_S128x128)
    (extractStridedSlice S640x128 ![128, 0] K slices_S2560x128_o128_0_S640x128)
    (extractStridedSlice S640x128 ![128, 0] V slices_S2560x128_o128_0_S640x128) T,
  part v0 256#32 (extractStridedSlice S128x128 ![256, 0] Q slices_S2048x128_o256_0_S128x128)
    (extractStridedSlice S640x128 ![256, 0] K slices_S2560x128_o256_0_S640x128)
    (extractStridedSlice S640x128 ![256, 0] V slices_S2560x128_o256_0_S640x128) T,
  part v0 384#32 (extractStridedSlice S128x128 ![384, 0] Q slices_S2048x128_o384_0_S128x128)
    (extractStridedSlice S640x128 ![384, 0] K slices_S2560x128_o384_0_S640x128)
    (extractStridedSlice S640x128 ![384, 0] V slices_S2560x128_o384_0_S640x128) T,
  part v0 512#32 (extractStridedSlice S128x128 ![512, 0] Q slices_S2048x128_o512_0_S128x128)
    (extractStridedSlice S640x128 ![512, 0] K slices_S2560x128_o512_0_S640x128)
    (extractStridedSlice S640x128 ![512, 0] V slices_S2560x128_o512_0_S640x128) T,
  part v0 640#32 (extractStridedSlice S128x128 ![640, 0] Q slices_S2048x128_o640_0_S128x128)
    (extractStridedSlice S640x128 ![640, 0] K slices_S2560x128_o640_0_S640x128)
    (extractStridedSlice S640x128 ![640, 0] V slices_S2560x128_o640_0_S640x128) T,
  part v0 768#32 (extractStridedSlice S128x128 ![768, 0] Q slices_S2048x128_o768_0_S128x128)
    (extractStridedSlice S640x128 ![768, 0] K slices_S2560x128_o768_0_S640x128)
    (extractStridedSlice S640x128 ![768, 0] V slices_S2560x128_o768_0_S640x128) T,
  part v0 896#32 (extractStridedSlice S128x128 ![896, 0] Q slices_S2048x128_o896_0_S128x128)
    (extractStridedSlice S640x128 ![896, 0] K slices_S2560x128_o896_0_S640x128)
    (extractStridedSlice S640x128 ![896, 0] V slices_S2560x128_o896_0_S640x128) T,
  part v0 1024#32 (extractStridedSlice S128x128 ![1024, 0] Q slices_S2048x128_o1024_0_S128x128)
    (extractStridedSlice S640x128 ![1024, 0] K slices_S2560x128_o1024_0_S640x128)
    (extractStridedSlice S640x128 ![1024, 0] V slices_S2560x128_o1024_0_S640x128) T,
  part v0 1152#32 (extractStridedSlice S128x128 ![1152, 0] Q slices_S2048x128_o1152_0_S128x128)
    (extractStridedSlice S640x128 ![1152, 0] K slices_S2560x128_o1152_0_S640x128)
    (extractStridedSlice S640x128 ![1152, 0] V slices_S2560x128_o1152_0_S640x128) T,
  part v0 1280#32 (extractStridedSlice S128x128 ![1280, 0] Q slices_S2048x128_o1280_0_S128x128)
    (extractStridedSlice S640x128 ![1280, 0] K slices_S2560x128_o1280_0_S640x128)
    (extractStridedSlice S640x128 ![1280, 0] V slices_S2560x128_o1280_0_S640x128) T,
  part v0 1408#32 (extractStridedSlice S128x128 ![1408, 0] Q slices_S2048x128_o1408_0_S128x128)
    (extractStridedSlice S640x128 ![1408, 0] K slices_S2560x128_o1408_0_S640x128)
    (extractStridedSlice S640x128 ![1408, 0] V slices_S2560x128_o1408_0_S640x128) T,
  part v0 1536#32 (extractStridedSlice S128x128 ![1536, 0] Q slices_S2048x128_o1536_0_S128x128)
    (extractStridedSlice S640x128 ![1536, 0] K slices_S2560x128_o1536_0_S640x128)
    (extractStridedSlice S640x128 ![1536, 0] V slices_S2560x128_o1536_0_S640x128) T,
  part v0 1664#32 (extractStridedSlice S128x128 ![1664, 0] Q slices_S2048x128_o1664_0_S128x128)
    (extractStridedSlice S640x128 ![1664, 0] K slices_S2560x128_o1664_0_S640x128)
    (extractStridedSlice S640x128 ![1664, 0] V slices_S2560x128_o1664_0_S640x128) T,
  part v0 1792#32 (extractStridedSlice S128x128 ![1792, 0] Q slices_S2048x128_o1792_0_S128x128)
    (extractStridedSlice S640x128 ![1792, 0] K slices_S2560x128_o1792_0_S640x128)
    (extractStridedSlice S640x128 ![1792, 0] V slices_S2560x128_o1792_0_S640x128) T,
  part v0 1920#32 (extractStridedSlice S128x128 ![1920, 0] Q slices_S2048x128_o1920_0_S128x128)
    (extractStridedSlice S640x128 ![1920, 0] K slices_S2560x128_o1920_0_S640x128)
    (extractStridedSlice S640x128 ![1920, 0] V slices_S2560x128_o1920_0_S640x128) T]

/-- The output block: the parts one below another. -/
def outBlock (v0 : BitVec 1) (Q : FVec F S2048x128 .bf16) (K V : FVec F S2560x128 .bf16) (T : FVec F S128x640 .f32) :
    FVec F S2048x128 .bf16 :=
  truncf .bf16 (concatenate S2048x128 0 (List.ofFn fun p : Fin 16 => ⟨S128x128, parts v0 Q K V T p⟩)
    concatenates_S128x128_S128x128_S128x128_S128x128_S128x128_S128x128_S128x128_S128x128_S128x128_S128x128_S128x128_S128x128_S128x128_S128x128_S128x128_S128x128_S2048x128_d0) bitsLt_bf16_f32

/-- The normalised keys of a block: the last 512 rows before it and its own 2048. -/
def keys (kp : Vec F S1x512x128 .bf16) (kc : Vec F S1x2048x128 .bf16) (g : Vec F S1x128 .f32) : FVec F S2560x128 .bf16 :=
  k0_pay8 (k0_pay4 g) (k0_pay5 kp kc) (k0_pay6 kp kc) k0_pay7

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Whether the grid point is a sequence's first block. -/
def first (i : grid0.Coords) : BitVec 1 := Scalar.cmpi .eq (BitVec.ofNat 32 (i 2).val) 0#32

/-- A later block: the table is the one the point before left. -/
theorem out_B (c : Dev nD) (i : grid0.Coords) (arg3 : Memref sig .tc .vmem S1x2048x128 .bf16) (harg3 : arg3.IsWhole) (arg4 : Memref sig .tc .vmem S1x512x128 .bf16) (harg4 : arg4.IsWhole) (arg5 : Memref sig .tc .vmem S1x2048x128 .bf16) (harg5 : arg5.IsWhole) (arg6 : Memref sig .tc .vmem S1x512x128 .bf16) (harg6 : arg6.IsWhole) (arg7 : Memref sig .tc .vmem S1x2048x128 .bf16) (harg7 : arg7.IsWhole) (arg8 : Memref sig .tc .vmem S1x1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S128x640 .f32) (harg12 : arg12.IsWhole) (hc : ¬cond0_0 i)
    (x0 : Vec F S1x2048x128 .bf16) (x1 : Vec F S1x512x128 .bf16) (x2 : Vec F S1x2048x128 .bf16) (x3 : Vec F S1x512x128 .bf16) (x4 : Vec F S1x2048x128 .bf16) (x5 : Vec F S1x1x1024 .f32) (x6 x7 : Vec F S1x128 .f32) (xs0 : Vec F S128x640 .f32) :
    out0_B_8 c i arg3 harg3 arg4 harg4 arg5 harg5 arg6 harg6 arg7 harg7 arg8 harg8 arg9 harg9 arg10 harg10 arg11 harg11 arg12 harg12 hc x0 x1 x2 x3 x4 x5 x6 x7 xs0
      = shapeCast S1x2048x128 (outBlock (first i) (k0_pay3 x0 x6) (keys x1 x2 x7) (k0_pay9 x3 x4) xs0) shapeCasts_S2048x128_S1x2048x128 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc x0 x1 x2 x3 x4 x5 x6 x7 xs0)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S1x2048x128) hz3,
    View.ld_unit_zero (S := S1x512x128) hz3, View.ld_unit_zero (S := S1x1x1024) hz3, View.ld_unit_zero (S := S1x128) hz2,
    View.ld_unit_zero (S := S128x640) hz2, harg12.read_unread]
  rfl

/-- A first block: the table is built at the point. -/
theorem out_A (c : Dev nD) (i : grid0.Coords) (arg3 : Memref sig .tc .vmem S1x2048x128 .bf16) (harg3 : arg3.IsWhole) (arg4 : Memref sig .tc .vmem S1x512x128 .bf16) (harg4 : arg4.IsWhole) (arg5 : Memref sig .tc .vmem S1x2048x128 .bf16) (harg5 : arg5.IsWhole) (arg6 : Memref sig .tc .vmem S1x512x128 .bf16) (harg6 : arg6.IsWhole) (arg7 : Memref sig .tc .vmem S1x2048x128 .bf16) (harg7 : arg7.IsWhole) (arg8 : Memref sig .tc .vmem S1x1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S128x640 .f32) (harg12 : arg12.IsWhole) (hc : cond0_0 i)
    (x0 : Vec F S1x2048x128 .bf16) (x1 : Vec F S1x512x128 .bf16) (x2 : Vec F S1x2048x128 .bf16) (x3 : Vec F S1x512x128 .bf16) (x4 : Vec F S1x2048x128 .bf16) (x5 : Vec F S1x1x1024 .f32) (x6 x7 : Vec F S1x128 .f32) :
    out0_A_8 c i arg3 harg3 arg4 harg4 arg5 harg5 arg6 harg6 arg7 harg7 arg8 harg8 arg9 harg9 arg10 harg10 arg11 harg11 arg12 harg12 hc x0 x1 x2 x3 x4 x5 x6 x7
      = shapeCast S1x2048x128 (outBlock (first i) (k0_pay3 x0 x6) (keys x1 x2 x7) (k0_pay9 x3 x4) (k0_pay2 x5)) shapeCasts_S2048x128_S1x2048x128 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc x0 x1 x2 x3 x4 x5 x6 x7)]
  unfold kernelRun0_A
  dsimp only
  sl_unfold_words
  rw [View.canon_unit_zero hz3]
  simp only [View.readCov_unit_zero (S := S128x640) _ hz2]
  simp only [View.readAt_eq_ld, harg3.read_unread, harg4.read_unread, harg5.read_unread, harg6.read_unread, harg7.read_unread, harg8.read_unread, harg9.read_unread, harg10.read_unread, View.ld_unit_zero (S := S1x2048x128) hz3,
    View.ld_unit_zero (S := S1x512x128) hz3, View.ld_unit_zero (S := S1x1x1024) hz3, View.ld_unit_zero (S := S1x128) hz2,
    View.ld_unit_zero (S := S128x640) hz2]
  rfl

/-- A first block leaves the table it built. -/
theorem sout_A (c : Dev nD) (i : grid0.Coords) (arg3 : Memref sig .tc .vmem S1x2048x128 .bf16) (harg3 : arg3.IsWhole) (arg4 : Memref sig .tc .vmem S1x512x128 .bf16) (harg4 : arg4.IsWhole) (arg5 : Memref sig .tc .vmem S1x2048x128 .bf16) (harg5 : arg5.IsWhole) (arg6 : Memref sig .tc .vmem S1x512x128 .bf16) (harg6 : arg6.IsWhole) (arg7 : Memref sig .tc .vmem S1x2048x128 .bf16) (harg7 : arg7.IsWhole) (arg8 : Memref sig .tc .vmem S1x1x1024 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S128x640 .f32) (harg12 : arg12.IsWhole) (hc : cond0_0 i)
    (x0 : Vec F S1x2048x128 .bf16) (x1 : Vec F S1x512x128 .bf16) (x2 : Vec F S1x2048x128 .bf16) (x3 : Vec F S1x512x128 .bf16) (x4 : Vec F S1x2048x128 .bf16) (x5 : Vec F S1x1x1024 .f32) (x6 x7 : Vec F S1x128 .f32) :
    sout0_A_0 c i arg3 harg3 arg4 harg4 arg5 harg5 arg6 harg6 arg7 harg7 arg8 harg8 arg9 harg9 arg10 harg10 arg11 harg11 arg12 harg12 hc x0 x1 x2 x3 x4 x5 x6 x7 = k0_pay2 x5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc x0 x1 x2 x3 x4 x5 x6 x7)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1x2048x128) hz3,
    View.ld_unit_zero (S := S1x512x128) hz3, View.ld_unit_zero (S := S1x1x1024) hz3, View.ld_unit_zero (S := S1x128) hz2,
    View.ld_unit_zero (S := S128x640) hz2]

end Cert.Attn

end
-- ==== Proof.AttnMath.lean ====
/- Real-number facts behind banded attention: a softmax over 640 keys of which all but 576 are masked is the softmax over
   those 576, and a normalised vector is finite whatever the vector. -/
module

public import Idealize.ShloMosaic.PureOps.Ideal.Laws
public import Idealize.ShloMosaic.Lib.Pointwise

@[expose] public section

noncomputable section

namespace Cert.Attn

open Idealize.ShloMosaic

/-- An extended real that is a real number. -/
def IsReal (x : EReal) : Prop := ∃ r : ℝ, x = (r : EReal)

theorem IsReal.mk {x : EReal} (hb : x ≠ ⊥) (ht : x ≠ ⊤) : IsReal x := ⟨x.toReal, (EReal.coe_toReal ht hb).symm⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type*} (s : Finset ι) {x : ι → EReal} (h : ∀ i ∈ s, IsReal (x i)) : IsReal (∑ i ∈ s, x i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem sum_mul_of_nonneg {ι : Type*} (s : Finset ι) (x : ι → EReal) {k : EReal} (h0 : 0 ≤ k) (ht : k ≠ ⊤) :
    (∑ i ∈ s, x i) * k = ∑ i ∈ s, x i * k := by
  classical
  induction s using Finset.induction_on with
  | empty => simp
  | insert a s ha ih =>
    rw [Finset.sum_insert ha, Finset.sum_insert ha, EReal.right_distrib_of_nonneg_of_ne_top h0 ht, ih]

theorem coe_sum {ι : Type*} (s : Finset ι) (x : ι → ℝ) : ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- A fold of `max` from minus infinity is the supremum. -/
theorem fold_max_eq_sup {ι : Type*} (s : Finset ι) (x : ι → EReal) : s.fold max ⊥ x = s.sup x := rfl

/-- The masked softmax: over 640 scores that are minus infinity off the image of `f`, the weighted values divided by the
    weights' sum are the values weighted by the normalised weights over the image. -/
theorem softmax_eq {ι κ : Type*} [Fintype ι] [Fintype κ] (f : ι → κ) (hf : Function.Injective f) (S V : κ → EReal)
    (s V' : ι → EReal) (hs : ∀ j, s j = S (f j)) (hoff : ∀ c, (∀ j, f j ≠ c) → S c = ⊥)
    (hV : ∀ j, s j ≠ ⊥ → V' j = V (f j)) (htop : ∀ c, S c ≠ ⊤) (hex : ∃ c, S c ≠ ⊥) :
    Ideal.div (∑ c, Ideal.exp (S c - Finset.univ.sup S) * V c) (∑ c, Ideal.exp (S c - Finset.univ.sup S))
      = ∑ j, V' j * Ideal.div (Ideal.exp (s j - Finset.univ.sup s)) (∑ j, Ideal.exp (s j - Finset.univ.sup s)) := by
  classical
  have hM : Finset.univ.sup s = Finset.univ.sup S := by
    apply le_antisymm
    · exact Finset.sup_le fun j _ => by rw [hs j]; exact Finset.le_sup (f := S) (Finset.mem_univ (f j))
    · refine Finset.sup_le fun c _ => ?_
      by_cases h : ∃ j, f j = c
      · obtain ⟨j, rfl⟩ := h; rw [← hs j]; exact Finset.le_sup (f := s) (Finset.mem_univ j)
      · rw [hoff c fun j hj => h ⟨j, hj⟩]; exact bot_le
  rw [hM]
  obtain ⟨c1, hc1⟩ := hex
  obtain ⟨c0, -, hc0⟩ := Finset.exists_mem_eq_sup (Finset.univ : Finset κ) ⟨c1, Finset.mem_univ c1⟩ S
  have hMb : Finset.univ.sup S ≠ ⊥ := fun h => hc1 (le_bot_iff.mp (h ▸ Finset.le_sup (f := S) (Finset.mem_univ c1)))
  obtain ⟨M, hMr⟩ : IsReal (Finset.univ.sup S) := IsReal.mk hMb (hc0 ▸ htop c0)
  rw [hMr] at hc0 ⊢
  have hw : ∀ c, ∃ w : ℝ, 0 ≤ w ∧ Ideal.exp (S c - (M : EReal)) = (w : EReal) ∧ (S c = ⊥ → w = 0) ∧ (S c ≠ ⊥ → 0 < w) := by
    intro c
    by_cases hb : S c = ⊥
    · exact ⟨0, le_rfl, by rw [hb, EReal.bot_sub]; simp, fun _ => rfl, fun h => absurd hb h⟩
    · obtain ⟨r, hr⟩ := IsReal.mk hb (htop c)
      exact ⟨Real.exp (r - M), (Real.exp_pos _).le, by rw [hr, ← EReal.coe_sub, Ideal.exp_coe], fun h => absurd h hb,
        fun _ => Real.exp_pos _⟩
  choose w hw0 hwe hwb hwp using hw
  simp only [hs, hwe]
  have hDs : ∑ j, ((w (f j) : ℝ) : EReal) = ∑ c, ((w c : ℝ) : EReal) :=
    Finset.sum_of_injOn f hf.injOn (fun _ _ => Finset.mem_coe.mpr (Finset.mem_univ _))
      (fun c _ hc => by rw [hwb c (hoff c fun j hj => hc ⟨j, Finset.mem_coe.mpr (Finset.mem_univ j), hj⟩)]; simp) fun _ _ => rfl
  have hpos : 0 < ∑ c, w c :=
    Finset.sum_pos' (fun c _ => hw0 c) ⟨c1, Finset.mem_univ c1, hwp c1 hc1⟩
  rw [hDs, ← coe_sum]
  simp only [Ideal.div_coe hpos.ne']
  have hk0 : (0 : EReal) ≤ ((1 / ∑ c, w c : ℝ) : EReal) := EReal.coe_nonneg.mpr (by positivity)
  rw [sum_mul_of_nonneg _ _ hk0 (EReal.coe_ne_top _)]
  symm
  refine Finset.sum_of_injOn f hf.injOn (fun _ _ => Finset.mem_coe.mpr (Finset.mem_univ _)) (fun c _ hc => ?_) fun j _ => ?_
  · rw [hwb c (hoff c fun j hj => hc ⟨j, Finset.mem_coe.mpr (Finset.mem_univ j), hj⟩)]; simp
  · by_cases hb : S (f j) = ⊥
    · rw [hwb _ hb]; simp
    · rw [hV j (by rw [hs j]; exact hb), mul_comm, mul_assoc, mul_assoc, mul_comm (V (f j))]

theorem ofBits_128 : Ideal.ofBits .f32 0x43000000#32 = ((128 : ℝ) : EReal) := by
  simp [Ideal.ofBits, Ideal.ieee]; rw [← EReal.coe_mul]; norm_num

theorem ofBits_eps : ∃ e : ℝ, 0 < e ∧ Ideal.ofBits .f32 0x358637BD#32 = (e : EReal) := by
  refine ⟨_, ?_, by simp [Ideal.ofBits, Ideal.ieee]; rfl⟩
  norm_num

theorem ofBits_scale : IsReal (Ideal.ofBits .f32 0x3DB504F3#32) := by
  refine ⟨_, by simp [Ideal.ofBits, Ideal.ieee]; rfl⟩

theorem ofBits_negInf : Ideal.ofBits .f32 0xFF800000#32 = ⊥ := by
  simp [Ideal.ofBits, Ideal.ieee]

/-- A root-mean-square-normalised entry is a real number: a vector with an infinite entry is scaled by zero. -/
theorem isReal_rms {n : Nat} (x : Fin n → EReal) (d : Fin n) :
    IsReal (x d * Ideal.rsqrt (Ideal.div (∑ k, x k * x k) (Ideal.ofBits .f32 0x43000000#32) + Ideal.ofBits .f32 0x358637BD#32)) := by
  obtain ⟨e, he, hee⟩ := ofBits_eps
  rw [ofBits_128, hee, Ideal.div_coe (by norm_num : (128 : ℝ) ≠ 0)]
  by_cases h : ∀ k, IsReal (x k)
  · choose r hr using h
    simp only [hr, ← EReal.coe_mul, ← coe_sum, ← EReal.coe_add, Ideal.rsqrt_coe]
    have hp : 0 < (∑ k, r k * r k) * (1 / 128) + e :=
      add_pos_of_nonneg_of_pos (mul_nonneg (Finset.sum_nonneg fun k _ => mul_self_nonneg _) (by norm_num)) he
    rw [if_neg (not_lt.mpr hp.le), if_neg hp.ne']
    exact ⟨_, (EReal.coe_mul _ _).symm⟩
  · push Not at h
    obtain ⟨k, hk⟩ := h
    have hkk : x k * x k = ⊤ := by
      have h3 : x k = ⊥ ∨ x k = ⊤ := by
        by_contra hc; push Not at hc; exact hk (IsReal.mk hc.1 hc.2)
      rcases h3 with h3 | h3 <;> rw [h3] <;> simp
    have hnn : ∀ y : EReal, 0 ≤ y * y := fun y => by
      induction y using EReal.rec with
      | bot => simp
      | top => simp
      | coe r => rw [← EReal.coe_mul]; exact EReal.coe_nonneg.mpr (mul_self_nonneg r)
    have hsum : ∑ k, x k * x k = ⊤ :=
      top_le_iff.mp (hkk ▸ Finset.single_le_sum (f := fun k => x k * x k) (fun i _ => hnn (x i)) (Finset.mem_univ k))
    rw [hsum, EReal.top_mul_coe_of_pos (by norm_num), EReal.top_add_coe, Ideal.rsqrt_top, mul_zero]
    exact ⟨0, by simp⟩

end Cert.Attn

end
-- ==== Proof.AttnSpec.lean ====
/- Banded attention written plainly: the query at position `t` looks at the 576 positions from eight chunks of 64 before
   its own chunk to that chunk's end, with a clipped relative-position bias; positions before the start are masked. -/
module

public import proofs.«01_k».proof.Proof.AttnMath

@[expose] public section

noncomputable section

namespace Cert.Attn

open Idealize.ShloMosaic

/-- The layer's projected activations: queries, keys and values are column ranges of it. -/
abbrev Proj := (⟨3, ![2, 8192, 18432]⟩ : Shape).Idx → EReal
/-- A normalisation's gain. -/
abbrev Gain := (⟨1, ![128]⟩ : Shape).Idx → EReal
/-- The relative-position bias of each head. -/
abbrev Bias := (⟨2, ![8, 257]⟩ : Shape).Idx → EReal

/-- Entry `d` of head `h` at position `t`, in the column range that starts at `o`. -/
def headAt (x0 : Proj) (o : Nat) (ho : o + 1024 ≤ 18432) (b : Fin 2) (t : Fin 8192) (h : Fin 8) (d : Fin 128) : EReal :=
  x0 (ix3 b t ⟨o + 128 * h.val + d.val, by omega⟩)

/-- Root-mean-square normalisation with a gain. -/
def rmsn (x g : Fin 128 → EReal) (d : Fin 128) : EReal :=
  x d * Ideal.rsqrt (Ideal.div (∑ k, x k * x k) (Ideal.ofBits .f32 0x43000000#32) + Ideal.ofBits .f32 0x358637BD#32) * g d

def qn (x0 : Proj) (x1 : Gain) (b : Fin 2) (t : Fin 8192) (h : Fin 8) (d : Fin 128) : EReal :=
  rmsn (headAt x0 2048 (by decide) b t h) (fun d => x1 (ix1 d)) d * Ideal.ofBits .f32 0x3DB504F3#32

def kn (x0 : Proj) (x2 : Gain) (b : Fin 2) (t : Fin 8192) (h : Fin 8) (d : Fin 128) : EReal :=
  rmsn (headAt x0 3072 (by decide) b t h) (fun d => x2 (ix1 d)) d

def vn (x0 : Proj) (b : Fin 2) (t : Fin 8192) (h : Fin 8) (d : Fin 128) : EReal := headAt x0 4096 (by decide) b t h d

/-- The position of the band's key `j` for the query at `t`, once it is not before the start. -/
def keyPos (t : Fin 8192) (j : Fin 576) : Fin 8192 := ⟨64 * (t.val / 64) + j.val - 512, by omega⟩

/-- The bias table's entry for the query at `t` and the band's key `j`. -/
def biasIdx (t : Fin 8192) (j : Fin 576) : Fin 257 := ⟨min (640 + t.val % 64 - j.val) 256, by omega⟩

def score (x0 : Proj) (x1 x2 : Gain) (x3 : Bias) (b : Fin 2) (t : Fin 8192) (h : Fin 8) (j : Fin 576) : EReal :=
  if 512 ≤ 64 * (t.val / 64) + j.val then
    (∑ d, qn x0 x1 b t h d * kn x0 x2 b (keyPos t j) h d) + x3 (ix2 h (biasIdx t j))
  else ⊥

def vband (x0 : Proj) (b : Fin 2) (t : Fin 8192) (h : Fin 8) (d : Fin 128) (j : Fin 576) : EReal :=
  if 512 ≤ 64 * (t.val / 64) + j.val then vn x0 b (keyPos t j) h d else 0

/-- The attention's output. -/
def attn (x0 : Proj) (x1 x2 : Gain) (x3 : Bias) (b : Fin 2) (t : Fin 8192) (h : Fin 8) (d : Fin 128) : EReal :=
  ∑ j, vband x0 b t h d j
    * Ideal.div (Ideal.exp (score x0 x1 x2 x3 b t h j - Finset.univ.sup (score x0 x1 x2 x3 b t h)))
        (∑ j, Ideal.exp (score x0 x1 x2 x3 b t h j - Finset.univ.sup (score x0 x1 x2 x3 b t h)))

theorem isReal_qn (x0 : Proj) (x1 : Gain) (h1 : ∀ i, IsReal (x1 i)) (b t h d) : IsReal (qn x0 x1 b t h d) :=
  ((isReal_rms _ d).mul (h1 _)).mul ofBits_scale

theorem isReal_kn (x0 : Proj) (x2 : Gain) (h2 : ∀ i, IsReal (x2 i)) (b t h d) : IsReal (kn x0 x2 b t h d) :=
  (isReal_rms _ d).mul (h2 _)

end Cert.Attn

end
-- ==== Proof.AttnPoint.lean ====
/- One grid point of the attention kernel, read at an index of its output block. -/
module

public import proofs.«01_k».proof.Proof.AttnBlock
public import proofs.«01_k».proof.Proof.AttnSpec
public import Idealize.ShloMosaic.Lib.ValueIdx

@[expose] public section

set_option maxRecDepth 65536

noncomputable section

namespace Cert.Attn

open Cert.KernelIdeal Cert.KernelIdeal.Gen Idealize.ShloMosaic Idealize.ShloMosaic.TcCoe Idealize.SL.Sem
open Cert.KernelIdeal.Facts

/-! Layout operations of two-axis arrays, read at an index. -/

section Layout
variable {α : Type} {n m : Nat}

theorem row_of_column (x : (⟨2, ![n, 1]⟩ : Shape).Idx → α) (h : (⟨2, ![n, 1]⟩ : Shape).Broadcasts ⟨2, ![n, m]⟩) (hn : n ≠ 1)
    (r : Fin n) (c : Fin m) : broadcastTo ⟨2, ![n, m]⟩ x h (ix2 r c) = x (ix2 r 0) :=
  broadcastTo_apply x h _ _ fun a => match a with
    | ⟨0, _⟩ => by show r.val = if n = 1 then 0 else r.val; rw [if_neg hn]
    | ⟨1, _⟩ => rfl

theorem column_of_row (x : (⟨2, ![1, m]⟩ : Shape).Idx → α) (h : (⟨2, ![1, m]⟩ : Shape).Broadcasts ⟨2, ![n, m]⟩) (hm : m ≠ 1)
    (r : Fin n) (c : Fin m) : broadcastTo ⟨2, ![n, m]⟩ x h (ix2 r c) = x (ix2 0 c) :=
  broadcastTo_apply x h _ _ fun a => match a with
    | ⟨0, _⟩ => rfl
    | ⟨1, _⟩ => by show c.val = if m = 1 then 0 else c.val; rw [if_neg hm]

theorem column_cast (x : (⟨1, ![n]⟩ : Shape).Idx → α) (h : (⟨1, ![n]⟩ : Shape).ShapeCasts ⟨2, ![n, 1]⟩) (r : Fin n) :
    shapeCast ⟨2, ![n, 1]⟩ x h (ix2 r 0) = x (ix1 r) :=
  shapeCast_apply x h _ _ (by rw [Shape.rowMajor_val_one, Shape.rowMajor_val_two]; show r.val = r.val * 1 + 0; omega)

theorem drop_unit (x : (⟨3, ![1, n, m]⟩ : Shape).Idx → α) (h : (⟨3, ![1, n, m]⟩ : Shape).ShapeCasts ⟨2, ![n, m]⟩) (r : Fin n)
    (c : Fin m) : shapeCast ⟨2, ![n, m]⟩ x h (ix2 r c) = x (ix3 0 r c) :=
  shapeCast_apply x h _ _ (by
    rw [Shape.rowMajor_val_three, Shape.rowMajor_val_two]; show (0 * n + r.val) * m + c.val = r.val * m + c.val; simp)

theorem add_unit (x : (⟨2, ![n, m]⟩ : Shape).Idx → α) (h : (⟨2, ![n, m]⟩ : Shape).ShapeCasts ⟨3, ![1, n, m]⟩) (r : Fin n)
    (c : Fin m) : shapeCast ⟨3, ![1, n, m]⟩ x h (ix3 0 r c) = x (ix2 r c) :=
  shapeCast_apply x h _ _ (by
    rw [Shape.rowMajor_val_three, Shape.rowMajor_val_two]; show r.val * m + c.val = (0 * n + r.val) * m + c.val; simp)

theorem same_cast (x : (⟨2, ![n, m]⟩ : Shape).Idx → α) (h : (⟨2, ![n, m]⟩ : Shape).ShapeCasts ⟨2, ![n, m]⟩) (r : Fin n)
    (c : Fin m) : shapeCast ⟨2, ![n, m]⟩ x h (ix2 r c) = x (ix2 r c) := shapeCast_apply x h _ _ rfl

theorem rows_from {n' : Nat} (o : Nat) (x : (⟨2, ![n', m]⟩ : Shape).Idx → α)
    (h : (⟨2, ![n', m]⟩ : Shape).Slices ![o, 0] ⟨2, ![n, m]⟩) (r : Fin n) (c : Fin m) (r' : Fin n') (hr : r'.val = o + r.val) :
    extractStridedSlice ⟨2, ![n, m]⟩ ![o, 0] x h (ix2 r c) = x (ix2 r' c) :=
  extractStridedSlice_apply _ x h _ _ fun a => match a with
    | ⟨0, _⟩ => hr
    | ⟨1, _⟩ => by show c.val = 0 + c.val; omega

theorem row_sum (x : FVec Ideal ⟨2, ![n, m]⟩ .f32) (h : (⟨2, ![n, m]⟩ : Shape).Reduces [1] ⟨1, ![n]⟩) (hφ hacc) (r : Fin n) :
    multiReduction .add [1] ⟨1, ![n]⟩ x 0x00000000#32 h hφ hacc (ix1 r) = ∑ c : Fin m, x (ix2 r c) := by
  refine (Ideal.multiReduction_add_single x _ h hφ hacc (ix1 r)).trans (Finset.sum_congr rfl fun (c : Fin m) _ => ?_)
  refine congrArg x (funext fun a => ?_)
  match a with
  | ⟨0, _⟩ => rfl
  | ⟨1, _⟩ => rfl

theorem row_max (x : FVec Ideal ⟨2, ![n, m]⟩ .f32) (h : (⟨2, ![n, m]⟩ : Shape).Reduces [1] ⟨1, ![n]⟩) (hφ hacc) (r : Fin n) :
    multiReduction .maximumf [1] ⟨1, ![n]⟩ x 0xFF800000#32 h hφ hacc (ix1 r)
      = Finset.univ.sup fun c : Fin m => x (ix2 r c) := by
  refine (Ideal.multiReduction_maximumf_single x _ h hφ hacc (ix1 r)).trans ?_
  show Finset.univ.fold max (Ideal.ofBits .f32 0xFF800000#32) (fun c : Fin m => x (h.lift (ix1 r) c)) = _
  rw [ofBits_negInf, fold_max_eq_sup]
  refine Finset.sup_congr rfl fun (c : Fin m) _ => ?_
  refine congrArg x (funext fun a => ?_)
  match a with
  | ⟨0, _⟩ => rfl
  | ⟨1, _⟩ => rfl

end Layout

/-! The point's operands. -/

/-- Row `s` of the 512 rows before a block followed by its own 2048. -/
def cat (kp : S1x512x128.Idx → EReal) (kc : S1x2048x128.Idx → EReal) (s : Fin 2560) (d : Fin 128) : EReal :=
  if h : s.val < 512 then kp (ix3 0 ⟨s.val, h⟩ d) else kc (ix3 0 ⟨s.val - 512, by omega⟩ d)

theorem q_at (x : S1x2048x128.Idx → EReal) (g : S1x128.Idx → EReal) (r : Fin 2048) (d : Fin 128) :
    k0_pay3 (F := Ideal) x g (ix2 r d)
      = rmsn (fun d => x (ix3 0 r d)) (fun d => g (ix2 0 d)) d * Ideal.ofBits .f32 0x3DB504F3#32 := by
  unfold k0_pay3
  dsimp only
  show (shapeCast S2048x128 x _ (ix2 r d) * broadcastTo S2048x128 _ _ (ix2 r d)) * broadcastTo S2048x128 _ _ (ix2 r d)
    * Ideal.ofBits .f32 0x3DB504F3#32 = _
  rw [drop_unit, row_of_column _ _ (by decide), column_of_row _ _ (by decide), same_cast]
  unfold rmsn
  refine congrArg (fun z => x (ix3 0 r d) * z * g (ix2 0 d) * _) ?_
  show Ideal.rsqrt (Ideal.div (shapeCast S2048x1 _ _ (ix2 r 0)) _ + _) = _
  rw [column_cast]
  refine congrArg (fun z => Ideal.rsqrt (Ideal.div z _ + _)) ((row_sum _ _ _ _ r).trans (Finset.sum_congr rfl fun k _ => ?_))
  show shapeCast S2048x128 x _ (ix2 r k) * shapeCast S2048x128 x _ (ix2 r k) = _
  rw [drop_unit]

theorem cat_at (kp : S1x512x128.Idx → EReal) (kc : S1x2048x128.Idx → EReal) (s : Fin 2560) (d : Fin 128) :
    concatenate S2560x128 0 [⟨S512x128, shapeCast S512x128 kp shapeCasts_S1x512x128_S512x128⟩,
      ⟨S2048x128, shapeCast S2048x128 kc shapeCasts_S1x2048x128_S2048x128⟩] concatenates_S512x128_S2048x128_S2560x128_d0 (ix2 s d)
      = cat kp kc s d := by
  unfold cat
  by_cases h : s.val < 512
  · rw [dif_pos h, concatenate_pair_apply_left (t := S2560x128) (s₁ := S512x128) (s₂ := S2048x128) (0 : Fin 2) _ _ _ (ix2 s d) rfl (ix2 ⟨s.val, h⟩ d)
      (fun b => match b with | ⟨0, _⟩ => rfl | ⟨1, _⟩ => rfl), drop_unit]
  · rw [dif_neg h, concatenate_pair_apply_right (t := S2560x128) (s₁ := S512x128) (s₂ := S2048x128) (0 : Fin 2) _ _ _ (ix2 s d) rfl rfl (ix2 ⟨s.val - 512, by omega⟩ d)
      (fun b hb => match b with | ⟨0, _⟩ => absurd rfl hb | ⟨1, _⟩ => rfl) (by show s.val - 512 + 512 = s.val; omega), drop_unit]

theorem vals_at (kp : S1x512x128.Idx → EReal) (kc : S1x2048x128.Idx → EReal) (s : Fin 2560) (d : Fin 128) :
    k0_pay9 (F := Ideal) kp kc (ix2 s d) = cat kp kc s d := cat_at kp kc s d

theorem keys_at (kp : S1x512x128.Idx → EReal) (kc : S1x2048x128.Idx → EReal) (g : S1x128.Idx → EReal) (s : Fin 2560)
    (d : Fin 128) : keys (F := Ideal) kp kc g (ix2 s d) = rmsn (cat kp kc s) (fun d => g (ix2 0 d)) d := by
  unfold keys k0_pay8 k0_pay4 k0_pay6 k0_pay7
  dsimp only
  have hp : ∀ d, k0_pay5 (F := Ideal) kp kc (ix2 s d) = cat kp kc s d := fun d => cat_at kp kc s d
  show (k0_pay5 (F := Ideal) kp kc (ix2 s d) * broadcastTo S2560x128 _ _ (ix2 s d)) * broadcastTo S2560x128 _ _ (ix2 s d) = _
  rw [hp, row_of_column _ _ (by decide), column_of_row _ _ (by decide), same_cast]
  unfold rmsn
  refine congrArg (fun z => cat kp kc s d * z * g (ix2 0 d)) ?_
  show Ideal.rsqrt (Ideal.div (shapeCast S2560x1 _ _ (ix2 s 0)) _ + _) = _
  rw [column_cast]
  refine congrArg (fun z => Ideal.rsqrt (Ideal.div z _ + _)) ((row_sum _ _ _ _ s).trans (Finset.sum_congr rfl fun k _ => ?_))
  show k0_pay5 (F := Ideal) kp kc (ix2 s k) * k0_pay5 (F := Ideal) kp kc (ix2 s k) = _
  rw [hp]

theorem mask_bot : (Named.named κ "mask" 0xF149F2CA#32 : Ideal .f32) = (⊥ : EReal) :=
  IdealRules.named_const.ideal_named_scalar _ _ _ _ rfl

theorem inBand_word : ∀ (rc : Fin 2) (cc : Fin 10),
    IntOp.andi (IntOp.cmpi .sge (BitVec.ofNat 32 cc.val) (IntOp.subi (IntOp.addi (BitVec.ofNat 32 rc.val) 8#32) 8#32))
        (IntOp.cmpi .sle (BitVec.ofNat 32 cc.val) (IntOp.addi (BitVec.ofNat 32 rc.val) 8#32))
      = if rc.val ≤ cc.val ∧ cc.val ≤ rc.val + 8 then 1#1 else 0#1 := by decide +kernel

theorem chunk_word : ∀ c : Fin 640, IntOp.shrsi .vector (BitVec.ofNat 32 c.val) 6#32 = BitVec.ofNat 32 (c.val / 64) := by
  decide +kernel

theorem iota_col (r : Fin 128) (c : Fin 640) : iota .tc S128x640 32 [1] iota_S128x640_d1_w32 (ix2 r c) = BitVec.ofNat 32 c.val := by
  show BitVec.ofNat 32 (0 * 640 + c.val) = _
  rw [Nat.zero_mul, Nat.zero_add]

theorem iota_row (r : Fin 128) (c : Fin 640) : iota .tc S128x640 32 [0] iota_S128x640_d0_w32 (ix2 r c) = BitVec.ofNat 32 r.val := by
  show BitVec.ofNat 32 (0 * 128 + r.val) = _
  rw [Nat.zero_mul, Nat.zero_add]

/-- The bias table: the head's bias vector shifted one lane per row, minus infinity outside the band. -/
theorem table_at (x : S1x1x1024.Idx → EReal) (r : Fin 128) (c : Fin 640) :
    k0_pay2 (F := Ideal) x (ix2 r c) = if r.val / 64 ≤ c.val / 64 ∧ c.val / 64 ≤ r.val / 64 + 8
      then x (ix3 0 0 ⟨(c.val + 1024 - r.val) % 1024, Nat.mod_lt _ (by decide)⟩) else ⊥ := by
  unfold k0_pay2
  dsimp only
  rw [same_cast]
  generalize hy : shapeCast S1x1024 (shapeCast S1x1024 x shapeCasts_S1x1x1024_S1x1024) shapeCasts_S1x1024_S1x1024 = y
  have hyx : ∀ l : Fin 1024, y (ix2 0 l) = x (ix3 0 0 l) := fun l => by rw [← hy, same_cast, drop_unit]
  generalize hz : dynamicRotate (s := S128x1024) 1 0#32 (some (1, 0)) (broadcastTo S128x1024 y broadcasts_S1x1024_S128x1024)
    rotates_S128x1024_d1s1a0 = z
  have hzx : z (ix2 r ⟨c.val, by omega⟩) = x (ix3 0 0 ⟨(c.val + 1024 - r.val) % 1024, Nat.mod_lt _ (by decide)⟩) := by
    rw [← hz, ← hyx]
    unfold dynamicRotate
    refine broadcastTo_apply y _ _ _ fun a => ?_
    match a with
    | ⟨0, _⟩ => rfl
    | ⟨1, _⟩ =>
      show (c.val + 1024 - r.val) % 1024 = (c.val + 1024 - (0 + 1 * r.val) % 1024) % 1024
      rw [Nat.mod_eq_of_lt (a := 0 + 1 * r.val) (by omega)]
      omega
  have hx : extractStridedSlice S128x640 ![0, 0] z slices_S128x1024_o0_0_S128x640 (ix2 r c)
      = x (ix3 0 0 ⟨(c.val + 1024 - r.val) % 1024, Nat.mod_lt _ (by decide)⟩) := by
    rw [← hzx]
    exact extractStridedSlice_apply _ z _ _ _ fun a => match a with
      | ⟨0, _⟩ => by show r.val = 0 + r.val; omega
      | ⟨1, _⟩ => by show c.val = 0 + c.val; omega
  have hr := chunk_word ⟨r.val, by omega⟩
  have hb := inBand_word ⟨r.val / 64, by omega⟩ ⟨c.val / 64, by omega⟩
  simp only at hr hb
  show Scalar.select (IntOp.andi (IntOp.cmpi .sge (IntOp.shrsi .vector (iota .tc S128x640 32 [1] iota_S128x640_d1_w32 (ix2 r c)) 6#32)
        (IntOp.subi (IntOp.addi (IntOp.shrsi .vector (iota .tc S128x640 32 [0] iota_S128x640_d0_w32 (ix2 r c)) 6#32) 8#32) 8#32))
      (IntOp.cmpi .sle (IntOp.shrsi .vector (iota .tc S128x640 32 [1] iota_S128x640_d1_w32 (ix2 r c)) 6#32)
        (IntOp.addi (IntOp.shrsi .vector (iota .tc S128x640 32 [0] iota_S128x640_d0_w32 (ix2 r c)) 6#32) 8#32)))
    (extractStridedSlice S128x640 ![0, 0] z slices_S128x1024_o0_0_S128x640 (ix2 r c)) (Named.named κ "mask" 0xF149F2CA#32 : Ideal .f32) = _
  rw [iota_col, iota_row, chunk_word c, hr, hb, hx]
  by_cases h : r.val / 64 ≤ c.val / 64 ∧ c.val / 64 ≤ r.val / 64 + 8
  · rw [if_pos h, if_pos h]
    rfl
  · rw [if_neg h, if_neg h]
    exact mask_bot

/-! One query part. -/

theorem scores_dot (q : S128x128.Idx → EReal) (k : S640x128.Idx → EReal) (r : Fin 128) (c : Fin 640) :
    matmul (F := Ideal) (φ₁ := .bf16) (φ₂ := .bf16) dot_S128x128_S640x128_S128x640_1_1_0_0_n_n none q k (constant S128x640 .f32 0x00000000#32) (ix2 r c)
      = ∑ d : Fin 128, q (ix2 r d) * k (ix2 c d) := by
  refine (Ideal.matmul_constant_zero_apply (φ₁ := .bf16) (φ₂ := .bf16) _ none q k (ix2 r c)).trans ?_
  rw [← Equiv.sum_comp (ValueIdx.contrEquiv1 dot_S128x128_S640x128_S128x640_1_1_0_0_n_n 128 rfl rfl).symm]
  refine Finset.sum_congr rfl fun d _ => ?_
  congr 1
  · refine congrArg q (funext fun a => ?_)
    match a with
    | ⟨0, _⟩ => rfl
    | ⟨1, _⟩ => rfl
  · refine congrArg k (funext fun a => ?_)
    match a with
    | ⟨0, _⟩ => rfl
    | ⟨1, _⟩ => rfl

theorem weighted_dot (P : S128x640.Idx → EReal) (v : S640x128.Idx → EReal) (r d : Fin 128) :
    matmul (F := Ideal) (φ₁ := .bf16) (φ₂ := .bf16) dot_S128x640_S640x128_S128x128_1_0_0_1_n_n none P v (constant S128x128 .f32 0x00000000#32) (ix2 r d)
      = ∑ c : Fin 640, P (ix2 r c) * v (ix2 c d) := by
  refine (Ideal.matmul_constant_zero_apply (φ₁ := .bf16) (φ₂ := .bf16) _ none P v (ix2 r d)).trans ?_
  rw [← Equiv.sum_comp (ValueIdx.contrEquiv1 dot_S128x640_S640x128_S128x128_1_0_0_1_n_n 640 rfl rfl).symm]
  refine Finset.sum_congr rfl fun c _ => ?_
  congr 1
  · refine congrArg P (funext fun a => ?_)
    match a with
    | ⟨0, _⟩ => rfl
    | ⟨1, _⟩ => rfl
  · refine congrArg v (funext fun a => ?_)
    match a with
    | ⟨0, _⟩ => rfl
    | ⟨1, _⟩ => rfl

theorem before_word : ∀ (p : Fin 16) (c : Fin 640),
    IntOp.cmpi .slt (IntOp.addi (BitVec.ofNat 32 (128 * p.val)) (BitVec.ofNat 32 c.val)) 512#32
      = if 128 * p.val + c.val < 512 then 1#1 else 0#1 := by decide +kernel

theorem partScores_at (v0 : BitVec 1) (p : Fin 16) (q : S128x128.Idx → EReal) (k : S640x128.Idx → EReal)
    (T : S128x640.Idx → EReal) (r : Fin 128) (c : Fin 640) :
    partScores (F := Ideal) v0 (BitVec.ofNat 32 (128 * p.val)) q k T (ix2 r c)
      = if v0 = 1#1 ∧ 128 * p.val + c.val < 512 then ⊥ else (∑ d : Fin 128, q (ix2 r d) * k (ix2 c d)) + T (ix2 r c) := by
  unfold partScores
  show Scalar.select (IntOp.andi v0 (IntOp.cmpi .slt (IntOp.addi (BitVec.ofNat 32 (128 * p.val)) (iota .tc S128x640 32 [1] iota_S128x640_d1_w32 (ix2 r c))) 512#32))
    (Named.named κ "mask" 0xF149F2CA#32 : Ideal .f32)
    ((matmul (F := Ideal) (φ₁ := .bf16) (φ₂ := .bf16) dot_S128x128_S640x128_S128x640_1_1_0_0_n_n none q k
      (constant S128x640 .f32 0x00000000#32) (ix2 r c) : EReal) + T (ix2 r c)) = _
  rw [iota_col, before_word, scores_dot]
  by_cases h : 128 * p.val + c.val < 512
  · rw [if_pos h]
    by_cases h0 : v0 = 1#1
    · rw [if_pos ⟨h0, h⟩, h0]; exact mask_bot
    · have h1 : v0 = 0#1 := by revert h0; revert v0; decide
      rw [if_neg (fun hh => h0 hh.1), h1]; rfl
  · rw [if_neg h, if_neg (fun hh => h hh.2)]
    have : IntOp.andi v0 0#1 = 0#1 := by revert v0; decide
    rw [this]; rfl

theorem part_at (v0 : BitVec 1) (s : BitVec 32) (q : S128x128.Idx → EReal) (k v : S640x128.Idx → EReal)
    (T : S128x640.Idx → EReal) (S : Fin 640 → EReal) (r d : Fin 128)
    (hS : ∀ c, partScores (F := Ideal) v0 s q k T (ix2 r c) = S c) :
    part (F := Ideal) v0 s q k v T (ix2 r d)
      = Ideal.div (∑ c, Ideal.exp (S c - Finset.univ.sup S) * v (ix2 c d)) (∑ c, Ideal.exp (S c - Finset.univ.sup S)) := by
  have hw : ∀ c, partWeights (F := Ideal) (partScores (F := Ideal) v0 s q k T) (ix2 r c) = Ideal.exp (S c - Finset.univ.sup S) := fun c => by
    unfold partWeights
    show Ideal.exp (partScores (F := Ideal) v0 s q k T (ix2 r c) - broadcastTo S128x640 _ _ (ix2 r c)) = _
    rw [hS, row_of_column _ _ (by decide), column_cast]
    refine congrArg (fun z => Ideal.exp (S c - z)) ((row_max _ _ _ _ r).trans ?_)
    simp only [hS]
  unfold part partOut
  show Ideal.div (matmul (F := Ideal) (φ₁ := .bf16) (φ₂ := .bf16) dot_S128x640_S640x128_S128x128_1_0_0_1_n_n none
      (partWeights (F := Ideal) (partScores (F := Ideal) v0 s q k T)) v (constant S128x128 .f32 0x00000000#32) (ix2 r d) : EReal)
    (broadcastTo S128x128 _ _ (ix2 r d)) = _
  rw [row_of_column _ _ (by decide), column_cast]
  refine congrArg₂ Ideal.div ?_ ((row_sum _ _ _ _ r).trans (Finset.sum_congr rfl fun c _ => hw c))
  refine (weighted_dot (partWeights (F := Ideal) (partScores (F := Ideal) v0 s q k T)) v r d).trans ?_
  simp only [hw]

/-! The block. -/

theorem parts_at (v0 : BitVec 1) (Q : S2048x128.Idx → EReal) (K V : S2560x128.Idx → EReal) (T : S128x640.Idx → EReal) (p : Fin 16) :
    ∃ (q : S128x128.Idx → EReal) (k v : S640x128.Idx → EReal),
      parts (F := Ideal) v0 Q K V T p = part v0 (BitVec.ofNat 32 (128 * p.val)) q k v T
      ∧ (∀ r d, q (ix2 r d) = Q (ix2 ⟨128 * p.val + r.val, by omega⟩ d))
      ∧ (∀ c d, k (ix2 c d) = K (ix2 ⟨128 * p.val + c.val, by omega⟩ d))
      ∧ (∀ c d, v (ix2 c d) = V (ix2 ⟨128 * p.val + c.val, by omega⟩ d)) := by
  fin_cases p <;>
    exact ⟨_, _, _, rfl, fun r d => rows_from _ Q _ r d _ rfl, fun c d => rows_from _ K _ c d _ rfl, fun c d => rows_from _ V _ c d _ rfl⟩

theorem outBlock_at (v0 : BitVec 1) (Q : S2048x128.Idx → EReal) (K V : S2560x128.Idx → EReal) (T : S128x640.Idx → EReal)
    (r : Fin 2048) (d : Fin 128) :
    outBlock (F := Ideal) v0 Q K V T (ix2 r d) = parts (F := Ideal) v0 Q K V T ⟨r.val / 128, by omega⟩ (ix2 ⟨r.val % 128, by omega⟩ d) := by
  unfold outBlock
  refine (concatenate_ofFn_apply (t := S2048x128) (s₁ := S128x128) (0 : Fin 2) (parts (F := Ideal) v0 Q K V T)
    concatenates_S128x128_S128x128_S128x128_S128x128_S128x128_S128x128_S128x128_S128x128_S128x128_S128x128_S128x128_S128x128_S128x128_S128x128_S128x128_S128x128_S2048x128_d0 rfl 128 rfl (ix2 r d)
    ⟨r.val / 128, by omega⟩ rfl (ix2 ⟨r.val % 128, by omega⟩ d) rfl (fun a ha => ?_))
  match a with
  | ⟨0, _⟩ => exact absurd rfl ha
  | ⟨1, _⟩ => rfl

/-- The point's masked scores of block row `r` against the 640 keys of its part. -/
def pointScore (v0 : BitVec 1) (Q : S2048x128.Idx → EReal) (K : S2560x128.Idx → EReal) (T : S128x640.Idx → EReal) (r : Fin 2048)
    (c : Fin 640) : EReal :=
  if v0 = 1#1 ∧ 128 * (r.val / 128) + c.val < 512 then ⊥
  else (∑ d : Fin 128, Q (ix2 r d) * K (ix2 ⟨128 * (r.val / 128) + c.val, by omega⟩ d)) + T (ix2 ⟨r.val % 128, by omega⟩ c)

theorem block_at (v0 : BitVec 1) (Q : S2048x128.Idx → EReal) (K V : S2560x128.Idx → EReal) (T : S128x640.Idx → EReal)
    (r : Fin 2048) (d : Fin 128) :
    outBlock (F := Ideal) v0 Q K V T (ix2 r d)
      = Ideal.div (∑ c, Ideal.exp (pointScore v0 Q K T r c - Finset.univ.sup (pointScore v0 Q K T r))
            * V (ix2 ⟨128 * (r.val / 128) + c.val, by omega⟩ d))
          (∑ c, Ideal.exp (pointScore v0 Q K T r c - Finset.univ.sup (pointScore v0 Q K T r))) := by
  rw [outBlock_at]
  obtain ⟨q, k, v, he, hq, hk, hv⟩ := parts_at v0 Q K V T ⟨r.val / 128, by omega⟩
  rw [he, part_at v0 _ q k v T (pointScore v0 Q K T r) _ d (fun c => ?_)]
  · simp only [hv]
  · rw [partScores_at]
    unfold pointScore
    have hr : (⟨128 * (r.val / 128) + r.val % 128, by omega⟩ : Fin 2048) = r := Fin.ext (by show 128 * (r.val / 128) + r.val % 128 = r.val; omega)
    simp only [hq, hk, hr]

end Cert.Attn

end
-- ==== Proof.AttnHost.lean ====
/- What the attention kernel's region finds in the arrays the host operations before it write: the two gains as rows, and
   the relative-position bias as one vector of 1024 entries a head. -/
module

public import proofs.«01_k».proof.Proof.AttnPoint
public import proofs.«01_k».proof.Proof.Gen.KernelIdeal.Frame.Runs

@[expose] public section

set_option maxRecDepth 65536

noncomputable section

namespace Cert.Attn

open Cert.KernelIdeal Cert.KernelIdeal.Gen Idealize.ShloMosaic Idealize.ShloMosaic.TcCoe Idealize.SL.Sem
open Cert.KernelIdeal.Facts

variable [hF : Cert.KernelIdeal.Facts]

/-- Each vector entry's offset as a signed word. -/
def offWords : S1024.Idx → BitVec 32 :=
  select (cmpi .slt (iotaInDim S1024 32 0) (broadcastInDim S1024 ![] bcast_S_S1024 (constantI S_ 32 896#32))) (iotaInDim S1024 32 0)
    (subi (iotaInDim S1024 32 0) (broadcastInDim S1024 ![] bcast_S_S1024 (constantI S_ 32 1024#32)))

/-- The clipped distance, moved to start at zero. -/
def clipWords : S1024.Idx → BitVec 32 :=
  addi (minsi (broadcastInDim S1024 ![] bcast_S_S1024 (constantI S_ 32 128#32))
    (maxsi (broadcastInDim S1024 ![] bcast_S_S1024 (constantI S_ 32 4294967168#32))
      (subi (broadcastInDim S1024 ![] bcast_S_S1024 (constantI S_ 32 512#32)) offWords)))
    (broadcastInDim S1024 ![] bcast_S_S1024 (constantI S_ 32 128#32))

/-- The column of the bias table each entry of the vector reads. -/
def pickWords : S1024.Idx → BitVec 32 :=
  select (cmpi .slt clipWords (broadcastInDim S1024 ![] bcast_S_S1024 (constantI S_ 32 0#32)))
    (addi clipWords (broadcastInDim S1024 ![] bcast_S_S1024 (constantI S_ 32 257#32))) clipWords

section Any
variable {F : FTy → Type} [FloatOps F] (m : (ℓ : Loc nD τ sig) → Buf (Elt F) ℓ) (c : Dev nD)

/-- The bias vectors of all heads. -/
def biasRows (x : FVec F S8x257 .f32) : FVec F S8x1x1024 .f32 :=
  broadcastInDim S8x1x1024 ![0, 2] bcast_S8x1024_S8x1x1024_0_2
    (Host.gather gather_S8x257_S1024x1_S8x1024_0_1_n_n_1_1_81 x
      (broadcastInDim S1024x1 ![0] bcast_S1024_S1024x1_0 pickWords))

theorem V_main_v18 : V m c main_v18 = biasRows (m ((c : Thread nD τ).loc main_arg3)) := by
  show StableHlo.after (List.flatten [hostOps0, hostOps0_1, hostOps0_2, hostOps0_3, hostOps0_4]) _ (Proc.devRef .tc main_v18) = _
  simp only [hostOps0, hostOps0_1, hostOps0_2, hostOps0_3, hostOps0_4, List.flatten_cons, List.flatten_nil, List.append_nil,
    List.cons_append, List.nil_append, StableHlo.TRef.binary, StableHlo.TRef.ternary, StableHlo.TRef.unary,
    StableHlo.TRef.toBuf, StableHlo.TRef.ofBuf, cast_eq]
  after_results_simp <;> rfl

theorem V_main_v19 : V m c main_v19 = shapeCast S1x128 (m ((c : Thread nD τ).loc main_arg1)) shapeCasts_S128_S1x128 := by
  show StableHlo.after (List.flatten [hostOps0, hostOps0_1, hostOps0_2, hostOps0_3, hostOps0_4]) _ (Proc.devRef .tc main_v19) = _
  simp only [hostOps0, hostOps0_1, hostOps0_2, hostOps0_3, hostOps0_4, List.flatten_cons, List.flatten_nil, List.append_nil,
    List.cons_append, List.nil_append, StableHlo.TRef.binary, StableHlo.TRef.ternary, StableHlo.TRef.unary,
    StableHlo.TRef.toBuf, StableHlo.TRef.ofBuf, cast_eq]
  after_results_simp <;> rfl

theorem V_main_v20 : V m c main_v20 = shapeCast S1x128 (m ((c : Thread nD τ).loc main_arg2)) shapeCasts_S128_S1x128 := by
  show StableHlo.after (List.flatten [hostOps0, hostOps0_1, hostOps0_2, hostOps0_3, hostOps0_4]) _ (Proc.devRef .tc main_v20) = _
  simp only [hostOps0, hostOps0_1, hostOps0_2, hostOps0_3, hostOps0_4, List.flatten_cons, List.flatten_nil, List.append_nil,
    List.cons_append, List.nil_append, StableHlo.TRef.binary, StableHlo.TRef.ternary, StableHlo.TRef.unary,
    StableHlo.TRef.toBuf, StableHlo.TRef.ofBuf, cast_eq]
  after_results_simp <;> rfl

theorem row_at (x : FVec F S128 .f32) (d : Fin 128) :
    (shapeCast S1x128 x shapeCasts_S128_S1x128 : FVec F S1x128 .f32) (ix2 0 d) = x (ix1 d) :=
  shapeCast_apply x _ _ _ (by rw [Shape.rowMajor_val_one, Shape.rowMajor_val_two]; show d.val = 0 * 128 + d.val; omega)

end Any

/-- The distance bucket of the vector's entry `k`. -/
def pick (k : Nat) : Nat := if k < 896 then min (640 - k) 256 else min (640 + (1024 - k)) 256

theorem pick_lt (k : Nat) : pick k < 257 := by unfold pick; split <;> omega

def wordAt (k : Nat) : BitVec 32 :=
  let off := Scalar.select (IntOp.cmpi .slt (BitVec.ofNat 32 k) 896#32) (BitVec.ofNat 32 k) (IntOp.subi (BitVec.ofNat 32 k) 1024#32)
  let w := IntOp.addi (IntOp.minsi 128#32 (IntOp.maxsi 4294967168#32 (IntOp.subi 512#32 off))) 128#32
  Scalar.select (IntOp.cmpi .slt w 0#32) (IntOp.addi w 257#32) w

theorem wordAt_val : ∀ k : Fin 1024, (wordAt k.val).toInt.toNat = pick k.val := by decide +kernel

theorem pickWords_at (k : Fin 1024) : pickWords (ix1 k) = wordAt k.val := by
  rfl

theorem biasRows_at (x : FVec Ideal S8x257 .f32) (h : Fin 8) (k : Fin 1024) :
    biasRows x (ix3 h 0 k) = x (ix2 h ⟨pick k.val, pick_lt _⟩) := by
  unfold biasRows
  refine (broadcastInDim_apply (s := S8x1024) (t := S8x1x1024) _ _ _ (ix3 h 0 k) (ix2 h k) fun a => match a with | ⟨0, _⟩ => rfl | ⟨1, _⟩ => rfl).trans ?_
  unfold Host.gather
  refine congrArg x (funext fun a => Fin.ext ?_)
  match a with
  | ⟨0, _⟩ =>
    show gather_S8x257_S1024x1_S8x1024_0_1_n_n_1_1_81.start (ix2 h k) _ 0
      + gather_S8x257_S1024x1_S8x1024_0_1_n_n_1_1_81.batchCoord (ix2 h k) 0
      + gather_S8x257_S1024x1_S8x1024_0_1_n_n_1_1_81.offCoord (ix2 h k) 0 = h.val
    rw [GatherDims.batchCoord_eq_zero _ _ _ List.not_mem_nil]
    unfold GatherDims.start GatherDims.offCoord
    rw [dif_neg (by decide), dif_pos (by decide)]
    show 0 + 0 + h.val = h.val
    omega
  | ⟨1, _⟩ =>
    show gather_S8x257_S1024x1_S8x1024_0_1_n_n_1_1_81.start (ix2 h k) _ 1
      + gather_S8x257_S1024x1_S8x1024_0_1_n_n_1_1_81.batchCoord (ix2 h k) 1
      + gather_S8x257_S1024x1_S8x1024_0_1_n_n_1_1_81.offCoord (ix2 h k) 1 = pick k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hsi : gather_S8x257_S1024x1_S8x1024_0_1_n_n_1_1_81.siIdx (ix2 h k)
        ⟨List.idxOf (1 : Fin 2) gather_S8x257_S1024x1_S8x1024_0_1_n_n_1_1_81.startIndexMap,
          List.idxOf_lt_length_iff.2 (by decide)⟩ = ix2 k 0 := by
      funext b; refine Fin.ext ?_
      match b with
      | ⟨0, _⟩ => rfl
      | ⟨1, _⟩ => rfl
    rw [hsi]
    have hp : broadcastInDim S1024x1 ![0] bcast_S1024_S1024x1_0 pickWords (ix2 k 0) = pickWords (ix1 k) :=
      broadcastInDim_apply _ _ _ _ _ fun a => match a with | ⟨0, _⟩ => rfl
    rw [hp, pickWords_at, wordAt_val]
    show min (pick k.val) 256 + 0 + 0 = pick k.val
    have := pick_lt k.val
    omega

end Cert.Attn

end
-- ==== Proof.AttnKernel.lean ====
/- The attention kernel over its grid: what each point's input blocks hold, the bias table it carries between points, and
   the block each point writes. -/
module

public import proofs.«01_k».proof.Proof.AttnHost
public import proofs.«01_k».proof.Proof.Gen.KernelIdeal.Value

@[expose] public section

set_option maxRecDepth 65536

noncomputable section

namespace Cert.Attn

open Cert.KernelIdeal Cert.KernelIdeal.Gen Cert.KernelIdeal.Value Idealize.ShloMosaic Idealize.ShloMosaic.TcCoe Idealize.SL.Sem
open Cert.KernelIdeal.Facts

variable [hF : Cert.KernelIdeal.Facts]
variable (m : (ℓ : Loc nD τ sig) → Buf (Elt Ideal) ℓ) (c : Dev nD)

/-! The four arguments as arrays. -/
abbrev arg0 : Proj := m ((c : Thread nD τ).loc main_arg0)
abbrev arg1 : Gain := m ((c : Thread nD τ).loc main_arg1)
abbrev arg2 : Gain := m ((c : Thread nD τ).loc main_arg2)
abbrev arg3 : Bias := m ((c : Thread nD τ).loc main_arg3)

/-! A grid point's batch entry, head and block of positions. -/
theorem lt_64 (t : Fin cfg0.N) : t.val < 64 := lt_of_lt_of_eq t.isLt (show cfg0.N = 64 from N_0)
def bOf (t : Fin cfg0.N) : Fin 2 := ⟨t.val / 32, by have := lt_64 t; omega⟩
def hOf (t : Fin cfg0.N) : Fin 8 := ⟨t.val / 4 % 8, by omega⟩
def nOf (t : Fin cfg0.N) : Fin 4 := ⟨t.val % 4, by omega⟩
def posOf (t : Fin cfg0.N) (r : Fin 2048) : Fin 8192 := ⟨2048 * (t.val % 4) + r.val, by omega⟩

theorem index0 : ∀ t : Fin cfg0.N, win0_0.index t 0 = t.val / 32 ∧ win0_0.index t 1 = t.val % 4 ∧ win0_0.index t 2 = 16 + t.val / 4 % 8 :=
  (by decide +kernel : ∀ t : Fin grid0.N, win0_0.index t 0 = t.val / 32 ∧ win0_0.index t 1 = t.val % 4 ∧ win0_0.index t 2 = 16 + t.val / 4 % 8)
theorem index1 : ∀ t : Fin cfg0.N, win0_1.index t 0 = t.val / 32 ∧ win0_1.index t 1 = 4 * (t.val % 4) - 1 ∧ win0_1.index t 2 = 24 + t.val / 4 % 8 :=
  (by decide +kernel : ∀ t : Fin grid0.N, win0_1.index t 0 = t.val / 32 ∧ win0_1.index t 1 = 4 * (t.val % 4) - 1 ∧ win0_1.index t 2 = 24 + t.val / 4 % 8)
theorem index2 : ∀ t : Fin cfg0.N, win0_2.index t 0 = t.val / 32 ∧ win0_2.index t 1 = t.val % 4 ∧ win0_2.index t 2 = 24 + t.val / 4 % 8 :=
  (by decide +kernel : ∀ t : Fin grid0.N, win0_2.index t 0 = t.val / 32 ∧ win0_2.index t 1 = t.val % 4 ∧ win0_2.index t 2 = 24 + t.val / 4 % 8)
theorem index3 : ∀ t : Fin cfg0.N, win0_3.index t 0 = t.val / 32 ∧ win0_3.index t 1 = 4 * (t.val % 4) - 1 ∧ win0_3.index t 2 = 32 + t.val / 4 % 8 :=
  (by decide +kernel : ∀ t : Fin grid0.N, win0_3.index t 0 = t.val / 32 ∧ win0_3.index t 1 = 4 * (t.val % 4) - 1 ∧ win0_3.index t 2 = 32 + t.val / 4 % 8)
theorem index4 : ∀ t : Fin cfg0.N, win0_4.index t 0 = t.val / 32 ∧ win0_4.index t 1 = t.val % 4 ∧ win0_4.index t 2 = 32 + t.val / 4 % 8 :=
  (by decide +kernel : ∀ t : Fin grid0.N, win0_4.index t 0 = t.val / 32 ∧ win0_4.index t 1 = t.val % 4 ∧ win0_4.index t 2 = 32 + t.val / 4 % 8)
theorem index5 : ∀ t : Fin cfg0.N, win0_5.index t 0 = t.val / 4 % 8 ∧ win0_5.index t 1 = 0 ∧ win0_5.index t 2 = 0 :=
  (by decide +kernel : ∀ t : Fin grid0.N, win0_5.index t 0 = t.val / 4 % 8 ∧ win0_5.index t 1 = 0 ∧ win0_5.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = t.val / 32 ∧ win0_8.index t 1 = t.val % 4 ∧ win0_8.index t 2 = t.val / 4 % 8 :=
  (by decide +kernel : ∀ t : Fin grid0.N, win0_8.index t 0 = t.val / 32 ∧ win0_8.index t 1 = t.val % 4 ∧ win0_8.index t 2 = t.val / 4 % 8)

theorem first_eq : ∀ t : Fin cfg0.N, first (grid0.coords t) = (if t.val % 4 = 0 then 1#1 else 0#1) :=
  (by decide +kernel : ∀ t : Fin grid0.N, first (grid0.coords t) = (if t.val % 4 = 0 then 1#1 else 0#1))

/-! The blocks of queries, keys and values. -/

abbrev B0 (t : Fin cfg0.N) : Vec Ideal S1x2048x128 .bf16 := iblk m c 0 t
abbrev B1 (t : Fin cfg0.N) : Vec Ideal S1x512x128 .bf16 := iblk m c 1 t
abbrev B2 (t : Fin cfg0.N) : Vec Ideal S1x2048x128 .bf16 := iblk m c 2 t
abbrev B3 (t : Fin cfg0.N) : Vec Ideal S1x512x128 .bf16 := iblk m c 3 t
abbrev B4 (t : Fin cfg0.N) : Vec Ideal S1x2048x128 .bf16 := iblk m c 4 t
abbrev B5 (t : Fin cfg0.N) : Vec Ideal S1x1x1024 .f32 := iblk m c 5 t
abbrev B6 (t : Fin cfg0.N) : Vec Ideal S1x128 .f32 := iblk m c 6 t
abbrev B7 (t : Fin cfg0.N) : Vec Ideal S1x128 .f32 := iblk m c 7 t

theorem B0_at (t : Fin cfg0.N) (r : Fin 2048) (d : Fin 128) :
    B0 m c t (ix3 0 r d) = headAt (arg0 m c) 2048 (by decide) (bOf t) (posOf t r) (hOf t) d := by
  obtain ⟨e0, e1, e2⟩ := index0 t
  unfold B0 iblk
  rw [View.read_apply]
  show V m c main_arg0 _ = _
  rw [V_main_arg0]
  refine congrArg (arg0 m c) (funext fun a => Fin.ext ?_)
  match a with
  | ⟨0, _⟩ => show win0_0.index t 0 * 1 + 1 * 0 = t.val / 32; omega
  | ⟨1, _⟩ => show win0_0.index t 1 * 2048 + 1 * r.val = 2048 * (t.val % 4) + r.val; omega
  | ⟨2, _⟩ => show win0_0.index t 2 * 128 + 1 * d.val = 2048 + 128 * (t.val / 4 % 8) + d.val; omega

theorem B2_at (t : Fin cfg0.N) (r : Fin 2048) (d : Fin 128) :
    B2 m c t (ix3 0 r d) = headAt (arg0 m c) 3072 (by decide) (bOf t) (posOf t r) (hOf t) d := by
  obtain ⟨e0, e1, e2⟩ := index2 t
  unfold B2 iblk
  rw [View.read_apply]
  show V m c main_arg0 _ = _
  rw [V_main_arg0]
  refine congrArg (arg0 m c) (funext fun a => Fin.ext ?_)
  match a with
  | ⟨0, _⟩ => show win0_2.index t 0 * 1 + 1 * 0 = t.val / 32; omega
  | ⟨1, _⟩ => show win0_2.index t 1 * 2048 + 1 * r.val = 2048 * (t.val % 4) + r.val; omega
  | ⟨2, _⟩ => show win0_2.index t 2 * 128 + 1 * d.val = 3072 + 128 * (t.val / 4 % 8) + d.val; omega

theorem B4_at (t : Fin cfg0.N) (r : Fin 2048) (d : Fin 128) :
    B4 m c t (ix3 0 r d) = headAt (arg0 m c) 4096 (by decide) (bOf t) (posOf t r) (hOf t) d := by
  obtain ⟨e0, e1, e2⟩ := index4 t
  unfold B4 iblk
  rw [View.read_apply]
  show V m c main_arg0 _ = _
  rw [V_main_arg0]
  refine congrArg (arg0 m c) (funext fun a => Fin.ext ?_)
  match a with
  | ⟨0, _⟩ => show win0_4.index t 0 * 1 + 1 * 0 = t.val / 32; omega
  | ⟨1, _⟩ => show win0_4.index t 1 * 2048 + 1 * r.val = 2048 * (t.val % 4) + r.val; omega
  | ⟨2, _⟩ => show win0_4.index t 2 * 128 + 1 * d.val = 4096 + 128 * (t.val / 4 % 8) + d.val; omega

/-- The block before the point's own: at the first block of a sequence it is that block's own first rows. -/
theorem B1_at (t : Fin cfg0.N) (r : Fin 512) (d : Fin 128) :
    B1 m c t (ix3 0 r d) = headAt (arg0 m c) 3072 (by decide) (bOf t)
      ⟨(4 * (t.val % 4) - 1) * 512 + r.val, by omega⟩ (hOf t) d := by
  obtain ⟨e0, e1, e2⟩ := index1 t
  unfold B1 iblk
  rw [View.read_apply]
  show V m c main_arg0 _ = _
  rw [V_main_arg0]
  refine congrArg (arg0 m c) (funext fun a => Fin.ext ?_)
  match a with
  | ⟨0, _⟩ => show win0_1.index t 0 * 1 + 1 * 0 = t.val / 32; omega
  | ⟨1, _⟩ => show win0_1.index t 1 * 512 + 1 * r.val = (4 * (t.val % 4) - 1) * 512 + r.val; omega
  | ⟨2, _⟩ => show win0_1.index t 2 * 128 + 1 * d.val = 3072 + 128 * (t.val / 4 % 8) + d.val; omega

theorem B3_at (t : Fin cfg0.N) (r : Fin 512) (d : Fin 128) :
    B3 m c t (ix3 0 r d) = headAt (arg0 m c) 4096 (by decide) (bOf t)
      ⟨(4 * (t.val % 4) - 1) * 512 + r.val, by omega⟩ (hOf t) d := by
  obtain ⟨e0, e1, e2⟩ := index3 t
  unfold B3 iblk
  rw [View.read_apply]
  show V m c main_arg0 _ = _
  rw [V_main_arg0]
  refine congrArg (arg0 m c) (funext fun a => Fin.ext ?_)
  match a with
  | ⟨0, _⟩ => show win0_3.index t 0 * 1 + 1 * 0 = t.val / 32; omega
  | ⟨1, _⟩ => show win0_3.index t 1 * 512 + 1 * r.val = (4 * (t.val % 4) - 1) * 512 + r.val; omega
  | ⟨2, _⟩ => show win0_3.index t 2 * 128 + 1 * d.val = 4096 + 128 * (t.val / 4 % 8) + d.val; omega

/-- The head's bias vector. -/
theorem B5_at (t : Fin cfg0.N) (k : Fin 1024) :
    B5 m c t (ix3 0 0 k) = arg3 m c (ix2 (hOf t) ⟨pick k.val, pick_lt _⟩) := by
  obtain ⟨e0, e1, e2⟩ := index5 t
  refine Eq.trans ?_ (biasRows_at (arg3 m c) (hOf t) k)
  unfold B5 iblk
  rw [View.read_apply]
  show V m c main_v18 _ = _
  rw [V_main_v18]
  refine congrArg (biasRows (F := Ideal) (arg3 m c)) (funext fun a => Fin.ext ?_)
  match a with
  | ⟨0, _⟩ => show win0_5.index t 0 * 1 + 1 * 0 = t.val / 4 % 8; omega
  | ⟨1, _⟩ => show win0_5.index t 1 * 1 + 1 * 0 = 0; omega
  | ⟨2, _⟩ => show win0_5.index t 2 * 1024 + 1 * k.val = k.val; omega

theorem B6_at (t : Fin cfg0.N) (d : Fin 128) : B6 m c t (ix2 0 d) = arg1 m c (ix1 d) := by
  obtain ⟨e0, e1⟩ := index6 t
  refine Eq.trans ?_ (row_at (F := Ideal) (arg1 m c) d)
  unfold B6 iblk
  rw [View.read_apply]
  show V m c main_v19 _ = _
  rw [V_main_v19]
  refine congrArg (shapeCast S1x128 (show S128.Idx → EReal from arg1 m c) shapeCasts_S128_S1x128) (funext fun a => Fin.ext ?_)
  match a with
  | ⟨0, _⟩ => show win0_6.index t 0 * 1 + 1 * 0 = 0; omega
  | ⟨1, _⟩ => show win0_6.index t 1 * 128 + 1 * d.val = d.val; omega

theorem B7_at (t : Fin cfg0.N) (d : Fin 128) : B7 m c t (ix2 0 d) = arg2 m c (ix1 d) := by
  obtain ⟨e0, e1⟩ := index7 t
  refine Eq.trans ?_ (row_at (F := Ideal) (arg2 m c) d)
  unfold B7 iblk
  rw [View.read_apply]
  show V m c main_v20 _ = _
  rw [V_main_v20]
  refine congrArg (shapeCast S1x128 (show S128.Idx → EReal from arg2 m c) shapeCasts_S128_S1x128) (funext fun a => Fin.ext ?_)
  match a with
  | ⟨0, _⟩ => show win0_7.index t 0 * 1 + 1 * 0 = 0; omega
  | ⟨1, _⟩ => show win0_7.index t 1 * 128 + 1 * d.val = d.val; omega

/-! The table the points of one head share. -/

theorem B5_same (t t' : Fin cfg0.N) (h : t.val / 4 = t'.val / 4) : B5 m c t = B5 m c t' := by
  refine funext fun (i : S1x1x1024.Idx) => ?_
  have h0 : (i 0).val < 1 := (i 0).isLt
  have h1 : (i 1).val < 1 := (i 1).isLt
  obtain ⟨k, hk⟩ : ∃ k : Fin 1024, i = ix3 0 0 k := ⟨i 2, funext fun a => Fin.ext (match a with
    | ⟨0, _⟩ => by show (i 0).val = 0; omega
    | ⟨1, _⟩ => by show (i 1).val = 0; omega
    | ⟨2, _⟩ => rfl)⟩
  have hh : hOf t = hOf t' := Fin.ext (by show t.val / 4 % 8 = t'.val / 4 % 8; rw [h])
  rw [hk]
  exact (B5_at m c t k).trans ((congrArg (fun x => arg3 m c (ix2 x ⟨pick k.val, pick_lt _⟩)) hh).trans (B5_at m c t' k).symm)

theorem table_eq (n : ℕ) : ∀ hn : n < cfg0.N, (outsAt0 m c n hn).2 = k0_pay2 (B5 m c ⟨n, hn⟩) := by
  induction n with
  | zero =>
    intro hn
    refine (congrArg Prod.snd (outsAt0_A m c ⟨0, hn⟩ (Nat.zero_mod 4))).trans ?_
    dsimp only
    rw [sout_A]
  | succ n ih =>
    intro hn
    by_cases h0 : (n + 1) % 4 = 0
    · refine (congrArg Prod.snd (outsAt0_A m c ⟨n + 1, hn⟩ h0)).trans ?_
      dsimp only
      rw [sout_A]
    · refine (congrArg Prod.snd (outsAt0_B m c ⟨n + 1, hn⟩ h0)).trans ?_
      dsimp only
      unfold sout0_B_0
      refine (ih (Nat.lt_of_succ_lt hn)).trans ?_
      rw [B5_same m c ⟨n, _⟩ ⟨n + 1, hn⟩ (by show n / 4 = (n + 1) / 4; omega)]

/-- The block a point writes, over the point's own input blocks. -/
def blockOf (t : Fin cfg0.N) : FVec Ideal S2048x128 .f32 :=
  outBlock (first (grid0.coords t)) (k0_pay3 (B0 m c t) (B6 m c t)) (keys (B1 m c t) (B2 m c t) (B7 m c t))
    (k0_pay9 (B3 m c t) (B4 m c t)) (k0_pay2 (B5 m c t))

theorem flushed_at (t : Fin cfg0.N) (r : Fin 2048) (d : Fin 128) :
    (show S1x2048x128.Idx → EReal from (dats m 0 c).flushed 8 t) (ix3 0 r d) = blockOf m c t (ix2 r d) := by
  by_cases h0 : t.val % 4 = 0
  · rw [flushed8_A m c t h0, out_A]
    exact add_unit _ _ r d
  · rw [flushed8_B m c t h0, out_B, table_eq m c (t.val - 1),
      B5_same m c ⟨t.val - 1, _⟩ t (by show (t.val - 1) / 4 = t.val / 4; omega)]
    exact add_unit _ _ r d

end Cert.Attn

end
-- ==== Proof.AttnValue.lean ====
/- The attention kernel's result array is the attention, entry by entry. -/
module

public import proofs.«01_k».proof.Proof.AttnKernel

@[expose] public section

set_option maxRecDepth 65536

noncomputable section

namespace Cert.Attn

open Cert.KernelIdeal Cert.KernelIdeal.Gen Cert.KernelIdeal.Value Idealize.ShloMosaic Idealize.ShloMosaic.TcCoe Idealize.SL.Sem
open Cert.KernelIdeal.Facts

/-! A score of the specification is a real number or, before the start of the sequence, minus infinity. -/

section Spec
variable (x0 : Proj) (x1 x2 : Gain) (x3 : Bias)

theorem score_real (h1 : ∀ i, IsReal (x1 i)) (h2 : ∀ i, IsReal (x2 i)) (h3 : ∀ i, IsReal (x3 i)) (b : Fin 2) (t : Fin 8192) (h : Fin 8)
    (j : Fin 576) (hv : 512 ≤ 64 * (t.val / 64) + j.val) : IsReal (score x0 x1 x2 x3 b t h j) := by
  unfold score
  rw [if_pos hv]
  exact (IsReal.sum _ fun d _ => (isReal_qn x0 x1 h1 b t h d).mul (isReal_kn x0 x2 h2 b _ h d)).add (h3 _)

theorem score_ne_top (h1 : ∀ i, IsReal (x1 i)) (h2 : ∀ i, IsReal (x2 i)) (h3 : ∀ i, IsReal (x3 i)) (b : Fin 2) (t : Fin 8192) (h : Fin 8)
    (j : Fin 576) : score x0 x1 x2 x3 b t h j ≠ ⊤ := by
  by_cases hv : 512 ≤ 64 * (t.val / 64) + j.val
  · exact (score_real x0 x1 x2 x3 h1 h2 h3 b t h j hv).ne_top
  · unfold score
    rw [if_neg hv]
    exact bot_ne_top

end Spec

variable [hF : Cert.KernelIdeal.Facts]
variable (m : (ℓ : Loc nD τ sig) → Buf (Elt Ideal) ℓ) (c : Dev nD)

/-- A row of the keys a point reads is a row of the projection. -/
theorem cat_keys (t : Fin cfg0.N) (s : Fin 2560) (p : Fin 8192) (d : Fin 128) (hp : p.val + 512 = 2048 * (t.val % 4) + s.val) :
    cat (B1 m c t) (B2 m c t) s d = headAt (arg0 m c) 3072 (by decide) (bOf t) p (hOf t) d := by
  unfold cat
  split
  · rw [B1_at]
    exact congrArg (fun p => headAt (arg0 m c) 3072 (by decide) (bOf t) p (hOf t) d)
      (Fin.ext (by show (4 * (t.val % 4) - 1) * 512 + s.val = p.val; omega))
  · rw [B2_at]
    exact congrArg (fun p => headAt (arg0 m c) 3072 (by decide) (bOf t) p (hOf t) d)
      (Fin.ext (by show 2048 * (t.val % 4) + (s.val - 512) = p.val; omega))

theorem cat_vals (t : Fin cfg0.N) (s : Fin 2560) (p : Fin 8192) (d : Fin 128) (hp : p.val + 512 = 2048 * (t.val % 4) + s.val) :
    cat (B3 m c t) (B4 m c t) s d = headAt (arg0 m c) 4096 (by decide) (bOf t) p (hOf t) d := by
  unfold cat
  split
  · rw [B3_at]
    exact congrArg (fun p => headAt (arg0 m c) 4096 (by decide) (bOf t) p (hOf t) d)
      (Fin.ext (by show (4 * (t.val % 4) - 1) * 512 + s.val = p.val; omega))
  · rw [B4_at]
    exact congrArg (fun p => headAt (arg0 m c) 4096 (by decide) (bOf t) p (hOf t) d)
      (Fin.ext (by show 2048 * (t.val % 4) + (s.val - 512) = p.val; omega))

theorem q_row (t : Fin cfg0.N) (r : Fin 2048) (d : Fin 128) :
    k0_pay3 (B0 m c t) (B6 m c t) (ix2 r d) = qn (arg0 m c) (arg1 m c) (bOf t) (posOf t r) (hOf t) d := by
  rw [q_at]
  unfold qn
  simp only [B0_at, B6_at]

theorem k_row (t : Fin cfg0.N) (s : Fin 2560) (p : Fin 8192) (d : Fin 128) (hp : p.val + 512 = 2048 * (t.val % 4) + s.val) :
    keys (B1 m c t) (B2 m c t) (B7 m c t) (ix2 s d) = kn (arg0 m c) (arg2 m c) (bOf t) p (hOf t) d := by
  rw [keys_at, show cat (B1 m c t) (B2 m c t) s = headAt (arg0 m c) 3072 (by decide) (bOf t) p (hOf t) from
    funext fun d => cat_keys m c t s p d hp]
  unfold kn
  simp only [B7_at]

/-- The place of the band's key `j` among the 640 keys of its part. -/
def place (r : Fin 2048) (j : Fin 576) : Fin 640 := ⟨j.val + 64 * (r.val % 128 / 64), by omega⟩

theorem place_inj (r : Fin 2048) : Function.Injective (place r) := fun j j' h => by
  have : j.val + 64 * (r.val % 128 / 64) = j'.val + 64 * (r.val % 128 / 64) := congrArg Fin.val h
  exact Fin.ext (by omega)

theorem bias_on (t : Fin cfg0.N) (r : Fin 2048) (j : Fin 576) :
    k0_pay2 (B5 m c t) (ix2 ⟨r.val % 128, by omega⟩ (place r j)) = arg3 m c (ix2 (hOf t) (biasIdx (posOf t r) j)) := by
  rw [table_at, if_pos (by show r.val % 128 / 64 ≤ (j.val + 64 * (r.val % 128 / 64)) / 64 ∧ (j.val + 64 * (r.val % 128 / 64)) / 64 ≤ r.val % 128 / 64 + 8; omega), B5_at]
  refine congrArg (fun k => arg3 m c (ix2 (hOf t) k)) (Fin.ext ?_)
  show pick ((j.val + 64 * (r.val % 128 / 64) + 1024 - r.val % 128) % 1024) = min (640 + (2048 * (t.val % 4) + r.val) % 64 - j.val) 256
  unfold pick
  split <;> omega

theorem bias_off (t : Fin cfg0.N) (r : Fin 2048) (k : Fin 640) (h : ∀ j, place r j ≠ k) :
    k0_pay2 (B5 m c t) (ix2 ⟨r.val % 128, by omega⟩ k) = ⊥ := by
  rw [table_at]
  refine if_neg fun hk => ?_
  have hk : r.val % 128 / 64 ≤ k.val / 64 ∧ k.val / 64 ≤ r.val % 128 / 64 + 8 := hk
  exact h ⟨k.val - 64 * (r.val % 128 / 64), by omega⟩ (Fin.ext (by
    show k.val - 64 * (r.val % 128 / 64) + 64 * (r.val % 128 / 64) = k.val; omega))

theorem score_on (t : Fin cfg0.N) (r : Fin 2048) (j : Fin 576) :
    score (arg0 m c) (arg1 m c) (arg2 m c) (arg3 m c) (bOf t) (posOf t r) (hOf t) j
      = pointScore (first (grid0.coords t)) (k0_pay3 (B0 m c t) (B6 m c t)) (keys (B1 m c t) (B2 m c t) (B7 m c t))
          (k0_pay2 (B5 m c t)) r (place r j) := by
  unfold score pointScore
  have hm : (first (grid0.coords t) = 1#1 ∧ 128 * (r.val / 128) + (place r j).val < 512)
      ↔ ¬512 ≤ 64 * ((posOf t r).val / 64) + j.val := by
    rw [first_eq]
    show ((if t.val % 4 = 0 then 1#1 else 0#1) = 1#1 ∧ 128 * (r.val / 128) + (j.val + 64 * (r.val % 128 / 64)) < 512)
      ↔ ¬512 ≤ 64 * ((2048 * (t.val % 4) + r.val) / 64) + j.val
    by_cases h0 : t.val % 4 = 0
    · rw [if_pos h0]
      constructor
      · intro h; omega
      · intro h; exact ⟨rfl, by omega⟩
    · rw [if_neg h0]
      constructor
      · intro h; exact absurd h.1 (by decide)
      · intro h; omega
  by_cases hv : 512 ≤ 64 * ((posOf t r).val / 64) + j.val
  · rw [if_pos hv, if_neg (fun h => hm.mp h hv), bias_on]
    refine congrArg (· + _) (Finset.sum_congr rfl fun d _ => ?_)
    rw [q_row, k_row m c t _ (keyPos (posOf t r) j) d (by
      have hv : 512 ≤ 64 * ((2048 * (t.val % 4) + r.val) / 64) + j.val := hv
      show 64 * ((2048 * (t.val % 4) + r.val) / 64) + j.val - 512 + 512
        = 2048 * (t.val % 4) + (128 * (r.val / 128) + (j.val + 64 * (r.val % 128 / 64)))
      omega)]
  · rw [if_neg hv, if_pos (hm.mpr hv)]

theorem score_off (t : Fin cfg0.N) (r : Fin 2048) (k : Fin 640) (h : ∀ j, place r j ≠ k) :
    pointScore (first (grid0.coords t)) (k0_pay3 (B0 m c t) (B6 m c t)) (keys (B1 m c t) (B2 m c t) (B7 m c t))
          (k0_pay2 (B5 m c t)) r k = ⊥ := by
  unfold pointScore
  rw [bias_off m c t r k h]
  split
  · rfl
  · exact EReal.add_bot _

/-- The block a point writes holds the attention of its positions and head. -/
theorem blockOf_at (h1 : ∀ i, IsReal (arg1 m c i)) (h2 : ∀ i, IsReal (arg2 m c i)) (h3 : ∀ i, IsReal (arg3 m c i)) (t : Fin cfg0.N)
    (r : Fin 2048) (d : Fin 128) :
    blockOf m c t (ix2 r d) = attn (arg0 m c) (arg1 m c) (arg2 m c) (arg3 m c) (bOf t) (posOf t r) (hOf t) d := by
  unfold blockOf attn
  rw [block_at]
  refine softmax_eq (place r) (place_inj r) _
    (fun k => k0_pay9 (B3 m c t) (B4 m c t) (ix2 ⟨128 * (r.val / 128) + k.val, by omega⟩ d)) _ _ (score_on m c t r) (score_off m c t r) ?_ ?_ ?_
  · intro j hj
    have hv : 512 ≤ 64 * ((posOf t r).val / 64) + j.val := by
      by_contra hn
      exact hj (by unfold score; rw [if_neg hn])
    unfold vband
    rw [if_pos hv]
    rw [vals_at, cat_vals m c t _ (keyPos (posOf t r) j) d (by
      have hv : 512 ≤ 64 * ((2048 * (t.val % 4) + r.val) / 64) + j.val := hv
      show 64 * ((2048 * (t.val % 4) + r.val) / 64) + j.val - 512 + 512
        = 2048 * (t.val % 4) + (128 * (r.val / 128) + (j.val + 64 * (r.val % 128 / 64)))
      omega)]
    rfl
  · intro k
    by_cases hk : ∃ j, place r j = k
    · obtain ⟨j, rfl⟩ := hk
      rw [← score_on]
      exact score_ne_top _ _ _ _ h1 h2 h3 _ _ _ _
    · rw [score_off m c t r k fun j hj => hk ⟨j, hj⟩]
      exact bot_ne_top
  · refine ⟨place r ⟨512, by omega⟩, ?_⟩
    rw [← score_on]
    exact (score_real _ _ _ _ h1 h2 h3 _ _ _ _ (by show 512 ≤ _ + 512; omega)).ne_bot

/-- The result array: the attention, the heads side by side. -/
def outArr : S2x8192x1024.Idx → EReal := fun i =>
  attn (arg0 m c) (arg1 m c) (arg2 m c) (arg3 m c) (i 0) (i 1) ⟨(i 2).val / 128, by have : (i 2).val < 1024 := (i 2).isLt; omega⟩
    ⟨(i 2).val % 128, by omega⟩

theorem mem_blk (t : Fin cfg0.N) (i : S2x8192x1024.Idx) :
    i ∈ ((cfg0.win 8).blk t).view.set ↔ (i 0 : Nat) = t.val / 32 ∧ (i 1 : Nat) / 2048 = t.val % 4 ∧ (i 2 : Nat) / 128 = t.val / 4 % 8 := by
  show i ∈ ((View.whole main_v21).slice (win0_8.rect t)).set ↔ _
  rw [View.set_slice_whole, Rect.mem_set_unit]
  obtain ⟨e0, e1, e2⟩ := index8 t
  constructor
  · intro h
    have a0 : win0_8.index t 0 * 1 ≤ (i 0 : Nat) ∧ (i 0 : Nat) < win0_8.index t 0 * 1 + 1 := h 0
    have a1 : win0_8.index t 1 * 2048 ≤ (i 1 : Nat) ∧ (i 1 : Nat) < win0_8.index t 1 * 2048 + 2048 := h 1
    have a2 : win0_8.index t 2 * 128 ≤ (i 2 : Nat) ∧ (i 2 : Nat) < win0_8.index t 2 * 128 + 128 := h 2
    omega
  · intro h a
    match a with
    | ⟨0, _⟩ => show win0_8.index t 0 * 1 ≤ (i 0 : Nat) ∧ (i 0 : Nat) < win0_8.index t 0 * 1 + 1; omega
    | ⟨1, _⟩ => show win0_8.index t 1 * 2048 ≤ (i 1 : Nat) ∧ (i 1 : Nat) < win0_8.index t 1 * 2048 + 2048; omega
    | ⟨2, _⟩ => show win0_8.index t 2 * 128 ≤ (i 2 : Nat) ∧ (i 2 : Nat) < win0_8.index t 2 * 128 + 128; omega

theorem cover (i : S2x8192x1024.Idx) : ∃ t : Fin cfg0.N, (cfg0.win 8).flush t = true ∧ i ∈ ((cfg0.win 8).blk t).view.set := by
  have h0 : (i 0 : Nat) < 2 := (i 0).isLt
  have h1 : (i 1 : Nat) < 8192 := (i 1).isLt
  have h2 : (i 2 : Nat) < 1024 := (i 2).isLt
  have hN : cfg0.N = 64 := N_0
  refine ⟨⟨((i 0 : Nat) * 8 + (i 2 : Nat) / 128) * 4 + (i 1 : Nat) / 2048, by omega⟩, flush0_8 _, ?_⟩
  rw [mem_blk]
  dsimp only
  omega

theorem flushed_eq (h1 : ∀ i, IsReal (arg1 m c i)) (h2 : ∀ i, IsReal (arg2 m c i)) (h3 : ∀ i, IsReal (arg3 m c i)) (t : Fin cfg0.N) :
    (dats m 0 c).flushed 8 t = ((cfg0.win 8).blk t).view.read (Elt Ideal) (outArr m c) := by
  refine funext fun (i : S1x2048x128.Idx) => ?_
  have h0 : (i 0).val < 1 := (i 0).isLt
  obtain ⟨r, d, hi⟩ : ∃ (r : Fin 2048) (d : Fin 128), i = ix3 0 r d := ⟨i 1, i 2, funext fun a => Fin.ext (match a with
    | ⟨0, _⟩ => by show (i 0).val = 0; omega
    | ⟨1, _⟩ => rfl
    | ⟨2, _⟩ => rfl)⟩
  rw [hi]
  refine (flushed_at m c t r d).trans ((blockOf_at m c h1 h2 h3 t r d).trans ?_)
  obtain ⟨e0, e1, e2⟩ := index8 t
  have hj : ((cfg0.win 8).blk t).view.emb (ix3 0 r d : S1x2048x128.Idx)
      = (ix3 (bOf t) (posOf t r) ⟨128 * (t.val / 4 % 8) + d.val, by omega⟩ : S2x8192x1024.Idx) := funext fun a => Fin.ext (match a with
    | ⟨0, _⟩ => by show win0_8.index t 0 * 1 + 1 * 0 = t.val / 32; omega
    | ⟨1, _⟩ => by show win0_8.index t 1 * 2048 + 1 * r.val = 2048 * (t.val % 4) + r.val; omega
    | ⟨2, _⟩ => by show win0_8.index t 2 * 128 + 1 * d.val = 128 * (t.val / 4 % 8) + d.val; omega)
  show _ = outArr m c (((cfg0.win 8).blk t).view.emb (ix3 0 r d : S1x2048x128.Idx))
  rw [hj]
  unfold outArr
  show attn _ _ _ _ (bOf t) (posOf t r) (hOf t) d
    = attn _ _ _ _ (bOf t) (posOf t r) ⟨(128 * (t.val / 4 % 8) + d.val) / 128, _⟩ ⟨(128 * (t.val / 4 % 8) + d.val) % 128, _⟩
  rw [show hOf t = ⟨(128 * (t.val / 4 % 8) + d.val) / 128, by omega⟩ from Fin.ext (by show t.val / 4 % 8 = (128 * (t.val / 4 % 8) + d.val) / 128; omega)]
  exact congrArg _ (Fin.ext (by show d.val = (128 * (t.val / 4 % 8) + d.val) % 128; omega))

theorem final_eq (h1 : ∀ i, IsReal (arg1 m c i)) (h2 : ∀ i, IsReal (arg2 m c i)) (h3 : ∀ i, IsReal (arg3 m c i)) :
    (dats m 0 c).arrAt 8 cfg0.N = outArr m c :=
  (dats m 0 c).arrAt_eq_of_cover 8 (outArr m c) (fun t _ => flushed_eq m c h1 h2 h3 t) cover

end Cert.Attn

end
-- ==== Proof.AttnRef.lean ====
/- The reference program's result, read at an index, is the banded attention. -/
module

public import proofs.«01_k».proof.Proof.AttnSpec
public import proofs.«01_k».proof.Proof.Gen.ReferenceIdeal.Read
public import Idealize.ShloMosaic.Lib.KernelVsHost

@[expose] public section

set_option maxRecDepth 16384

noncomputable section

namespace Cert.Attn.Ref

open Cert.Attn Cert.ReferenceIdeal Cert.ReferenceIdeal.Read Idealize.ShloMosaic
open Cert.ReferenceIdeal.Gen

theorem v2_at (x0 : Proj) (b : Fin 2) (t : Fin 8192) (h : Fin 8) (d : Fin 128) :
    val_main_v2 (F := Ideal) x0 (ix4 b t h d) = headAt x0 2048 (by decide) b t h d := by
  rw [val_main_v2_apply, val_main_v1_apply, val_main_v0_apply]
  refine congrArg x0 (funext fun a => Fin.ext ?_)
  have := b.isLt; have := t.isLt; have := h.isLt; have := d.isLt
  match a with
  | ⟨0, _⟩ => show (((b.val * 8192 + t.val) * 8 + h.val) * 128 + d.val) / 8388608 = b.val; omega
  | ⟨1, _⟩ => show (((b.val * 8192 + t.val) * 8 + h.val) * 128 + d.val) / 1024 % 8192 = t.val; omega
  | ⟨2, _⟩ => show 2048 + (((b.val * 8192 + t.val) * 8 + h.val) * 128 + d.val) % 1024 = 2048 + 128 * h.val + d.val; omega

theorem v4_at (x0 : Proj) (b : Fin 2) (t : Fin 8192) (h : Fin 8) (d : Fin 128) :
    val_main_v4 (F := Ideal) x0 (ix4 b t h d) = headAt x0 3072 (by decide) b t h d := by
  rw [val_main_v4_apply, val_main_v3_apply, val_main_v0_apply]
  refine congrArg x0 (funext fun a => Fin.ext ?_)
  have := b.isLt; have := t.isLt; have := h.isLt; have := d.isLt
  match a with
  | ⟨0, _⟩ => show (((b.val * 8192 + t.val) * 8 + h.val) * 128 + d.val) / 8388608 = b.val; omega
  | ⟨1, _⟩ => show (((b.val * 8192 + t.val) * 8 + h.val) * 128 + d.val) / 1024 % 8192 = t.val; omega
  | ⟨2, _⟩ => show 3072 + (((b.val * 8192 + t.val) * 8 + h.val) * 128 + d.val) % 1024 = 3072 + 128 * h.val + d.val; omega

theorem v6_at (x0 : Proj) (b : Fin 2) (t : Fin 8192) (h : Fin 8) (d : Fin 128) :
    val_main_v6 (F := Ideal) x0 (ix4 b t h d) = vn x0 b t h d := by
  rw [val_main_v6_apply, val_main_v5_apply, val_main_v0_apply]
  refine congrArg x0 (funext fun a => Fin.ext ?_)
  have := b.isLt; have := t.isLt; have := h.isLt; have := d.isLt
  match a with
  | ⟨0, _⟩ => show (((b.val * 8192 + t.val) * 8 + h.val) * 128 + d.val) / 8388608 = b.val; omega
  | ⟨1, _⟩ => show (((b.val * 8192 + t.val) * 8 + h.val) * 128 + d.val) / 1024 % 8192 = t.val; omega
  | ⟨2, _⟩ => show 4096 + (((b.val * 8192 + t.val) * 8 + h.val) * 128 + d.val) % 1024 = 4096 + 128 * h.val + d.val; omega

theorem v21_at (x0 : Proj) (x1 : Gain) (b : Fin 2) (t : Fin 8192) (h : Fin 8) (d : Fin 128) :
    val_main_v21 (F := Ideal) x0 x1 (ix4 b t h d) = qn x0 x1 b t h d := by
  rw [val_main_v21_apply, val_main_v19_apply, val_main_v16_apply, val_main_v15_apply, val_main_v14_apply, val_main_v13_apply,
    val_main_v11_apply, val_main_v9_apply, val_main_v8_apply, val_main_v10_apply, val_main_v12_apply, val_main_v18_apply,
    val_main_v17_apply, val_main_v20_apply, v2_at]
  have hs : ∀ k : Fin 128, val_main_v7 (F := Ideal) x0 (idx_main_v8 (idx_main_v9 (idx_main_v15 (ix4 b t h d))) k)
      = headAt x0 2048 (by decide) b t h k * headAt x0 2048 (by decide) b t h k := fun k => by
    have hi : idx_main_v8 (idx_main_v9 (idx_main_v15 (ix4 b t h d))) k = ix4 b t h k := funext fun a => by fin_cases a <;> rfl
    rw [hi, val_main_v7_apply, v2_at]; rfl
  have hg : idx_main_v17 (idx_main_v18 (ix4 b t h d)) = ix1 d := funext fun a => by fin_cases a; rfl
  simp only [hs, hg, val_main_cst_apply, val_main_cst_0_apply, val_main_cst_1_apply, val_main_cst_2_apply]
  unfold qn rmsn
  show (headAt x0 2048 _ b t h d * Ideal.rsqrt (Ideal.div (Ideal.ofBits .f32 0x00000000#32 + _) _ + _)) * x1 (ix1 d) * _ = _
  rw [Ideal.ofBits_zero_f32, zero_add]
  rfl

theorem v34_at (x0 : Proj) (x2 : Gain) (b : Fin 2) (t : Fin 8192) (h : Fin 8) (d : Fin 128) :
    val_main_v34 (F := Ideal) x0 x2 (ix4 b t h d) = kn x0 x2 b t h d := by
  rw [val_main_v34_apply, val_main_v31_apply, val_main_v30_apply, val_main_v29_apply, val_main_v28_apply,
    val_main_v26_apply, val_main_v24_apply, val_main_v23_apply, val_main_v25_apply, val_main_v27_apply, val_main_v33_apply,
    val_main_v32_apply, v4_at]
  have hs : ∀ k : Fin 128, val_main_v22 (F := Ideal) x0 (idx_main_v23 (idx_main_v24 (idx_main_v30 (ix4 b t h d))) k)
      = headAt x0 3072 (by decide) b t h k * headAt x0 3072 (by decide) b t h k := fun k => by
    have hi : idx_main_v23 (idx_main_v24 (idx_main_v30 (ix4 b t h d))) k = ix4 b t h k := funext fun a => by fin_cases a <;> rfl
    rw [hi, val_main_v22_apply, v4_at]; rfl
  have hg : idx_main_v32 (idx_main_v33 (ix4 b t h d)) = ix1 d := funext fun a => by fin_cases a; rfl
  simp only [hs, hg, val_main_cst_3_apply, val_main_cst_4_apply, val_main_cst_5_apply]
  unfold kn rmsn
  show (headAt x0 3072 _ b t h d * Ideal.rsqrt (Ideal.div (Ideal.ofBits .f32 0x00000000#32 + _) _ + _)) * x2 (ix1 d) = _
  rw [Ideal.ofBits_zero_f32, zero_add]
  rfl

/-- The position with chunk `c` and offset `q` in it. -/
def pos (c : Fin 128) (q : Fin 64) : Fin 8192 := ⟨64 * c.val + q.val, by omega⟩

theorem chunk_idx (b : Fin 2) (c : Fin 128) (q : Fin 64) (h : Fin 8) (d : Fin 128) :
    idx_main_v35 (ix5 b c q h d) = ix4 b (pos c q) h d := by
  have := b.isLt; have := c.isLt; have := q.isLt; have := h.isLt; have := d.isLt
  refine funext fun a => Fin.ext ?_
  match a with
  | ⟨0, _⟩ => show ((((b.val * 128 + c.val) * 64 + q.val) * 8 + h.val) * 128 + d.val) / 8388608 = b.val; omega
  | ⟨1, _⟩ => show ((((b.val * 128 + c.val) * 64 + q.val) * 8 + h.val) * 128 + d.val) / 1024 % 8192 = 64 * c.val + q.val; omega
  | ⟨2, _⟩ => show ((((b.val * 128 + c.val) * 64 + q.val) * 8 + h.val) * 128 + d.val) / 128 % 8 = h.val; omega
  | ⟨3, _⟩ => show ((((b.val * 128 + c.val) * 64 + q.val) * 8 + h.val) * 128 + d.val) % 128 = d.val; omega

theorem v35_at (x0 : Proj) (x1 : Gain) (b : Fin 2) (c : Fin 128) (q : Fin 64) (h : Fin 8) (d : Fin 128) :
    val_main_v35 (F := Ideal) x0 x1 (ix5 b c q h d) = qn x0 x1 b (pos c q) h d := by
  rw [val_main_v35_apply, chunk_idx, v21_at]

theorem v36_at (x0 : Proj) (x2 : Gain) (b : Fin 2) (c : Fin 128) (q : Fin 64) (h : Fin 8) (d : Fin 128) :
    val_main_v36 (F := Ideal) x0 x2 (ix5 b c q h d) = kn x0 x2 b (pos c q) h d := by
  rw [val_main_v36_apply, show idx_main_v36 (ix5 b c q h d) = ix4 b (pos c q) h d from chunk_idx b c q h d, v34_at]

theorem v48_at (x0 : Proj) (b : Fin 2) (c : Fin 128) (q : Fin 64) (h : Fin 8) (d : Fin 128) :
    val_main_v48 (F := Ideal) x0 (ix5 b c q h d) = vn x0 b (pos c q) h d := by
  rw [val_main_v48_apply, show idx_main_v48 (ix5 b c q h d) = ix4 b (pos c q) h d from chunk_idx b c q h d, v6_at]

/-- The band's source: eight chunks of zeros, then the sequence's chunks. -/
theorem pad_at (x : S2x128x64x8x128.Idx → EReal) (v : S_.Idx → EReal) (hv : v (Shape.Idx.first h_S_) = 0)
    (b : Fin 2) (c : Fin 136) (q : Fin 64) (h : Fin 8) (d : Fin 128) :
    pad S2x136x64x8x128 ![0, 8, 0, 0, 0] ![0, 0, 0, 0, 0] ![0, 0, 0, 0, 0] x v
        pads_S2x128x64x8x128_S2x136x64x8x128_000_800_000_000_000 h_S_ (ix5 b c q h d)
      = if hc : 8 ≤ c.val then x (ix5 b ⟨c.val - 8, by omega⟩ q h d) else 0 := by
  split
  · rename_i hc
    refine pad_apply_of_inside _ _ _ x v _ h_S_ _ (ix5 b ⟨c.val - 8, by omega⟩ q h d) fun a => ?_
    match a with
    | ⟨0, _⟩ => show b.val = 0 + b.val * (0 + 1); omega
    | ⟨1, _⟩ => show c.val = 8 + (c.val - 8) * (0 + 1); omega
    | ⟨2, _⟩ => show q.val = 0 + q.val * (0 + 1); omega
    | ⟨3, _⟩ => show h.val = 0 + h.val * (0 + 1); omega
    | ⟨4, _⟩ => show d.val = 0 + d.val * (0 + 1); omega
  · rename_i hc
    rw [pad_apply_of_not_inside _ _ _ x v _ h_S_ _ (1 : Fin 5) (fun hh => hc (by exact hh.1)), hv]

/-- Chunk `c + n` of the band's source, for each chunk `c`. -/
def piece (y : S2x136x64x8x128.Idx → EReal) (n : Fin 9) : S2x128x64x8x128.Idx → EReal := fun i =>
  y (ix5 (n0 := 2) (n1 := 136) (n2 := 64) (n3 := 8) (n4 := 128) (i 0) ⟨(i 1).val + n.val, by have : (i 1).val < 128 := (i 1).isLt; omega⟩ (i 2) (i 3) (i 4))

theorem band_at (y : S2x136x64x8x128.Idx → EReal)
    (hc : Shape.Concatenates ((List.ofFn fun n : Fin 9 => (⟨S2x128x64x8x128, piece y n⟩ : (s : Shape) × (s.Idx → EReal))).map (·.1))
      S2x128x576x8x128 2)
    (b : Fin 2) (c : Fin 128) (j : Fin 576) (h : Fin 8) (d : Fin 128) :
    concatenate S2x128x576x8x128 2 (List.ofFn fun n : Fin 9 => (⟨S2x128x64x8x128, piece y n⟩ : (s : Shape) × (s.Idx → EReal)))
        hc (ix5 b c j h d)
      = y (ix5 b ⟨c.val + j.val / 64, by omega⟩ ⟨j.val % 64, by omega⟩ h d) := by
  refine (concatenate_ofFn_apply (t := S2x128x576x8x128) (s₁ := S2x128x64x8x128) (2 : Fin 5) (piece y) hc rfl 64 rfl (ix5 b c j h d)
    ⟨j.val / 64, by omega⟩ rfl (ix5 b c ⟨j.val % 64, by omega⟩ h d) rfl (fun a ha => ?_)).trans rfl
  · match a with
    | ⟨0, _⟩ => rfl
    | ⟨1, _⟩ => rfl
    | ⟨2, _⟩ => exact absurd rfl ha
    | ⟨3, _⟩ => rfl
    | ⟨4, _⟩ => rfl

theorem v47_eq (x0 : Proj) (x2 : Gain) (b : Fin 2) (c : Fin 128) (j : Fin 576) (h : Fin 8) (d : Fin 128) :
    val_main_v47 (F := Ideal) x0 x2 (ix5 b c j h d)
      = val_main_v37 (F := Ideal) x0 x2 (ix5 b ⟨c.val + j.val / 64, by omega⟩ ⟨j.val % 64, by omega⟩ h d) := by
  have e0 : val_main_v38 (F := Ideal) x0 x2 = piece (val_main_v37 (F := Ideal) x0 x2) 0 := funext fun i => by
    rw [val_main_v38_apply]; unfold piece; refine congrArg _ (funext fun a => Fin.ext ?_)
    match a with
    | ⟨0, _⟩ => rfl
    | ⟨1, _⟩ => show _ = (i 1).val + 0; first | rfl | exact Nat.add_comm _ _
    | ⟨2, _⟩ => rfl
    | ⟨3, _⟩ => rfl
    | ⟨4, _⟩ => rfl
  have e1 : val_main_v39 (F := Ideal) x0 x2 = piece (val_main_v37 (F := Ideal) x0 x2) 1 := funext fun i => by
    rw [val_main_v39_apply]; unfold piece; refine congrArg _ (funext fun a => Fin.ext ?_)
    match a with
    | ⟨0, _⟩ => rfl
    | ⟨1, _⟩ => show _ = (i 1).val + 1; first | rfl | exact Nat.add_comm _ _
    | ⟨2, _⟩ => rfl
    | ⟨3, _⟩ => rfl
    | ⟨4, _⟩ => rfl
  have e2 : val_main_v40 (F := Ideal) x0 x2 = piece (val_main_v37 (F := Ideal) x0 x2) 2 := funext fun i => by
    rw [val_main_v40_apply]; unfold piece; refine congrArg _ (funext fun a => Fin.ext ?_)
    match a with
    | ⟨0, _⟩ => rfl
    | ⟨1, _⟩ => show _ = (i 1).val + 2; first | rfl | exact Nat.add_comm _ _
    | ⟨2, _⟩ => rfl
    | ⟨3, _⟩ => rfl
    | ⟨4, _⟩ => rfl
  have e3 : val_main_v41 (F := Ideal) x0 x2 = piece (val_main_v37 (F := Ideal) x0 x2) 3 := funext fun i => by
    rw [val_main_v41_apply]; unfold piece; refine congrArg _ (funext fun a => Fin.ext ?_)
    match a with
    | ⟨0, _⟩ => rfl
    | ⟨1, _⟩ => show _ = (i 1).val + 3; first | rfl | exact Nat.add_comm _ _
    | ⟨2, _⟩ => rfl
    | ⟨3, _⟩ => rfl
    | ⟨4, _⟩ => rfl
  have e4 : val_main_v42 (F := Ideal) x0 x2 = piece (val_main_v37 (F := Ideal) x0 x2) 4 := funext fun i => by
    rw [val_main_v42_apply]; unfold piece; refine congrArg _ (funext fun a => Fin.ext ?_)
    match a with
    | ⟨0, _⟩ => rfl
    | ⟨1, _⟩ => show _ = (i 1).val + 4; first | rfl | exact Nat.add_comm _ _
    | ⟨2, _⟩ => rfl
    | ⟨3, _⟩ => rfl
    | ⟨4, _⟩ => rfl
  have e5 : val_main_v43 (F := Ideal) x0 x2 = piece (val_main_v37 (F := Ideal) x0 x2) 5 := funext fun i => by
    rw [val_main_v43_apply]; unfold piece; refine congrArg _ (funext fun a => Fin.ext ?_)
    match a with
    | ⟨0, _⟩ => rfl
    | ⟨1, _⟩ => show _ = (i 1).val + 5; first | rfl | exact Nat.add_comm _ _
    | ⟨2, _⟩ => rfl
    | ⟨3, _⟩ => rfl
    | ⟨4, _⟩ => rfl
  have e6 : val_main_v44 (F := Ideal) x0 x2 = piece (val_main_v37 (F := Ideal) x0 x2) 6 := funext fun i => by
    rw [val_main_v44_apply]; unfold piece; refine congrArg _ (funext fun a => Fin.ext ?_)
    match a with
    | ⟨0, _⟩ => rfl
    | ⟨1, _⟩ => show _ = (i 1).val + 6; first | rfl | exact Nat.add_comm _ _
    | ⟨2, _⟩ => rfl
    | ⟨3, _⟩ => rfl
    | ⟨4, _⟩ => rfl
  have e7 : val_main_v45 (F := Ideal) x0 x2 = piece (val_main_v37 (F := Ideal) x0 x2) 7 := funext fun i => by
    rw [val_main_v45_apply]; unfold piece; refine congrArg _ (funext fun a => Fin.ext ?_)
    match a with
    | ⟨0, _⟩ => rfl
    | ⟨1, _⟩ => show _ = (i 1).val + 7; first | rfl | exact Nat.add_comm _ _
    | ⟨2, _⟩ => rfl
    | ⟨3, _⟩ => rfl
    | ⟨4, _⟩ => rfl
  have e8 : val_main_v46 (F := Ideal) x0 x2 = piece (val_main_v37 (F := Ideal) x0 x2) 8 := funext fun i => by
    rw [val_main_v46_apply]; unfold piece; refine congrArg _ (funext fun a => Fin.ext ?_)
    match a with
    | ⟨0, _⟩ => rfl
    | ⟨1, _⟩ => show _ = (i 1).val + 8; first | rfl | exact Nat.add_comm _ _
    | ⟨2, _⟩ => rfl
    | ⟨3, _⟩ => rfl
    | ⟨4, _⟩ => rfl
  unfold val_main_v47
  rw [e0, e1, e2, e3, e4, e5, e6, e7, e8]
  exact band_at (val_main_v37 (F := Ideal) x0 x2) _ b c j h d

theorem v59_eq (x0 : Proj) (b : Fin 2) (c : Fin 128) (j : Fin 576) (h : Fin 8) (d : Fin 128) :
    val_main_v59 (F := Ideal) x0 (ix5 b c j h d)
      = val_main_v49 (F := Ideal) x0 (ix5 b ⟨c.val + j.val / 64, by omega⟩ ⟨j.val % 64, by omega⟩ h d) := by
  have e0 : val_main_v50 (F := Ideal) x0 = piece (val_main_v49 (F := Ideal) x0) 0 := funext fun i => by
    rw [val_main_v50_apply]; unfold piece; refine congrArg _ (funext fun a => Fin.ext ?_)
    match a with
    | ⟨0, _⟩ => rfl
    | ⟨1, _⟩ => show _ = (i 1).val + 0; first | rfl | exact Nat.add_comm _ _
    | ⟨2, _⟩ => rfl
    | ⟨3, _⟩ => rfl
    | ⟨4, _⟩ => rfl
  have e1 : val_main_v51 (F := Ideal) x0 = piece (val_main_v49 (F := Ideal) x0) 1 := funext fun i => by
    rw [val_main_v51_apply]; unfold piece; refine congrArg _ (funext fun a => Fin.ext ?_)
    match a with
    | ⟨0, _⟩ => rfl
    | ⟨1, _⟩ => show _ = (i 1).val + 1; first | rfl | exact Nat.add_comm _ _
    | ⟨2, _⟩ => rfl
    | ⟨3, _⟩ => rfl
    | ⟨4, _⟩ => rfl
  have e2 : val_main_v52 (F := Ideal) x0 = piece (val_main_v49 (F := Ideal) x0) 2 := funext fun i => by
    rw [val_main_v52_apply]; unfold piece; refine congrArg _ (funext fun a => Fin.ext ?_)
    match a with
    | ⟨0, _⟩ => rfl
    | ⟨1, _⟩ => show _ = (i 1).val + 2; first | rfl | exact Nat.add_comm _ _
    | ⟨2, _⟩ => rfl
    | ⟨3, _⟩ => rfl
    | ⟨4, _⟩ => rfl
  have e3 : val_main_v53 (F := Ideal) x0 = piece (val_main_v49 (F := Ideal) x0) 3 := funext fun i => by
    rw [val_main_v53_apply]; unfold piece; refine congrArg _ (funext fun a => Fin.ext ?_)
    match a with
    | ⟨0, _⟩ => rfl
    | ⟨1, _⟩ => show _ = (i 1).val + 3; first | rfl | exact Nat.add_comm _ _
    | ⟨2, _⟩ => rfl
    | ⟨3, _⟩ => rfl
    | ⟨4, _⟩ => rfl
  have e4 : val_main_v54 (F := Ideal) x0 = piece (val_main_v49 (F := Ideal) x0) 4 := funext fun i => by
    rw [val_main_v54_apply]; unfold piece; refine congrArg _ (funext fun a => Fin.ext ?_)
    match a with
    | ⟨0, _⟩ => rfl
    | ⟨1, _⟩ => show _ = (i 1).val + 4; first | rfl | exact Nat.add_comm _ _
    | ⟨2, _⟩ => rfl
    | ⟨3, _⟩ => rfl
    | ⟨4, _⟩ => rfl
  have e5 : val_main_v55 (F := Ideal) x0 = piece (val_main_v49 (F := Ideal) x0) 5 := funext fun i => by
    rw [val_main_v55_apply]; unfold piece; refine congrArg _ (funext fun a => Fin.ext ?_)
    match a with
    | ⟨0, _⟩ => rfl
    | ⟨1, _⟩ => show _ = (i 1).val + 5; first | rfl | exact Nat.add_comm _ _
    | ⟨2, _⟩ => rfl
    | ⟨3, _⟩ => rfl
    | ⟨4, _⟩ => rfl
  have e6 : val_main_v56 (F := Ideal) x0 = piece (val_main_v49 (F := Ideal) x0) 6 := funext fun i => by
    rw [val_main_v56_apply]; unfold piece; refine congrArg _ (funext fun a => Fin.ext ?_)
    match a with
    | ⟨0, _⟩ => rfl
    | ⟨1, _⟩ => show _ = (i 1).val + 6; first | rfl | exact Nat.add_comm _ _
    | ⟨2, _⟩ => rfl
    | ⟨3, _⟩ => rfl
    | ⟨4, _⟩ => rfl
  have e7 : val_main_v57 (F := Ideal) x0 = piece (val_main_v49 (F := Ideal) x0) 7 := funext fun i => by
    rw [val_main_v57_apply]; unfold piece; refine congrArg _ (funext fun a => Fin.ext ?_)
    match a with
    | ⟨0, _⟩ => rfl
    | ⟨1, _⟩ => show _ = (i 1).val + 7; first | rfl | exact Nat.add_comm _ _
    | ⟨2, _⟩ => rfl
    | ⟨3, _⟩ => rfl
    | ⟨4, _⟩ => rfl
  have e8 : val_main_v58 (F := Ideal) x0 = piece (val_main_v49 (F := Ideal) x0) 8 := funext fun i => by
    rw [val_main_v58_apply]; unfold piece; refine congrArg _ (funext fun a => Fin.ext ?_)
    match a with
    | ⟨0, _⟩ => rfl
    | ⟨1, _⟩ => show _ = (i 1).val + 8; first | rfl | exact Nat.add_comm _ _
    | ⟨2, _⟩ => rfl
    | ⟨3, _⟩ => rfl
    | ⟨4, _⟩ => rfl
  unfold val_main_v59
  rw [e0, e1, e2, e3, e4, e5, e6, e7, e8]
  exact band_at (val_main_v49 (F := Ideal) x0) _ b c j h d

theorem fill0 : val_main_call0_v0 (F := Ideal) (Shape.Idx.first h_S_) = 0 := by
  show (((0#32 : BitVec 32).toInt : ℝ) : EReal) = 0
  simp

theorem fill1 : val_main_call1_v0 (F := Ideal) (Shape.Idx.first h_S_) = 0 := by
  show (((0#32 : BitVec 32).toInt : ℝ) : EReal) = 0
  simp

theorem v47_at (x0 : Proj) (x2 : Gain) (b : Fin 2) (t : Fin 8192) (c : Fin 128) (hc : c.val = t.val / 64) (j : Fin 576) (h : Fin 8)
    (d : Fin 128) (hj : 512 ≤ 64 * (t.val / 64) + j.val) :
    val_main_v47 (F := Ideal) x0 x2 (ix5 b c j h d) = kn x0 x2 b (keyPos t j) h d := by
  rw [v47_eq]
  unfold val_main_v37
  rw [pad_at _ _ fill0, dif_pos (by show 8 ≤ c.val + j.val / 64; omega), v36_at]
  exact congrArg (fun p => kn x0 x2 b p h d) (Fin.ext (by
    show 64 * (c.val + j.val / 64 - 8) + j.val % 64 = 64 * (t.val / 64) + j.val - 512; omega))

theorem v59_at (x0 : Proj) (b : Fin 2) (t : Fin 8192) (c : Fin 128) (hc : c.val = t.val / 64) (j : Fin 576) (h : Fin 8)
    (d : Fin 128) : val_main_v59 (F := Ideal) x0 (ix5 b c j h d) = vband x0 b t h d j := by
  rw [v59_eq]
  unfold val_main_v49
  rw [pad_at _ _ fill1]
  unfold vband
  by_cases hj : 512 ≤ 64 * (t.val / 64) + j.val
  · rw [if_pos hj, dif_pos (by show 8 ≤ c.val + j.val / 64; omega), v48_at]
    exact congrArg (fun p => vn x0 b p h d) (Fin.ext (by
      show 64 * (c.val + j.val / 64 - 8) + j.val % 64 = 64 * (t.val / 64) + j.val - 512; omega))
  · rw [if_neg hj, dif_neg (by show ¬ 8 ≤ c.val + j.val / 64; omega)]

/-! The bias: the clipped distance, as an index of the bias table. -/

theorem dist_word (q : Fin 64) (j : Fin 576) :
    (512#32 + BitVec.ofNat 32 q.val) - BitVec.ofNat 32 j.val = BitVec.ofNat 32 (576 + q.val - j.val) - 64#32 := by
  have := q.isLt; have := j.isLt
  apply BitVec.eq_of_toNat_eq
  simp only [BitVec.toNat_sub, BitVec.toNat_add, BitVec.toNat_ofNat]
  omega

theorem clip_word : ∀ n : Fin 640,
    (IntOp.addi (IntOp.minsi 128#32 (IntOp.maxsi 4294967168#32 (BitVec.ofNat 32 n.val - 64#32))) 128#32).toInt.toNat
      = min (64 + n.val) 256 := by decide +kernel

theorem v72_at (q : Fin 64) (j : Fin 576) :
    (val_main_v72 (F := Ideal) (ix2 q j)).toInt.toNat = min (640 + q.val - j.val) 256 := by
  rw [val_main_v72_apply, val_main_v70_apply, val_main_call2_v2_apply, val_main_v69_apply]
  have hd : IntOp.subi (val_main_v67 (F := Ideal) (ix2 q j)) (val_main_v68 (F := Ideal) (ix2 q j))
      = BitVec.ofNat 32 (576 + q.val - j.val) - 64#32 := by
    rw [← dist_word, val_main_v67_apply, val_main_v68_apply, val_main_v65_apply, val_main_v66_apply, val_main_v64_apply,
      val_main_v63_apply]
    rfl
  rw [hd, val_main_call2_v4_apply, val_main_call2_v1_apply, val_main_v71_apply]
  refine (clip_word ⟨576 + q.val - j.val, by omega⟩).trans ?_
  show min (64 + (576 + q.val - j.val)) 256 = _
  omega

theorem v73_at (x3 : Bias) (h : Fin 8) (q : Fin 64) (j : Fin 576) :
    val_main_v73 (F := Ideal) x3 (ix3 h q j) = x3 (ix2 h ⟨min (640 + q.val - j.val) 256, by omega⟩) := by
  unfold val_main_v73 Host.gather
  refine congrArg x3 (funext fun a => Fin.ext ?_)
  match a with
  | ⟨0, _⟩ =>
    show gather_S8x257_S64x576x1_S8x64x576_0_1_n_n_1_2_81.start (ix3 h q j) _ 0
      + gather_S8x257_S64x576x1_S8x64x576_0_1_n_n_1_2_81.batchCoord (ix3 h q j) 0
      + gather_S8x257_S64x576x1_S8x64x576_0_1_n_n_1_2_81.offCoord (ix3 h q j) 0 = h.val
    rw [GatherDims.batchCoord_eq_zero _ _ _ List.not_mem_nil]
    unfold GatherDims.start GatherDims.offCoord
    rw [dif_neg (by decide), dif_pos (by decide)]
    show 0 + 0 + h.val = h.val
    omega
  | ⟨1, _⟩ =>
    show gather_S8x257_S64x576x1_S8x64x576_0_1_n_n_1_2_81.start (ix3 h q j) _ 1
      + gather_S8x257_S64x576x1_S8x64x576_0_1_n_n_1_2_81.batchCoord (ix3 h q j) 1
      + gather_S8x257_S64x576x1_S8x64x576_0_1_n_n_1_2_81.offCoord (ix3 h q j) 1 = min (640 + q.val - j.val) 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hsi : gather_S8x257_S64x576x1_S8x64x576_0_1_n_n_1_2_81.siIdx (ix3 h q j)
        ⟨List.idxOf (1 : Fin 2) gather_S8x257_S64x576x1_S8x64x576_0_1_n_n_1_2_81.startIndexMap,
          List.idxOf_lt_length_iff.2 (by decide)⟩ = ix3 q j 0 := by
      funext b; refine Fin.ext ?_
      match b with
      | ⟨0, _⟩ => rfl
      | ⟨1, _⟩ => rfl
      | ⟨2, _⟩ => rfl
    rw [hsi, val_main_call3_v0_apply]
    have hi : idx_main_call3_v0 (ix3 q j 0) = ix2 q j := funext fun a => by fin_cases a <;> rfl
    rw [hi, v72_at]
    show min (min (640 + q.val - j.val) 256) (257 - 1) + 0 + 0 = _
    omega

/-! Which keys of the band are positions of the sequence. -/

theorem div_word : ∀ j : Fin 576, IntOp.divsi .host (BitVec.ofNat 32 j.val) 64#32 = BitVec.ofNat 32 (j.val / 64) := by
  decide +kernel

theorem valid_word : ∀ (c : Fin 128) (n : Fin 9),
    IntOp.cmpi .sge (IntOp.addi (IntOp.subi (BitVec.ofNat 32 c.val) 8#32) (BitVec.ofNat 32 n.val)) 0#32
      = if 8 ≤ c.val + n.val then 1#1 else 0#1 := by decide +kernel

theorem v86_at (c : Fin 128) (j : Fin 576) :
    val_main_v86 (F := Ideal) (ix5 0 c 0 0 j) = if 8 ≤ c.val + j.val / 64 then 1#1 else 0#1 := by
  rw [val_main_v86_apply, val_main_v85_apply, val_main_v83_apply, val_main_v81_apply, val_main_v82_apply, val_main_v77_apply,
    val_main_v75_apply, val_main_v80_apply, val_main_v79_apply, val_main_v76_apply, val_main_v78_apply]
  refine Eq.trans ?_ (valid_word c ⟨j.val / 64, by omega⟩)
  show _ = IntOp.cmpi .sge (IntOp.addi (IntOp.subi (BitVec.ofNat 32 c.val) 8#32) (BitVec.ofNat 32 (j.val / 64))) 0#32
  rw [← div_word j]
  rfl

theorem v60_at (x0 : Proj) (x1 x2 : Gain) (b : Fin 2) (t : Fin 8192) (c : Fin 128) (q : Fin 64) (hc : c.val = t.val / 64)
    (hq : q.val = t.val % 64) (h : Fin 8) (j : Fin 576) (hj : 512 ≤ 64 * (t.val / 64) + j.val) :
    val_main_v60 (F := Ideal) x0 x1 x2 (ix5 b c h q j) = ∑ d, qn x0 x1 b t h d * kn x0 x2 b (keyPos t j) h d := by
  rw [val_main_v60_apply]
  refine Finset.sum_congr rfl fun d _ => ?_
  have hl : lidx_main_v60 (ix5 b c h q j) d = ix5 b c q h d := funext fun a => by fin_cases a <;> rfl
  have hr : ridx_main_v60 (ix5 b c h q j) d = ix5 b c j h d := funext fun a => by fin_cases a <;> rfl
  rw [hl, hr, v35_at, v47_at x0 x2 b t c hc j h d hj]
  exact congrArg (fun p => qn x0 x1 b p h d * _) (Fin.ext (by show 64 * c.val + q.val = t.val; omega))

theorem v90_at (x0 : Proj) (x1 x2 : Gain) (x3 : Bias) (b : Fin 2) (t : Fin 8192) (c : Fin 128) (q : Fin 64)
    (hc : c.val = t.val / 64) (hq : q.val = t.val % 64) (h : Fin 8) (j : Fin 576) :
    val_main_v90 (F := Ideal) x0 x1 x2 x3 (ix5 b c h q j) = score x0 x1 x2 x3 b t h j := by
  rw [val_main_v90_apply, val_main_call4_v1_apply, val_main_call4_v2_apply]
  have hi : idx_main_call4_v1 (ix5 b c h q j) = ix5 0 c 0 0 j := funext fun a => by fin_cases a <;> rfl
  rw [hi, v86_at]
  unfold score
  by_cases hj : 512 ≤ 64 * (t.val / 64) + j.val
  · rw [if_pos hj, if_pos (by omega), val_main_v89_apply, v60_at x0 x1 x2 b t c q hc hq h j hj, val_main_v88_apply,
      val_main_v87_apply]
    have hk : idx_main_v87 (idx_main_v88 (ix5 b c h q j)) = ix3 h q j := funext fun a => by fin_cases a <;> rfl
    rw [hk, v73_at]
    show _ + _ = _ + _
    exact congrArg (fun p => _ + x3 (ix2 h p)) (Fin.ext (by
      show min (640 + q.val - j.val) 256 = min (640 + t.val % 64 - j.val) 256; rw [hq]))
  · rw [if_neg hj, if_neg (by omega)]
    exact ofBits_negInf

theorem v91_at (x0 : Proj) (x1 x2 : Gain) (x3 : Bias) (b : Fin 2) (t : Fin 8192) (c : Fin 128) (q : Fin 64)
    (hc : c.val = t.val / 64) (hq : q.val = t.val % 64) (h : Fin 8) :
    val_main_v91 (F := Ideal) x0 x1 x2 x3 (ix4 b c h q) = Finset.univ.sup (score x0 x1 x2 x3 b t h) := by
  unfold val_main_v91 val_main_cst_15
  generalize hy : val_main_v90 (F := Ideal) x0 x1 x2 x3 = y
  have hr : S2x128x8x64x576.Reduces [4] S2x128x8x64 := by decide
  refine (Host.reduce_eq_fold_single (FloatOps.maximumf (F := Ideal) (φ := .f32)) y _
    reducesTo_S2x128x8x64x576_S2x128x8x64_d4 hr h_S_ (ix4 b c h q)).trans ?_
  show Finset.univ.fold max (Ideal.ofBits .f32 0xFF800000#32) (fun j : Fin 576 => y (hr.lift (ix4 b c h q) j)) = _
  rw [ofBits_negInf, fold_max_eq_sup]
  refine Finset.sup_congr rfl fun (j : Fin 576) _ => ?_
  have hi : hr.lift (ix4 b c h q) j = ix5 b c h q j := by
    funext a; fin_cases a <;> rfl
  rw [hi, ← hy, v90_at x0 x1 x2 x3 b t c q hc hq h j]

/-- The reference's result at position `t`, head `h`, entry `d`. -/
theorem v105_at (x0 : Proj) (x1 x2 : Gain) (x3 : Bias) (b : Fin 2) (t : Fin 8192) (h : Fin 8) (d : Fin 128) :
    val_main_v105 (F := Ideal) x0 x1 x2 x3 (ix3 b t ⟨128 * h.val + d.val, by omega⟩) = attn x0 x1 x2 x3 b t h d := by
  have hb := b.isLt; have ht := t.isLt; have hh := h.isLt; have hd := d.isLt
  obtain ⟨c, hc⟩ : ∃ c : Fin 128, c.val = t.val / 64 := ⟨⟨t.val / 64, by omega⟩, rfl⟩
  obtain ⟨q, hq⟩ : ∃ q : Fin 64, q.val = t.val % 64 := ⟨⟨t.val % 64, by omega⟩, rfl⟩
  rw [val_main_v105_apply, val_main_v104_apply, val_main_v103_apply]
  have hi : idx_main_v103 (idx_main_v104 (ix3 b t ⟨128 * h.val + d.val, by omega⟩)) = ix5 b c h d q := by
    refine funext fun a => Fin.ext ?_
    match a with
    | ⟨0, _⟩ => show ((b.val * 8192 + t.val) * 1024 + (128 * h.val + d.val)) / 8388608 = b.val; omega
    | ⟨1, _⟩ => show ((b.val * 8192 + t.val) * 1024 + (128 * h.val + d.val)) / 65536 % 128 = c.val; omega
    | ⟨2, _⟩ => show ((b.val * 8192 + t.val) * 1024 + (128 * h.val + d.val)) / 128 % 8 = h.val; omega
    | ⟨3, _⟩ => show ((b.val * 8192 + t.val) * 1024 + (128 * h.val + d.val)) % 128 = d.val; omega
    | ⟨4, _⟩ => show ((b.val * 8192 + t.val) * 1024 + (128 * h.val + d.val)) / 1024 % 64 = q.val; omega
  rw [hi]
  show val_main_v102 (F := Ideal) x0 x1 x2 x3 (ix5 b c h d q) = _
  rw [val_main_v102_apply]
  have hexp : ∀ j : Fin 576, val_main_v97 (F := Ideal) x0 x1 x2 x3 (ix5 b c h q j)
      = Ideal.exp (score x0 x1 x2 x3 b t h j - Finset.univ.sup (score x0 x1 x2 x3 b t h)) := fun j => by
    rw [val_main_v97_apply, val_main_v96_apply, v90_at x0 x1 x2 x3 b t c q hc hq, val_main_v95_apply, val_main_v94_apply,
      val_main_v93_apply, val_main_v92_apply]
    have hk : idx_main_v94 (idx_main_v95 (ix5 b c h q j)) = ix4 b c h q := funext fun a => by fin_cases a <;> rfl
    rw [hk, v91_at x0 x1 x2 x3 b t c q hc hq h]
    show Ideal.exp (_ - max (Ideal.ofBits .f32 0xFF800000#32) _) = _
    rw [ofBits_negInf, max_eq_right bot_le]
  unfold attn
  refine Finset.sum_congr rfl fun j _ => ?_
  have hl : lidx_main_v102 (ix5 b c h d q) j = ix5 b c j h d := funext fun a => by fin_cases a <;> rfl
  have hr : ridx_main_v102 (ix5 b c h d q) j = ix5 b c h q j := funext fun a => by fin_cases a <;> rfl
  rw [hl, hr, v59_at x0 b t c hc, val_main_v101_apply, hexp, val_main_v100_apply, val_main_v99_apply]
  have hk : idx_main_v99 (idx_main_v100 (ix5 b c h q j)) = ix4 b c h q := funext fun a => by fin_cases a <;> rfl
  rw [hk, val_main_v98_apply]
  have hs : ∀ k : Fin 576, idx_main_v98 (ix4 b c h q) k = ix5 b c h q k := fun k => funext fun a => by fin_cases a <;> rfl
  simp only [hs, hexp]
  show _ * Ideal.div _ (Ideal.ofBits .f32 0x00000000#32 + _) = _
  rw [Ideal.ofBits_zero_f32, zero_add]

end Cert.Attn.Ref

end
-- ==== Proof.AttnClaims.lean ====
/- The attention's claims: the three frames, the named constant, and the equation between the kernel and its reference. -/
module

public import proofs.«01_k».proof.Defs
public import proofs.«01_k».proof.Proof.AttnValue
public import proofs.«01_k».proof.Proof.AttnRef
public import proofs.«01_k».proof.Proof.Gen.Kernel
public import proofs.«01_k».proof.Proof.Gen.Kernel.Frame
public import Idealize.ShloMosaic.Lib.ReduceAll
public import Idealize.ShloMosaic.Adequacy
public import Idealize.ShloMosaic.Init

@[expose] public section

set_option maxRecDepth 65536

noncomputable section

namespace Cert.Attn.Claims

open Idealize.ShloMosaic Idealize.ShloMosaic.TcCoe Idealize.SL.Sem

/-- The side conditions the precondition's operations state. -/
theorem preFacts : Cert.Pre_finite_scales.Facts where
  bcast_S_S128 := by decide
  reducesTo_S128_S_d0 := by decide
  h_S_ := by decide
  bcast_S_S8x257 := by decide
  reducesTo_S8x257_S_d0_1 := by decide

theorem kernelFacts : Cert.Kernel.Facts := Cert.Kernel.Gen.facts
theorem idealFacts : Cert.KernelIdeal.Facts := Cert.KernelIdeal.Gen.facts
theorem refFacts : Cert.ReferenceIdeal.Facts := Cert.ReferenceIdeal.Gen.facts

attribute [local instance] preFacts

theorem ofBits_inf : Ideal.ofBits .f32 0x7F800000#32 = ⊤ := by
  simp [Ideal.ofBits, Ideal.ieee]

/-- A magnitude below plus infinity is a real number's. -/
theorem isReal_of_lt (x : EReal) (h : Ideal.cmp .olt (max x (-x)) (Ideal.ofBits .f32 0x7F800000#32) = 1#1) : IsReal x := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨ha, hb⟩ := max_lt_iff.mp hlt
  refine IsReal.mk (fun e => ?_) (ne_of_lt ha)
  rw [e] at hb
  exact absurd hb (by simp)

/-- The precondition says that the two gains and the bias table hold real numbers. -/
theorem scales_real (x0 : Proj) (x1 x2 : Gain) (x3 : Bias)
    (h : Cert.Pre_finite_scales.fn (F := Ideal) x0 x1 x2 x3 = fun _ => 1#1) :
    (∀ i, IsReal (x1 i)) ∧ (∀ i, IsReal (x2 i)) ∧ ∀ i, IsReal (x3 i) := by
  haveI : Subsingleton Cert.Pre_finite_scales.S_.Idx := ⟨fun a b => funext fun x => x.elim0⟩
  have e := congrFun h ix0
  unfold Cert.Pre_finite_scales.fn at e
  dsimp only at e
  obtain ⟨e12, e3⟩ := IntOp.andi_eq_one.mp e
  obtain ⟨e1, e2⟩ := IntOp.andi_eq_one.mp e12
  exact ⟨fun i => isReal_of_lt _ (Host.reduce_andi_all _ _ _ _ _ e1 i), fun i => isReal_of_lt _ (Host.reduce_andi_all _ _ _ _ _ e2 i),
    fun i => isReal_of_lt _ (Host.reduce_andi_all _ _ _ _ _ e3 i)⟩

/-- The reference's result is the same array. -/
theorem ref_eq (x0 : Proj) (x1 x2 : Gain) (x3 : Bias) (i : Cert.ReferenceIdeal.S2x8192x1024.Idx) :
    Cert.ReferenceIdeal.Read.val_main_v105 (F := Ideal) x0 x1 x2 x3 i
      = attn x0 x1 x2 x3 (i 0) (i 1) ⟨(i 2).val / 128, by have : (i 2).val < 1024 := (i 2).isLt; omega⟩ ⟨(i 2).val % 128, by omega⟩ := by
  have h2 : (i 2).val < 1024 := (i 2).isLt
  refine Eq.trans ?_ (Cert.Attn.Ref.v105_at x0 x1 x2 x3 (i 0) (i 1) ⟨(i 2).val / 128, by omega⟩ ⟨(i 2).val % 128, by omega⟩)
  refine congrArg _ (funext fun a => Fin.ext ?_)
  match a with
  | ⟨0, _⟩ => rfl
  | ⟨1, _⟩ => rfl
  | ⟨2, _⟩ => show (i 2).val = 128 * ((i 2).val / 128) + (i 2).val % 128; omega

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_scales := fun m ρ _ => Cert.KernelIdeal.Gen.frame m ρ
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)
theorem frame_ref_pre : Cert.quiescent_ReferenceIdeal_pre_finite_scales := fun m ρ _ => frame_ref m ρ trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_scales := by
  intro m ρ m' ρ' hpre hagree
  have hreal : ∀ c, _ := fun c => scales_real _ _ _ _ (hpre c)
  refine ⟨fun c => Cert.Attn.outArr m c, ?_, ?_⟩
  · refine (θ_run Cert.KernelIdeal.defs _ _).mono (fun r h c => ?_) (Cert.KernelIdeal.Value.run_blocks m ρ)
    exact ⟨(h c).1.trans (final_eq m c (hreal c).1 (hreal c).2.1 (hreal c).2.2), (h c).2⟩
  · refine (θ_run Cert.ReferenceIdeal.defs _ _).mono (fun r h c => ?_) (Cert.ReferenceIdeal.Value.run m' ρ')
    refine ⟨(h c).1.trans ((Cert.ReferenceIdeal.Read.val_main_v105_eq m' c).trans ?_), (h c).2⟩
    obtain ⟨a0, a1, a2, a3⟩ := hagree c
    rw [a0, a1, a2, a3]
    exact funext fun i => ref_eq _ _ _ _ i

end Cert.Attn.Claims

end
-- ==== Proof.Products.lean ====
/- What the layer's product calls share: the logistic function spelt with a hyperbolic tangent, and a plain product of two
   matrices as a sum. -/
module

public import Idealize.ShloMosaic.Lib.ValueIdx
public import Idealize.ShloMosaic.Lib.Pointwise
public import Idealize.ShloMosaic.PureOps.Ideal
public import proofs.«01_k».proof.Proof.AttnPoint

@[expose] public section

noncomputable section

namespace Cert.Products

open Idealize.ShloMosaic

theorem ofBits_half : Ideal.ofBits .f32 0x3F000000#32 = ((1 / 2 : ℝ) : EReal) := by
  simp [Ideal.ofBits, Ideal.ieee]
  norm_num
  refine (EReal.coe_mul _ _).symm.trans (congrArg _ ?_)
  norm_num

theorem tanh_half (r : ℝ) : 1 / 2 * Real.tanh (1 / 2 * r) + 1 / 2 = (1 + Real.exp (-r))⁻¹ := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  have hb := Real.exp_pos (-(1 / 2 * r))
  have ha := Real.exp_pos (1 / 2 * r)
  rw [Real.tanh_eq_sinh_div_cosh, Real.sinh_eq, Real.cosh_eq, e1]
  generalize Real.exp (-(1 / 2 * r)) = b at *
  generalize Real.exp (1 / 2 * r) = a at *
  have h1 : (a + b) ≠ 0 := by positivity
  have h2 : (1 + b * b) ≠ 0 := by positivity
  field_simp
  linear_combination (2 * b) * e2

/-- Half the tangent of half the argument, plus a half, is the logistic function, at the infinities as well. -/
theorem sigmoid_eq (x : EReal) : Ideal.ofBits .f32 0x3F000000#32 * Ideal.tanh (Ideal.ofBits .f32 0x3F000000#32 * x)
    + Ideal.ofBits .f32 0x3F000000#32 = Ideal.logistic x := by
  rw [ofBits_half]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [show (1 : EReal) = ((1 : ℝ) : EReal) by simp, ← EReal.coe_mul, ← EReal.coe_add]
    norm_num
  | coe r =>
    rw [← EReal.coe_mul, Ideal.tanh_coe, Ideal.logistic_coe, ← EReal.coe_mul, ← EReal.coe_add, tanh_half]

/-- A product of two matrices, entry by entry. -/
theorem dot_at {M K N : Nat} (x : (⟨2, ![M, K]⟩ : Shape).Idx → EReal) (w : (⟨2, ![K, N]⟩ : Shape).Idx → EReal) (r : Fin M) (c : Fin N) :
    matmul (F := Ideal) (φ₁ := .bf16) (φ₂ := .bf16) (DotDims.plain M K N) none x w (constant ⟨2, ![M, N]⟩ .f32 0x00000000#32) (ix2 r c)
      = ∑ k : Fin K, x (ix2 r k) * w (ix2 k c) := by
  refine (Ideal.matmul_constant_zero_apply (φ₁ := .bf16) (φ₂ := .bf16) _ none x w (ix2 r c)).trans ?_
  rw [← Equiv.sum_comp (ValueIdx.contrEquiv1 (DotDims.plain M K N) K rfl rfl).symm]
  refine Finset.sum_congr rfl fun d _ => ?_
  congr 1
  · refine congrArg x (funext fun a => ?_)
    match a with
    | ⟨0, _⟩ => rfl
    | ⟨1, _⟩ => rfl
  · refine congrArg w (funext fun a => ?_)
    match a with
    | ⟨0, _⟩ => rfl
    | ⟨1, _⟩ => rfl

theorem hz2 : (![0, 0] : Fin 2 → Nat) = fun _ => 0 := funext fun a => match a with
  | ⟨0, _⟩ => rfl
  | ⟨1, _⟩ => rfl
theorem hz3 : (![0, 0, 0] : Fin 3 → Nat) = fun _ => 0 := funext fun a => match a with
  | ⟨0, _⟩ => rfl
  | ⟨1, _⟩ => rfl
  | ⟨2, _⟩ => rfl

theorem ofBits_one : Ideal.ofBits .f32 0x3F800000#32 = 1 := by
  simp [Ideal.ofBits, Ideal.ieee]
  norm_num
  refine (EReal.coe_mul _ _).symm.trans ?_
  norm_num

/-- The host's spelling of the logistic function. -/
theorem host_sigmoid (x : EReal) : Ideal.div (Ideal.ofBits .f32 0x3F800000#32) (Ideal.ofBits .f32 0x3F800000#32 + Ideal.exp (-x))
    = Ideal.logistic x := by
  rw [ofBits_one]
  rfl

/-- A product by one layer's block of stacked weights. -/
theorem dot_block {M K N : Nat} (x : (⟨2, ![M, K]⟩ : Shape).Idx → EReal) (w : (⟨3, ![1, K, N]⟩ : Shape).Idx → EReal)
    (h : (⟨3, ![1, K, N]⟩ : Shape).ShapeCasts ⟨2, ![K, N]⟩) (r : Fin M) (c : Fin N) :
    matmul (F := Ideal) (φ₁ := .bf16) (φ₂ := .bf16) (DotDims.plain M K N) none x (shapeCast ⟨2, ![K, N]⟩ w h)
        (constant ⟨2, ![M, N]⟩ .f32 0x00000000#32) (ix2 r c)
      = ∑ k : Fin K, x (ix2 r k) * w (ix3 0 k c) :=
  (dot_at _ _ r c).trans (Finset.sum_congr rfl fun d _ => congrArg (x (ix2 r d) * ·) (Cert.Attn.drop_unit w h d c))

end Cert.Products

end
-- ==== Proof.InRun.lean ====
module

public import proofs.«01_k».proof.Proof.Gen.Kernel2Ideal.Frame
public import Idealize.ShloMosaic.Lib.VecWindow
public import Idealize.ShloMosaic.Lib.Pipeline.Value

@[expose] public section

set_option maxRecDepth 65536

noncomputable section

/-! # The input projection: one grid point's run

The call multiplies row blocks of the activations by column tiles of the weight.  A weight tile is copied
into one staging buffer while the tile before it is in use; at the first row block of a column tile the body waits
for that copy, rounds the tile into a second buffer and, if a tile is left, starts the next copy. -/

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- The first copy is started at the very first point. -/
abbrev starts (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem starts_iff : ∀ t : Fin grid0.N, starts (grid0.coords t) ↔ t.val = 0 := by decide +kernel
theorem turns_iff : ∀ t : Fin grid0.N, k0_cond2 (grid0.coords t) = 1#1 ↔ t.val % 16 = 0 := by decide +kernel
theorem more_iff : ∀ t : Fin grid0.N, k0_cond3 (grid0.coords t) = 1#1 ↔ t.val / 16 + 1 < 18 := by decide +kernel

/-- A tile's number. -/
abbrev tile (n : ℕ) : Fin 18 := ⟨n % 18, Nat.mod_lt _ (by decide)⟩
theorem off_next : ∀ t : Fin grid0.N, k0_cond3 (grid0.coords t) = 1#1 → k0_off1 (grid0.coords t) = ![0, 0, 1024 * (tile (t.val / 16 + 1)).val] := by decide +kernel

abbrev stageM : Memref sig .tc .vmem S4096x1024 .f32 := Memref.whole cc0_scratch0
abbrev roundM : Memref sig .tc .vmem S4096x1024 .bf16 := Memref.whole cc0_scratch1
abbrev weightM : Memref sig .tc .hbm S2x4096x18432 .f32 := Memref.whole main_arg1
abbrev cell : SemLoc sig := SemLoc.dma cc0_scratch2.sem
theorem cell_eq : cell = SemLoc.dma 4 := by decide

/-- The contents of a memref's buffer. -/
abbrev Held (c : Dev nD) {sp : Space} {S : Shape} {e : EltTy} (M : Memref sig .tc sp S e) : Type := Buf (Elt F) (M.view.loc (c : Thread nD τ))

theorem src_inb (b : Fin 18) : ∀ a, (![0, 0, 1024 * b.val] : Fin 3 → Nat) a + S1x4096x1024.size a ≤ S2x4096x18432.size a := by
  have := b.isLt; intro a; fin_cases a <;> simp <;> omega
/-- Tile `b` of the first weight, as a copy reads it. -/
def src (b : Fin 18) : Memref sig .tc .hbm S4096x1024 .f32 :=
  (weightM.slice (Rect.unit (s := S2x4096x18432) ![0, 0, 1024 * b.val] S1x4096x1024.size (src_inb b)) (fun _ => rfl)).squeeze S4096x1024 squeezes_S1x4096x1024_S4096x1024

section Pieces
variable (c : Dev nD) (W : Held (F := F) c weightM)
abbrev slotP (f : Held (F := F) c stageM) : sProp 𝕄 := stageM.view.loc (c : Thread nD τ) ↦[stageM.view.set]{fullShare} f
abbrev cellP : sProp 𝕄 := semVal ((c : Thread nD τ), cell) 0
abbrev half (b : Fin 18) : PosShare TreeShare := if b.val % 2 = 0 then fullShare.left else fullShare.right
abbrev srcP (b : Fin 18) : sProp 𝕄 := (src b).view.loc (c : Thread nD τ) ↦[(src b).view.set]{half b} W
/-- What of the weight a copy of tile `b` leaves. -/
def restP (b : Fin 18) : sProp 𝕄 := ((c : Thread nD τ).loc main_arg1) ↦[Finset.univ \ (src b).view.set]{half b} W
abbrev wholeP (b : Fin 18) : sProp 𝕄 := ((c : Thread nD τ).loc main_arg1) ↦[Finset.univ]{half b} W
abbrev landed (b : Fin 18) (f : Held (F := F) c stageM) : Held (F := F) c stageM :=
  stageM.view.writes (Elt F) f [⟨Rect.whole S4096x1024, ReadAs.same.apply ((src b).view.read (Elt F) W)⟩]
abbrev flightP (b : Fin 18) (f : Held (F := F) c stageM) : sProp 𝕄 :=
  Transfers.Flight countersEmb (c : Thread nD τ) cell default (stageM.view.amount cell)
    iprop(slotP c (landed c W b f) ∗ srcP c W b)
theorem src_split (b : Fin 18) : wholeP (F := F) c W b ⊣⊢ iprop(srcP c W b ∗ restP c W b) := by
  unfold restP; exact pointsTo_split_subset (Finset.subset_univ _)
/-- Tile `b` on its way into the staging buffer. -/
abbrev inflight (b : Fin 18) : sProp 𝕄 := iprop((∃ f, flightP c W b f) ∗ restP c W b)
end Pieces

/-- Tile `b` of the first weight, rounded. -/
def rounded {c : Dev nD} (w : Held (F := F) c weightM) (b : Fin 18) : FVec F S4096x1024 .bf16 :=
  truncf .bf16 ((src b).view.read (Elt F) w) bitsLt_bf16_f32
/-- A row block times a rounded tile. -/
def prod (x : Vec F S1024x4096 .bf16) (r : FVec F S4096x1024 .bf16) : FVec F S1024x1024 .bf16 :=
  truncf .bf16 (matmul (φ₁ := .bf16) (φ₂ := .bf16) dot_S1024x4096_S4096x1024_S1024x1024_1_0_0_1_n_n none x r (constant S1024x1024 .f32 0x00000000#32)) bitsLt_bf16_f32

theorem rounded_eq {c : Dev nD} (w : Held (F := F) c weightM) (b : Fin 18) (inb : ∀ a, (![0, 0] : Fin 2 → ℕ) a + S4096x1024.size a ≤ S4096x1024.size a) :
    shapeCast S4096x1024 (truncf .bf16 (stageM.view.readCov (Val := Elt F) [⟨Rect.whole S4096x1024, ReadAs.same.apply ((src b).view.read (Elt F) w)⟩]
      (Rect.unit ![0, 0] S4096x1024.size inb).toLoadRect : FVec F S4096x1024 .f32) bitsLt_bf16_f32) shapeCasts_S4096x1024_S4096x1024 = rounded w b := by
  exact (shapeCast_self _ _).trans (congrArg (fun v => truncf .bf16 v bitsLt_bf16_f32) (View.readAt_writes_full (Val := Elt F) stageM.view _ (off' := fun _ => 0) inb _ _ []))

theorem prod_eq (x : Vec F S1024x4096 .bf16) (arg2 : Memref sig .tc .vmem S1024x4096 .bf16) (harg2 : arg2.IsWhole) (r : FVec F S4096x1024 .bf16)
    (inb : ∀ a, (![0, 0] : Fin 2 → ℕ) a + S1024x4096.size a ≤ S1024x4096.size a) :
    truncf .bf16 (matmul (φ₁ := .bf16) (φ₂ := .bf16) dot_S1024x4096_S4096x1024_S1024x1024_1_0_0_1_n_n none
      (View.readAt (Elt F) arg2.view (Rect.unit ![0, 0] S1024x4096.size inb).toLoadRect (harg2.unread x)) r (constant S1024x1024 .f32 0x00000000#32)) bitsLt_bf16_f32 = prod x r := by
  have e : View.readAt (Elt F) arg2.view (Rect.unit ![0, 0] S1024x4096.size inb).toLoadRect (harg2.unread x) = x :=
    (View.readAt_full _ _ _).trans (harg2.read_unread x)
  rw [e]; rfl

section Canon
omit [FloatOps F]
@[sl_canon] theorem canon_next (t : Fin grid0.N) (h2 : k0_cond2 (grid0.coords t) = 1#1) (h3 : k0_cond3 (grid0.coords t) = 1#1) :
    (weightM.slice (Rect.unit (s := S2x4096x18432) (k0_off1 (grid0.coords t)) S1x4096x1024.size (k0_off1_inb (grid0.coords t) h2 h3)) (fun _ => rfl)).squeeze S4096x1024 squeezes_S1x4096x1024_S4096x1024 = src (tile (t.val / 16 + 1)) :=
  congrArg (fun M : Memref sig .tc .hbm S1x4096x1024 .f32 => M.squeeze S4096x1024 squeezes_S1x4096x1024_S4096x1024) (Memref.slice_unit_congr _ (off_next t h3) _ _ (fun _ => rfl) (fun _ => rfl))
@[sl_canon] theorem canon_first :
    (weightM.slice (Rect.unit (s := S2x4096x18432) ![0, 0, 0] S1x4096x1024.size inb_S2x4096x18432_S1x4096x1024_0_0_0) (fun _ => rfl)).squeeze S4096x1024 squeezes_S1x4096x1024_S4096x1024 = src 0 := rfl
end Canon

set_option maxHeartbeats 4000000 in
/-- The first point: start the first copy, wait for it, round the tile, start the second copy, multiply. -/
theorem runA (c : Dev nD) (t : Fin cfg0.N) (arg2 : Memref sig .tc .vmem S1024x4096 .bf16) (harg2 : arg2.IsWhole) (arg4 : Memref sig .tc .vmem S1024x1024 .bf16) (harg4 : arg4.IsWhole)
    (h1 : starts (grid0.coords t)) (h2 : k0_cond2 (grid0.coords t) = 1#1) (h3 : k0_cond3 (grid0.coords t) = 1#1)
    (x : Vec F S1024x4096 .bf16) (w : Held (F := F) c weightM) (W : Waits sig Unit) (K : PUnit → sProp 𝕄) :
    iprop(owns (c : Thread nD τ) arg2 fullShare x ∗ (∃ d, owns (c : Thread nD τ) arg4 fullShare d) ∗ (∃ d, owns (c : Thread nD τ) roundM fullShare d) ∗ (∃ f, slotP c f) ∗ cellP c ∗ wholeP c w 0 ∗ wholeP c w (tile (t.val / 16 + 1)) ∗ owes (c : Thread nD τ) 0 W
        ∗ (iprop(owns (c : Thread nD τ) arg2 fullShare x ∗ owns (c : Thread nD τ) arg4 fullShare (prod x (rounded w 0)) ∗ owns (c : Thread nD τ) roundM fullShare (rounded w 0)
            ∗ inflight c w (tile (t.val / 16 + 1)) ∗ wholeP c w 0 ∗ (∃ W', owes (c : Thread nD τ) 0 W')) -∗ K ⟨⟩))
      ⊢ wp frame (wpE (defs₀ (F := F)) Variants.none c none) Set.univ (cc0_matmul (grid0.coords t) arg2 harg2 weightM (Memref.isWhole_whole _) arg4 harg4 stageM (Memref.isWhole_whole _) roundM (Memref.isWhole_whole _) cc0_scratch2) K := by
  haveI : Fact (starts (grid0.coords t)) := ⟨h1⟩
  haveI : Fact (k0_cond2 (grid0.coords t) = 1#1) := ⟨h2⟩
  haveI : Fact (k0_cond3 (grid0.coords t) = 1#1) := ⟨h3⟩
  unfold cc0_matmul
  have hcanon := canon_next t h2 h3
  unfold owns
  iintro ⟨⟨%f0, %hf0, H0⟩, ⟨%d1, %f1, -, H1⟩, ⟨%ds1, %fs1, -, HS1⟩, ⟨%fs, Hs⟩, Hc, Hw0, Hw, HW, Hk⟩
  ihave Hsp0 := (src_split c w 0).1 $$ Hw0
  icases Hsp0 with ⟨Hh0, Hr0⟩
  ihave Hsp := (src_split c w (tile (t.val / 16 + 1))).1 $$ Hw
  icases Hsp with ⟨Hh, Hr⟩
  obtain rfl := harg2.eq_unread hf0
  sl_exec (disch := first | sl_exact h1 | sl_exact h2 | sl_exact h3)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    refine (prod_eq x arg2 harg2 (runA.sl.v9 c w) _).trans (congrArg (prod x) ?_)
    exact (View.readAt_writes_full (Val := Elt F) roundM.view _ _ _ _ []).trans (rounded_eq w _ _)
  isplitl [HS1]
  · iexists _; isplitr
    swap; · iexact HS1
    ipureintro
    refine (View.read_writes_full _ _ _ _ _).trans ?_
    exact rounded_eq w _ _
  isplitl [Hc Hr]
  · isplitl [Hc]; · iexists _; iexact Hc
    iexact Hr
  isplitl [Hh0 Hr0]
  · iapply (src_split c w 0).2; isplitl [Hh0]; · iexact Hh0
    iexact Hr0
  iexists _; iexact HW

set_option maxHeartbeats 4000000 in
/-- A column tile begins and another follows: wait for the tile, round it, start the next copy, multiply. -/
theorem runB (c : Dev nD) (t : Fin cfg0.N) (arg2 : Memref sig .tc .vmem S1024x4096 .bf16) (harg2 : arg2.IsWhole) (arg4 : Memref sig .tc .vmem S1024x1024 .bf16) (harg4 : arg4.IsWhole)
    (h1 : ¬starts (grid0.coords t)) (h2 : k0_cond2 (grid0.coords t) = 1#1) (h3 : k0_cond3 (grid0.coords t) = 1#1)
    (x : Vec F S1024x4096 .bf16) (w : Held (F := F) c weightM) (b : Fin 18) (W : Waits sig Unit) (K : PUnit → sProp 𝕄) :
    iprop(owns (c : Thread nD τ) arg2 fullShare x ∗ (∃ d, owns (c : Thread nD τ) arg4 fullShare d) ∗ (∃ d, owns (c : Thread nD τ) roundM fullShare d) ∗ inflight c w b ∗ wholeP c w (tile (t.val / 16 + 1)) ∗ owes (c : Thread nD τ) 0 W
        ∗ (iprop(owns (c : Thread nD τ) arg2 fullShare x ∗ owns (c : Thread nD τ) arg4 fullShare (prod x (rounded w b)) ∗ owns (c : Thread nD τ) roundM fullShare (rounded w b)
            ∗ inflight c w (tile (t.val / 16 + 1)) ∗ wholeP c w b ∗ (∃ W', owes (c : Thread nD τ) 0 W')) -∗ K ⟨⟩))
      ⊢ wp frame (wpE (defs₀ (F := F)) Variants.none c none) Set.univ (cc0_matmul (grid0.coords t) arg2 harg2 weightM (Memref.isWhole_whole _) arg4 harg4 stageM (Memref.isWhole_whole _) roundM (Memref.isWhole_whole _) cc0_scratch2) K := by
  haveI : Fact (¬starts (grid0.coords t)) := ⟨h1⟩
  haveI : Fact (k0_cond2 (grid0.coords t) = 1#1) := ⟨h2⟩
  haveI : Fact (k0_cond3 (grid0.coords t) = 1#1) := ⟨h3⟩
  unfold cc0_matmul
  have hcanon := canon_next t h2 h3
  unfold owns
  iintro ⟨⟨%f0, %hf0, H0⟩, ⟨%d1, %f1, -, H1⟩, ⟨%ds1, %fs1, -, HS1⟩, ⟨⟨%fs, Hf⟩, Hrb⟩, Hw, HW, Hk⟩
  ihave Hsp := (src_split c w (tile (t.val / 16 + 1))).1 $$ Hw
  icases Hsp with ⟨Hh, Hr⟩
  obtain rfl := harg2.eq_unread hf0
  sl_exec (disch := first | sl_exact h1 | sl_exact h2 | sl_exact h3)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    refine (prod_eq x arg2 harg2 (runB.sl.v9 c w b) _).trans (congrArg (prod x) ?_)
    exact (View.readAt_writes_full (Val := Elt F) roundM.view _ _ _ _ []).trans (rounded_eq w _ _)
  isplitl [HS1]
  · iexists _; isplitr
    swap; · iexact HS1
    ipureintro
    refine (View.read_writes_full _ _ _ _ _).trans ?_
    exact rounded_eq w _ _
  isplitl [Hf Hr]
  · isplitl [Hf]; · iexists _; iexact Hf
    iexact Hr
  isplitl [Hf_src Hrb]
  · iapply (src_split c w b).2; isplitl [Hf_src]; · iexact Hf_src
    iexact Hrb
  iexists _; iexact HW

set_option maxHeartbeats 4000000 in
/-- The last column tile begins: wait for the tile, round it, multiply. -/
theorem runC (c : Dev nD) (t : Fin cfg0.N) (arg2 : Memref sig .tc .vmem S1024x4096 .bf16) (harg2 : arg2.IsWhole) (arg4 : Memref sig .tc .vmem S1024x1024 .bf16) (harg4 : arg4.IsWhole)
    (h1 : ¬starts (grid0.coords t)) (h2 : k0_cond2 (grid0.coords t) = 1#1) (h3 : ¬k0_cond3 (grid0.coords t) = 1#1)
    (x : Vec F S1024x4096 .bf16) (w : Held (F := F) c weightM) (b : Fin 18) (W : Waits sig Unit) (K : PUnit → sProp 𝕄) :
    iprop(owns (c : Thread nD τ) arg2 fullShare x ∗ (∃ d, owns (c : Thread nD τ) arg4 fullShare d) ∗ (∃ d, owns (c : Thread nD τ) roundM fullShare d) ∗ inflight c w b ∗ owes (c : Thread nD τ) 0 W
        ∗ (iprop(owns (c : Thread nD τ) arg2 fullShare x ∗ owns (c : Thread nD τ) arg4 fullShare (prod x (rounded w b)) ∗ owns (c : Thread nD τ) roundM fullShare (rounded w b)
            ∗ (∃ f, slotP c f) ∗ cellP c ∗ wholeP c w b ∗ (∃ W', owes (c : Thread nD τ) 0 W')) -∗ K ⟨⟩))
      ⊢ wp frame (wpE (defs₀ (F := F)) Variants.none c none) Set.univ (cc0_matmul (grid0.coords t) arg2 harg2 weightM (Memref.isWhole_whole _) arg4 harg4 stageM (Memref.isWhole_whole _) roundM (Memref.isWhole_whole _) cc0_scratch2) K := by
  haveI : Fact (¬starts (grid0.coords t)) := ⟨h1⟩
  haveI : Fact (k0_cond2 (grid0.coords t) = 1#1) := ⟨h2⟩
  haveI : Fact (¬k0_cond3 (grid0.coords t) = 1#1) := ⟨h3⟩
  unfold cc0_matmul
  unfold owns
  iintro ⟨⟨%f0, %hf0, H0⟩, ⟨%d1, %f1, -, H1⟩, ⟨%ds1, %fs1, -, HS1⟩, ⟨⟨%fs, Hf⟩, Hrb⟩, HW, Hk⟩
  obtain rfl := harg2.eq_unread hf0
  sl_exec (disch := first | sl_exact h1 | sl_exact h2 | sl_exact h3)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    refine (prod_eq x arg2 harg2 (runC.sl.v9 c w b) _).trans (congrArg (prod x) ?_)
    exact (View.readAt_writes_full (Val := Elt F) roundM.view _ _ _ _ []).trans (rounded_eq w _ _)
  isplitl [HS1]
  · iexists _; isplitr
    swap; · iexact HS1
    ipureintro
    refine (View.read_writes_full _ _ _ _ _).trans ?_
    exact rounded_eq w _ _
  isplitl [Hf_dst]; · iexists _; iexact Hf_dst
  isplitl [Hf]; · iexact Hf
  isplitl [Hf_src Hrb]
  · iapply (src_split c w b).2; isplitl [Hf_src]; · iexact Hf_src
    iexact Hrb
  iexists _; iexact HW

set_option maxHeartbeats 4000000 in
/-- Within a column tile: multiply by the rounded tile at hand. -/
theorem runD (c : Dev nD) (t : Fin cfg0.N) (arg2 : Memref sig .tc .vmem S1024x4096 .bf16) (harg2 : arg2.IsWhole) (arg4 : Memref sig .tc .vmem S1024x1024 .bf16) (harg4 : arg4.IsWhole)
    (h1 : ¬starts (grid0.coords t)) (h2 : ¬k0_cond2 (grid0.coords t) = 1#1)
    (x : Vec F S1024x4096 .bf16) (w : Held (F := F) c weightM) (r : FVec F S4096x1024 .bf16) (W : Waits sig Unit) (K : PUnit → sProp 𝕄) :
    iprop(owns (c : Thread nD τ) arg2 fullShare x ∗ (∃ d, owns (c : Thread nD τ) arg4 fullShare d) ∗ owns (c : Thread nD τ) roundM fullShare r ∗ owes (c : Thread nD τ) 0 W
        ∗ (iprop(owns (c : Thread nD τ) arg2 fullShare x ∗ owns (c : Thread nD τ) arg4 fullShare (prod x (r)) ∗ owns (c : Thread nD τ) roundM fullShare (r)
            ∗ (∃ W', owes (c : Thread nD τ) 0 W')) -∗ K ⟨⟩))
      ⊢ wp frame (wpE (defs₀ (F := F)) Variants.none c none) Set.univ (cc0_matmul (grid0.coords t) arg2 harg2 weightM (Memref.isWhole_whole _) arg4 harg4 stageM (Memref.isWhole_whole _) roundM (Memref.isWhole_whole _) cc0_scratch2) K := by
  haveI : Fact (¬starts (grid0.coords t)) := ⟨h1⟩
  haveI : Fact (¬k0_cond2 (grid0.coords t) = 1#1) := ⟨h2⟩
  unfold cc0_matmul
  unfold owns
  iintro ⟨⟨%f0, %hf0, H0⟩, ⟨%d1, %f1, -, H1⟩, ⟨%fs1, %hs1, HS1⟩, HW, Hk⟩
  obtain rfl := harg2.eq_unread hf0
  sl_exec (disch := first | sl_exact h1 | sl_exact h2)
  sl_step
  iapply Hk
  isplitl [H0]
  · iexists _; isplitr; · ipureintro; exact harg2.read_unread _
    iexact H0
  isplitl [H1]
  · iexists _; isplitr
    swap; · iexact H1
    ipureintro
    refine (View.read_writes_full _ _ _ _ _).trans ?_
    refine (prod_eq x arg2 harg2 _ _).trans (congrArg (prod x) ?_)
    exact (View.readAt_full _ _ _).trans hs1
  isplitl [HS1]
  · iexists _; isplitr
    swap; · iexact HS1
    ipureintro
    exact hs1
  iexists _; iexact HW

end Cert.InProj

end
-- ==== Proof.InFrame.lean ====
module

public import proofs.«01_k».proof.Proof.InRun

@[expose] public section

set_option maxRecDepth 65536

noncomputable section

/-! # The input projection: the whole grid

Before a point the second buffer holds the rounded tile of the point before, and the tile after that one is on its
way into the staging buffer (if there is one). -/

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

theorem main_entry (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before_x {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ownCells : Fin 1 → SemLoc sig := fun j => (![SemLoc.dma 4] : Fin 1 → SemLoc sig) j
theorem ownCells_facts : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = semVal ((c : Thread nD τ), SemLoc.dma 4) 0 := by
  rw [Pipeline.ownSems0_eq_of_list c ownCells [0] (by decide) (by decide)]; rfl
theorem cellP_eq (c : Dev nD) : cellP (F := F) c = semVal ((c : Thread nD τ), SemLoc.dma 4) 0 :=
  congrArg (fun x => (semVal ((c : Thread nD τ), x) 0 : sProp 𝕄)) cell_eq

def moved : Finset (Ref sig .tc) := {main_arg1}
theorem moved_sub : moved ⊆ Pipeline.restRefs sig spec0 := by decide
abbrev weightP (c : Dev nD) (f : Held (F := F) c weightM) : sProp 𝕄 := weightM.view.loc (c : Thread nD τ) ↦{fullShare} f
theorem moved_eq (c : Dev nD) :
    (bigSep moved (fun b => ((c : Thread nD τ).loc b) ↦{fullShare} V m c b) : sProp 𝕄) = weightP c (V m c main_arg1) := by
  rw [BI.bigSep_eq_bigSepL_of_eq [main_arg1] (by decide) (by decide)]; rfl
theorem launch_eq (c : Dev nD) :
    (Pipeline.ΦD ownCells spec0 moved (V m) c : sProp 𝕄)
      = iprop(iprop((∃ d, owns (c : Thread nD τ) stageM fullShare d) ∗ (∃ d, owns (c : Thread nD τ) roundM fullShare d)) ∗ (∃ r, prngReg c r) ∗ semVal ((c : Thread nD τ), SemLoc.dma 4) 0 ∗ weightP c (V m c main_arg1)) := by
  rw [Pipeline.ΦD_eq, scopedRest0_eq, ownCells_eq, moved_eq]; simp only [stageM, roundM, owns_whole]; try rfl

theorem weight_split (c : Dev nD) (W : Held (F := F) c weightM) : (weightP c W : sProp 𝕄) ⊣⊢ iprop(wholeP c W 0 ∗ wholeP c W 1) :=
  pointsTo_share (PosShare.mem_left_op_right fullShare)

/-! ## The invariant -/

/-- The staging buffer and the weight when no copy is under way. -/
def idle (c : Dev nD) (W : Held (F := F) c weightM) : sProp 𝕄 :=
  iprop((∃ f, slotP c f) ∗ cellP c ∗ wholeP c W 0 ∗ wholeP c W 1)
/-- What follows column tile `q`: the next tile under way, or nothing. -/
def ahead (c : Dev nD) (W : Held (F := F) c weightM) (q : ℕ) : sProp 𝕄 :=
  if q + 1 < 18 then iprop(inflight c W (tile (q + 1)) ∗ wholeP c W (tile q)) else idle c W
/-- The state before point `k`. -/
def inv (c : Dev nD) (W : Held (F := F) c weightM) (k : ℕ) : sProp 𝕄 :=
  if k = 0 then iprop((∃ d, owns (c : Thread nD τ) roundM fullShare d) ∗ (∃ r, prngReg c r) ∗ idle c W)
  else iprop(owns (c : Thread nD τ) roundM fullShare (rounded W (tile ((k - 1) / 16))) ∗ (∃ r, prngReg c r) ∗ ahead c W ((k - 1) / 16))

theorem half_step (q : ℕ) (h : q + 2 < 18) : half (tile q) = half (tile (q + 2)) := by
  have e : (q % 18) % 2 = ((q + 2) % 18) % 2 := by omega
  show (if (q % 18) % 2 = 0 then fullShare.left else fullShare.right) = (if ((q + 2) % 18) % 2 = 0 then fullShare.left else fullShare.right)
  rw [e]
theorem wholeP_step (c : Dev nD) (W : Held (F := F) c weightM) (q : ℕ) (h : q + 2 < 18) : wholeP c W (tile q) = wholeP c W (tile (q + 2)) := by
  unfold wholeP; rw [half_step q h]

/-- The proof data: the arrays as found; each point leaves its row block times its rounded tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => prod (iblk m c 0 t) (rounded (c := c) (V m c main_arg1) (tile (t.val / 16)))
  Φ t := inv c (V m c main_arg1) t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv c (V m c main_arg1) t.val := by
  dsimp only [dats]; simp only [Fin.coe_castSucc]
theorem inv_succ (c : Dev nD) (t : Fin cfg0.N) : (dats m 0 c).Φ t.succ = inv c (V m c main_arg1) (t.val + 1) := by
  dsimp only [dats]; simp only [Fin.val_succ]
theorem after_x (c : Dev nD) (t : Fin cfg0.N) : (dats m 0 c).after 0 t = iblk m c 0 t := by dsimp only [dats]
theorem after_o (c : Dev nD) (t : Fin cfg0.N) : (dats m 0 c).after 1 t = prod (iblk m c 0 t) (rounded (c := c) (V m c main_arg1) (tile (t.val / 16))) := by dsimp only [dats]
theorem before_x' (c : Dev nD) (t : Fin cfg0.N) (d) : (dats m 0 c).before 0 t d = iblk m c 0 t :=
  before_x m (dats m 0 c) (A_eq m c 0) (after_x m c) t d

/-! ## One point -/

abbrev xStage (t : Fin cfg0.N) : Memref sig .tc .vmem S1024x4096 .bf16 := win0_0.stage (cfg0.slots t 0)
abbrev oStage (t : Fin cfg0.N) : Memref sig .tc .vmem S1024x1024 .bf16 := win0_1.stage (cfg0.slots t 1)

def pre (c : Dev nD) (t : Fin cfg0.N) : sProp 𝕄 :=
  iprop((dats m 0 c).Φ t.castSucc ∗ (dats m 0 c).owesAt () t.castSucc
    ∗ (∃ d, owns (c : Thread nD τ) (xStage t) fullShare ((dats m 0 c).before 0 t d))
    ∗ (∃ d, owns (c : Thread nD τ) (oStage t) fullShare ((dats m 0 c).before 1 t d)))
def post (c : Dev nD) (t : Fin cfg0.N) : sProp 𝕄 :=
  iprop((dats m 0 c).Φ t.succ ∗ (dats m 0 c).owesAt () t.succ
    ∗ owns (c : Thread nD τ) (xStage t) fullShare ((dats m 0 c).after 0 t)
    ∗ owns (c : Thread nD τ) (oStage t) fullShare ((dats m 0 c).after 1 t))

set_option maxHeartbeats 2000000 in
theorem point (c : Dev nD) (t : Fin cfg0.N) :
    pre m c t ⊢ wp frame (wpE (defs₀ (F := F)) Variants.none c none) Set.univ (bodyAt0 t) (fun _ => post m c t) := by
  unfold pre post bodyAt0
  simp only [before_x']
  rw [after_x, after_o]
  rw [inv_castSucc m c t, inv_succ m c t]
  unfold Dat.owesAt Pipeline.owesWithin
  rw [show (dats m 0 c).owed t.castSucc = 0 from rfl, show (dats m 0 c).owed t.succ = 0 from rfl]
  unfold inv
  have hN : t.val < 288 := lt_of_lt_of_eq t.isLt (show cfg0.N = 288 from N_0)
  rw [if_neg (show ¬t.val + 1 = 0 by omega), show t.val + 1 - 1 = t.val by omega]
  by_cases h0 : t.val = 0
  · have e0 : tile (t.val / 16) = 0 := Fin.ext (by show t.val / 16 % 18 = 0; omega)
    have e1 : tile (t.val / 16 + 1) = 1 := Fin.ext (by show (t.val / 16 + 1) % 18 = 1; omega)
    rw [if_pos h0]
    unfold ahead idle
    rw [if_pos (show t.val / 16 + 1 < 18 by omega), e0]
    iintro ⟨⟨HS1, Hg, Hs, Hc, Hw0, Hw1⟩, ⟨%W, -, HW⟩, ⟨%d0, H0⟩, ⟨%d1, H1⟩⟩
    iapply (runA c t _ _ _ _ ((starts_iff t).mpr h0) ((turns_iff t).mpr (by omega)) ((more_iff t).mpr (by omega)) (iblk m c 0 t) (V m c main_arg1) W _)
    isplitl [H0]; · iexact H0
    isplitl [H1]; · iexists _; iexact H1
    isplitl [HS1]; · iexact HS1
    isplitl [Hs]; · iexact Hs
    isplitl [Hc]; · iexact Hc
    isplitl [Hw0]; · iexact Hw0
    isplitl [Hw1]; · rw [e1]; iexact Hw1
    isplitl [HW]; · iexact HW
    iintro ⟨H0, H1, HS1, Hfl, Hw, ⟨%W', HW'⟩⟩
    isplitl [HS1 Hg Hfl Hw]
    · isplitl [HS1]; · iexact HS1
      isplitl [Hg]; · iexact Hg
      isplitl [Hfl]; · iexact Hfl
      iexact Hw
    isplitl [HW']
    · iexists W'; isplitr; · ipureintro; exact fun _ _ => Or.inl trivial
      iexact HW'
    isplitl [H0]; · iexact H0
    iexact H1
  · rw [if_neg h0]
    by_cases h2 : t.val % 16 = 0
    · have eq : (t.val - 1) / 16 + 1 = t.val / 16 := by omega
      unfold ahead
      rw [if_pos (show (t.val - 1) / 16 + 1 < 18 by omega), eq]
      by_cases h3 : t.val / 16 + 1 < 18
      · rw [if_pos h3, wholeP_step c _ ((t.val - 1) / 16) (by omega), show (t.val - 1) / 16 + 2 = t.val / 16 + 1 by omega]
        iintro ⟨⟨HS1, Hg, Hfl, Hw⟩, ⟨%W, -, HW⟩, ⟨%d0, H0⟩, ⟨%d1, H1⟩⟩
        iapply (runB c t _ _ _ _ (fun h => h0 ((starts_iff t).mp h)) ((turns_iff t).mpr h2) ((more_iff t).mpr h3) (iblk m c 0 t) (V m c main_arg1) (tile (t.val / 16)) W _)
        isplitl [H0]; · iexact H0
        isplitl [H1]; · iexists _; iexact H1
        isplitl [HS1]; · iexists _; iexact HS1
        isplitl [Hfl]; · iexact Hfl
        isplitl [Hw]; · iexact Hw
        isplitl [HW]; · iexact HW
        iintro ⟨H0, H1, HS1, Hfl, Hw, ⟨%W', HW'⟩⟩
        isplitl [HS1 Hg Hfl Hw]
        · isplitl [HS1]; · iexact HS1
          isplitl [Hg]; · iexact Hg
          isplitl [Hfl]; · iexact Hfl
          iexact Hw
        isplitl [HW']
        · iexists W'; isplitr; · ipureintro; exact fun _ _ => Or.inl trivial
          iexact HW'
        isplitl [H0]; · iexact H0
        iexact H1
      · have e16 : tile ((t.val - 1) / 16) = 16 := Fin.ext (by show (t.val - 1) / 16 % 18 = 16; omega)
        have e17 : tile (t.val / 16) = 17 := Fin.ext (by show t.val / 16 % 18 = 17; omega)
        rw [if_neg h3, e16, e17]
        unfold idle
        iintro ⟨⟨HS1, Hg, Hfl, Hw⟩, ⟨%W, -, HW⟩, ⟨%d0, H0⟩, ⟨%d1, H1⟩⟩
        iapply (runC c t _ _ _ _ (fun h => h0 ((starts_iff t).mp h)) ((turns_iff t).mpr h2) (fun h => h3 ((more_iff t).mp h)) (iblk m c 0 t) (V m c main_arg1) 17 W _)
        isplitl [H0]; · iexact H0
        isplitl [H1]; · iexists _; iexact H1
        isplitl [HS1]; · iexists _; iexact HS1
        isplitl [Hfl]; · iexact Hfl
        isplitl [HW]; · iexact HW
        iintro ⟨H0, H1, HS1, Hs, Hc, Hw', ⟨%W', HW'⟩⟩
        isplitl [HS1 Hg Hs Hc Hw Hw']
        · isplitl [HS1]; · iexact HS1
          isplitl [Hg]; · iexact Hg
          isplitl [Hs]; · iexact Hs
          isplitl [Hc]; · iexact Hc
          isplitl [Hw]; · iexact Hw
          iexact Hw'
        isplitl [HW']
        · iexists W'; isplitr; · ipureintro; exact fun _ _ => Or.inl trivial
          iexact HW'
        isplitl [H0]; · iexact H0
        iexact H1
    · rw [show (t.val - 1) / 16 = t.val / 16 by omega]
      iintro ⟨⟨HS1, Hg, Ha⟩, ⟨%W, -, HW⟩, ⟨%d0, H0⟩, ⟨%d1, H1⟩⟩
      iapply (runD c t _ _ _ _ (fun h => h0 ((starts_iff t).mp h)) (fun h => h2 ((turns_iff t).mp h)) (iblk m c 0 t) (V m c main_arg1) (rounded (c := c) (V m c main_arg1) (tile (t.val / 16))) W _)
      isplitl [H0]; · iexact H0
      isplitl [H1]; · iexists _; iexact H1
      isplitl [HS1]; · iexact HS1
      isplitl [HW]; · iexact HW
      iintro ⟨H0, H1, HS1, ⟨%W', HW'⟩⟩
      isplitl [HS1 Hg Ha]
      · isplitl [HS1]; · iexact HS1
        isplitl [Hg]; · iexact Hg
        iexact Ha
      isplitl [HW']
      · iexists W'; isplitr; · ipureintro; exact fun _ _ => Or.inl trivial
        iexact HW'
      isplitl [H0]; · iexact H0
      iexact H1

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (point m c t) rfl .rfl fun _ => .rfl

/-! ## The launch -/

theorem enter (c : Dev nD) : Pipeline.ΦD ownCells spec0 moved (V m) c ⊢ (dats m 0 c).Φ 0 := by
  rw [launch_eq, show (dats m 0 c).Φ 0 = inv c (V m c main_arg1) 0 from rfl]
  unfold inv; rw [if_pos rfl]; unfold idle; rw [cellP_eq]
  iintro ⟨⟨HS0, HS1⟩, Hg, Hq, Hh⟩
  isplitl [HS1]; · iexact HS1
  isplitl [Hg]; · iexact Hg
  isplitl [HS0]
  · unfold owns; icases HS0 with ⟨%d, %f, -, HS0⟩; iexists f; iexact HS0
  isplitl [Hq]; · iexact Hq
  iapply (weight_split (F := F) c (V m c main_arg1)).1; iexact Hh

theorem leave (c : Dev nD) : (dats m 0 c).Φ (Fin.last cfg0.N) ⊢ Pipeline.ΦD ownCells spec0 moved (V m) c := by
  rw [launch_eq, show (dats m 0 c).Φ (Fin.last cfg0.N) = inv c (V m c main_arg1) grid0.N from rfl]
  unfold inv; rw [N_0, if_neg (by decide)]
  unfold ahead; rw [if_neg (by decide)]; unfold idle; rw [cellP_eq]
  iintro ⟨HS1, Hg, ⟨%f, HS0⟩, Hq, Hw⟩
  isplitl [HS0 HS1]
  · isplitl [HS0]
    · unfold owns; iexists _, f; isplitr; swap; · iexact HS0
      ipureintro; rfl
    iexists _; iexact HS1
  isplitl [Hg]; · iexact Hg
  isplitl [Hq]; · iexact Hq
  iapply (weight_split (F := F) c (V m c main_arg1)).2; iexact Hw

set_option backward.isDefEq.respectTransparency.types false in
/-- The call ends, with every counter back at zero. -/
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts moved moved_sub m ρ main
    (hbody := fun c => (obligation m c).loose) (hshare := fun c => (dats m 0 c).share_full fun _ => rfl)
    (howed := fun _ _ => rfl) (V := V m) (hmain := main_entry m Variants.none) (hA := A_eq m)
    (hin := enter m) (hout := leave m)

/-- The call ends with the arrays at what its points left. -/
theorem run_ends : θ_run defs (onTc (τ := τ) (main (F := F))) (s₀ m ρ) (Pipeline.FramePost cfgs (dats m) 0 (V m)) :=
  (θ_run defs _ _).mono (fun _ h => h.1) (run_quiet m ρ)

/-- The arguments end as they began, and the counters at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_quiet m ρ)

end Cert.InProj

end
-- ==== Proof.InProj.lean ====
/- The input projection: what a grid point writes, and the whole result array. -/
module

public import proofs.«01_k».proof.Proof.Products
public import proofs.«01_k».proof.Proof.InFrame
public import proofs.«01_k».proof.Proof.Gen.Reference2Ideal.Run
public import proofs.«01_k».proof.Proof.Gen.Reference2Ideal.Read

@[expose] public section

set_option maxRecDepth 65536

noncomputable section

namespace Cert.InProj

open Cert.Kernel2Ideal Cert.Kernel2Ideal.Gen Idealize.ShloMosaic Idealize.ShloMosaic.TcCoe Idealize.SL.Sem
open Cert.Kernel2Ideal.Facts Cert.Products

variable (m : (ℓ : Loc nD τ sig) → Buf (Elt Ideal) ℓ) (ρ : Dev nD → PrngReg) (c : Dev nD)

abbrev A0 : (⟨2, ![16384, 4096]⟩ : Shape).Idx → EReal := m ((c : Thread nD τ).loc main_arg0)
abbrev A1 : (⟨3, ![2, 4096, 18432]⟩ : Shape).Idx → EReal := m ((c : Thread nD τ).loc main_arg1)

/-- One entry of the result. -/
def spec (x : (⟨2, ![16384, 4096]⟩ : Shape).Idx → EReal) (w : (⟨3, ![2, 4096, 18432]⟩ : Shape).Idx → EReal) (r : Fin 16384) (k : Fin 18432) : EReal :=
  ∑ d : Fin 4096, x (ix2 r d) * w (ix3 0 d k)

theorem lt_288 (t : Fin cfg0.N) : t.val < 288 := lt_of_lt_of_eq t.isLt (show cfg0.N = 288 from N_0)

theorem index0 : ∀ t : Fin cfg0.N, win0_0.index t 0 = t.val % 16 ∧ win0_0.index t 1 = 0 :=
  (by decide +kernel : ∀ t : Fin grid0.N, win0_0.index t 0 = t.val % 16 ∧ win0_0.index t 1 = 0)
theorem index1 : ∀ t : Fin cfg0.N, win0_1.index t 0 = t.val % 16 ∧ win0_1.index t 1 = t.val / 16 :=
  (by decide +kernel : ∀ t : Fin grid0.N, win0_1.index t 0 = t.val % 16 ∧ win0_1.index t 1 = t.val / 16)
theorem writes_back : ∀ t : Fin cfg0.N, (cfg0.win 1).flush t = true :=
  (by decide +kernel : ∀ t : Fin grid0.N, win0_1.flush t = true)

def rowOf (t : Fin cfg0.N) (r : Fin 1024) : Fin 16384 := ⟨1024 * (t.val % 16) + r.val, by omega⟩
def colOf (t : Fin cfg0.N) (k : Fin 1024) : Fin 18432 := ⟨1024 * (t.val / 16) + k.val, by have := lt_288 t; omega⟩

abbrev B0 (t : Fin cfg0.N) : Vec Ideal S1024x4096 .bf16 := iblk m c 0 t

theorem B0_at (t : Fin cfg0.N) (r : Fin 1024) (d : Fin 4096) : B0 m c t (ix2 r d) = A0 m c (ix2 (rowOf t r) d) := by
  obtain ⟨e0, e1⟩ := index0 t
  unfold B0 iblk
  rw [View.read_apply]
  show V m c main_arg0 _ = _
  refine congrArg (A0 m c) (funext fun a => Fin.ext ?_)
  match a with
  | ⟨0, _⟩ => show win0_0.index t 0 * 1024 + 1 * r.val = 1024 * (t.val % 16) + r.val; omega
  | ⟨1, _⟩ => show win0_0.index t 1 * 4096 + 1 * d.val = d.val; omega

/-- A rounded tile's entry is the weight's. -/
theorem rounded_at (t : Fin cfg0.N) (d : Fin 4096) (k : Fin 1024) :
    rounded (F := Ideal) (c := c) (V m c main_arg1) (tile (t.val / 16)) (ix2 d k) = A1 m c (ix3 0 d (colOf t k)) := by
  have hq : t.val / 16 % 18 = t.val / 16 := by have := lt_288 t; omega
  let M : Memref sig .tc .hbm S1x4096x1024 .f32 := weightM.slice (Rect.unit (s := S2x4096x18432) ![0, 0, 1024 * (tile (t.val / 16)).val] S1x4096x1024.size (src_inb _)) (fun _ => rfl)
  show shapeCast S4096x1024 (M.view.read (Elt Ideal) (A1 m c)) squeezes_S1x4096x1024_S4096x1024.numel_eq (ix2 d k) = _
  refine (Cert.Attn.drop_unit (n := 4096) (m := 1024) _ _ d k).trans ?_
  rw [View.read_apply]
  refine congrArg (A1 m c) (funext fun a => Fin.ext ?_)
  match a with
  | ⟨0, _⟩ => rfl
  | ⟨1, _⟩ => show 0 + 1 * d.val = d.val; omega
  | ⟨2, _⟩ => show 1024 * (t.val / 16 % 18) + 1 * k.val = 1024 * (t.val / 16) + k.val; omega

theorem flushed_at (t : Fin cfg0.N) (r k : Fin 1024) :
    (dats m 0 c).flushed 1 t (ix2 r k : S1024x1024.Idx) = spec (A0 m c) (A1 m c) (rowOf t r) (colOf t k) := by
  show (cfg0.win 1).cut (grid0.coords t) ((dats m 0 c).after 1 t) (ix2 r k : S1024x1024.Idx) = _
  rw [after_o]
  show prod (F := Ideal) (B0 m c t) (rounded (F := Ideal) (c := c) (V m c main_arg1) (tile (t.val / 16))) (ix2 r k) = _
  refine (dot_at (M := 1024) (K := 4096) (N := 1024) _ _ r k).trans ?_
  unfold spec
  refine Finset.sum_congr rfl fun d _ => ?_
  rw [B0_at, rounded_at]

def outArr : S16384x18432.Idx → EReal := fun i => spec (A0 m c) (A1 m c) (i 0) (i 1)

theorem mem_blk (t : Fin cfg0.N) (i : S16384x18432.Idx) :
    i ∈ ((cfg0.win 1).blk t).view.set ↔ (i 0 : Nat) / 1024 = t.val % 16 ∧ (i 1 : Nat) / 1024 = t.val / 16 := by
  show i ∈ ((View.whole main_v0).slice (win0_1.rect t)).set ↔ _
  rw [View.set_slice_whole, Rect.mem_set_unit]
  obtain ⟨e0, e1⟩ := index1 t
  constructor
  · intro h
    have a0 : win0_1.index t 0 * 1024 ≤ (i 0 : Nat) ∧ (i 0 : Nat) < win0_1.index t 0 * 1024 + 1024 := h 0
    have a1 : win0_1.index t 1 * 1024 ≤ (i 1 : Nat) ∧ (i 1 : Nat) < win0_1.index t 1 * 1024 + 1024 := h 1
    omega
  · intro h a
    match a with
    | ⟨0, _⟩ => show win0_1.index t 0 * 1024 ≤ (i 0 : Nat) ∧ (i 0 : Nat) < win0_1.index t 0 * 1024 + 1024; omega
    | ⟨1, _⟩ => show win0_1.index t 1 * 1024 ≤ (i 1 : Nat) ∧ (i 1 : Nat) < win0_1.index t 1 * 1024 + 1024; omega

theorem cover (i : S16384x18432.Idx) : ∃ t : Fin cfg0.N, (cfg0.win 1).flush t = true ∧ i ∈ ((cfg0.win 1).blk t).view.set := by
  have h0 : (i 0 : Nat) < 16384 := (i 0).isLt
  have h1 : (i 1 : Nat) < 18432 := (i 1).isLt
  have hN : cfg0.N = 288 := N_0
  refine ⟨⟨(i 1 : Nat) / 1024 * 16 + (i 0 : Nat) / 1024, by omega⟩, writes_back _, ?_⟩
  rw [mem_blk]
  dsimp only
  omega

theorem flushed_eq (t : Fin cfg0.N) : (dats m 0 c).flushed 1 t = ((cfg0.win 1).blk t).view.read (Elt Ideal) (outArr m c) := by
  refine funext fun (i : S1024x1024.Idx) => ?_
  obtain ⟨r, k, hi⟩ : ∃ (r k : Fin 1024), i = ix2 r k := ⟨i 0, i 1, funext fun a => match a with
    | ⟨0, _⟩ => rfl
    | ⟨1, _⟩ => rfl⟩
  rw [hi]
  refine (flushed_at m c t r k).trans ?_
  obtain ⟨e0, e1⟩ := index1 t
  have hj : ((cfg0.win 1).blk t).view.emb (ix2 r k : S1024x1024.Idx) = (ix2 (rowOf t r) (colOf t k) : S16384x18432.Idx) :=
    funext fun a => Fin.ext (match a with
    | ⟨0, _⟩ => by show win0_1.index t 0 * 1024 + 1 * r.val = 1024 * (t.val % 16) + r.val; omega
    | ⟨1, _⟩ => by show win0_1.index t 1 * 1024 + 1 * k.val = 1024 * (t.val / 16) + k.val; omega)
  show _ = outArr m c (((cfg0.win 1).blk t).view.emb (ix2 r k : S1024x1024.Idx))
  rw [hj]
  rfl

theorem final_eq : (dats m 0 c).arrAt 1 cfg0.N = outArr m c :=
  (dats m 0 c).arrAt_eq_of_cover 1 (outArr m c) (fun t _ => flushed_eq m c t) cover

/-- The call ends with the product, its arguments as they began. -/
theorem run_out : θ_run defs (onTc (τ := τ) (main (F := Ideal))) ⟨m, fun _ => 0, ρ⟩ fun r => ∀ c : Dev nD,
      r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 1).trans (final_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_ends m ρ)

end Cert.InProj

end
-- ==== Proof.InClaims.lean ====
/- The input projection's claims: the three frames, and the equation between the kernel and its reference. -/
module

public import proofs.«01_k».proof.Defs
public import proofs.«01_k».proof.Proof.InProj
public import proofs.«01_k».proof.Proof.InFrameBits
public import Idealize.ShloMosaic.Adequacy
public import Idealize.ShloMosaic.Init

@[expose] public section

set_option maxRecDepth 65536

noncomputable section

namespace Cert.InProj.Claims

open Idealize.ShloMosaic Idealize.ShloMosaic.TcCoe Idealize.SL.Sem

theorem kernelFacts : Cert.Kernel2.Facts := Cert.Kernel2.Gen.facts
theorem idealFacts : Cert.Kernel2Ideal.Facts := Cert.Kernel2Ideal.Gen.facts
theorem refFacts : Cert.Reference2Ideal.Facts := Cert.Reference2Ideal.Gen.facts

open Cert.Reference2Ideal.Read in
theorem ref_eq (x : (⟨2, ![16384, 4096]⟩ : Shape).Idx → EReal) (w : (⟨3, ![2, 4096, 18432]⟩ : Shape).Idx → EReal)
    (i : Cert.Reference2Ideal.S16384x18432.Idx) : val_main_v4 (F := Ideal) x w i = spec x w (i 0) (i 1) := by
  rw [val_main_v4_apply]
  refine (val_main_v3_apply x w i).trans ?_
  unfold spec
  refine Finset.sum_congr rfl fun d _ => ?_
  rw [val_main_v2_apply, val_main_v1_apply]
  refine congrArg₂ (fun a b : EReal => a * b) (congrArg x (funext fun a => match a with
    | ⟨0, _⟩ => rfl
    | ⟨1, _⟩ => rfl)) (congrArg w (funext fun a => Fin.ext ?_))
  have h1 : (i 1).val < 18432 := (i 1).isLt
  match a with
  | ⟨0, _⟩ => rfl
  | ⟨1, _⟩ => show (d.val * 18432 + (i 1).val) / 18432 % 4096 = d.val; omega
  | ⟨2, _⟩ => show (d.val * 18432 + (i 1).val) % 18432 = (i 1).val; omega

theorem frame_kernel : Cert.quiescent_Kernel2 := fun m ρ _ => Cert.InProjBits.args_kept m ρ
theorem frame_ideal : Cert.quiescent_Kernel2Ideal := fun m ρ _ => args_kept m ρ
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem preserves : Cert.preserves_Kernel2_Kernel2Ideal := trivial

theorem algebraic : Cert.algebraic_Kernel2Ideal_Reference2Ideal := by
  intro m ρ m' ρ' hpre hagree
  refine ⟨fun c => outArr m c, run_out m ρ, ?_⟩
  refine (θ_run Cert.Reference2Ideal.defs _ _).mono (fun r h c => ?_) (Cert.Reference2Ideal.Value.run m' ρ')
  obtain ⟨a0, a1⟩ := hagree c
  refine ⟨(h c).1.trans (Eq.trans ?_ (funext fun i => ref_eq (A0 m c) (A1 m c) i)), (h c).2⟩
  rw [a0, a1]
  exact Cert.Reference2Ideal.Read.val_main_v4_eq _ _

end Cert.InProj.Claims

end
-- ==== Proof.Merge.lean ====
/- The gated merge of the three branches: what a grid point writes, and the whole result array. -/
module

public import proofs.«01_k».proof.Proof.Products
public import proofs.«01_k».proof.Proof.Gen.Kernel3Ideal.Value

@[expose] public section

set_option maxRecDepth 65536

noncomputable section

namespace Cert.Merge

open Cert.Kernel3Ideal Cert.Kernel3Ideal.Gen Cert.Kernel3Ideal.Value Idealize.ShloMosaic Idealize.ShloMosaic.TcCoe Idealize.SL.Sem
open Cert.Kernel3Ideal.Facts Cert.Products

variable [hF : Cert.Kernel3Ideal.Facts]
variable (m : (ℓ : Loc nD τ sig) → Buf (Elt Ideal) ℓ) (c : Dev nD)

abbrev A0 : (⟨2, ![16384, 2048]⟩ : Shape).Idx → EReal := m ((c : Thread nD τ).loc main_arg0)
abbrev A1 : (⟨2, ![16384, 1024]⟩ : Shape).Idx → EReal := m ((c : Thread nD τ).loc main_arg1)
abbrev A2 : (⟨2, ![16384, 1024]⟩ : Shape).Idx → EReal := m ((c : Thread nD τ).loc main_arg2)
abbrev A3 : (⟨3, ![2, 2048, 4096]⟩ : Shape).Idx → EReal := m ((c : Thread nD τ).loc main_arg3)
abbrev A4 : (⟨3, ![2, 1024, 4096]⟩ : Shape).Idx → EReal := m ((c : Thread nD τ).loc main_arg4)
abbrev A5 : (⟨3, ![2, 1024, 4096]⟩ : Shape).Idx → EReal := m ((c : Thread nD τ).loc main_arg5)
abbrev A6 : (⟨2, ![16384, 18432]⟩ : Shape).Idx → EReal := m ((c : Thread nD τ).loc main_arg6)

/-- The gate of branch `b` at a row and a channel, read from the input projection. -/
def gate (p : (⟨2, ![16384, 18432]⟩ : Shape).Idx → EReal) (b : Fin 3) (r : Fin 16384) (k : Fin 4096) : EReal :=
  Ideal.logistic (p (ix2 r ⟨6144 + 4096 * b.val + k.val, by omega⟩))

/-- One entry of the result. -/
def spec (y0 : (⟨2, ![16384, 2048]⟩ : Shape).Idx → EReal) (y1 y2 : (⟨2, ![16384, 1024]⟩ : Shape).Idx → EReal)
    (w0 : (⟨3, ![2, 2048, 4096]⟩ : Shape).Idx → EReal) (w1 w2 : (⟨3, ![2, 1024, 4096]⟩ : Shape).Idx → EReal)
    (p : (⟨2, ![16384, 18432]⟩ : Shape).Idx → EReal) (r : Fin 16384) (k : Fin 4096) : EReal :=
  gate p 0 r k * (∑ d : Fin 2048, y0 (ix2 r d) * w0 (ix3 0 d k)) + gate p 1 r k * (∑ d : Fin 1024, y1 (ix2 r d) * w1 (ix3 0 d k))
    + gate p 2 r k * ∑ d : Fin 1024, y2 (ix2 r d) * w2 (ix3 0 d k)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = t.val / 8 ∧ win0_1.index t 1 = 0 :=
  (by decide +kernel : ∀ t : Fin grid0.N, win0_1.index t 0 = t.val / 8 ∧ win0_1.index t 1 = 0)
theorem index2 : ∀ t : Fin cfg0.N, win0_2.index t 0 = t.val / 8 ∧ win0_2.index t 1 = 0 :=
  (by decide +kernel : ∀ t : Fin grid0.N, win0_2.index t 0 = t.val / 8 ∧ win0_2.index t 1 = 0)
theorem index3 : ∀ t : Fin cfg0.N, win0_3.index t 0 = 0 ∧ win0_3.index t 1 = 0 ∧ win0_3.index t 2 = t.val % 8 :=
  (by decide +kernel : ∀ t : Fin grid0.N, win0_3.index t 0 = 0 ∧ win0_3.index t 1 = 0 ∧ win0_3.index t 2 = t.val % 8)
theorem index4 : ∀ t : Fin cfg0.N, win0_4.index t 0 = 0 ∧ win0_4.index t 1 = 0 ∧ win0_4.index t 2 = t.val % 8 :=
  (by decide +kernel : ∀ t : Fin grid0.N, win0_4.index t 0 = 0 ∧ win0_4.index t 1 = 0 ∧ win0_4.index t 2 = t.val % 8)
theorem index5 : ∀ t : Fin cfg0.N, win0_5.index t 0 = 0 ∧ win0_5.index t 1 = 0 ∧ win0_5.index t 2 = t.val % 8 :=
  (by decide +kernel : ∀ t : Fin grid0.N, win0_5.index t 0 = 0 ∧ win0_5.index t 1 = 0 ∧ win0_5.index t 2 = t.val % 8)
theorem index6 : ∀ t : Fin cfg0.N, win0_6.index t 0 = t.val / 8 ∧ win0_6.index t 1 = 12 + t.val % 8 :=
  (by decide +kernel : ∀ t : Fin grid0.N, win0_6.index t 0 = t.val / 8 ∧ win0_6.index t 1 = 12 + t.val % 8)
theorem index7 : ∀ t : Fin cfg0.N, win0_7.index t 0 = t.val / 8 ∧ win0_7.index t 1 = 20 + t.val % 8 :=
  (by decide +kernel : ∀ t : Fin grid0.N, win0_7.index t 0 = t.val / 8 ∧ win0_7.index t 1 = 20 + t.val % 8)
theorem index8 : ∀ t : Fin cfg0.N, win0_8.index t 0 = t.val / 8 ∧ win0_8.index t 1 = 28 + t.val % 8 :=
  (by decide +kernel : ∀ t : Fin grid0.N, win0_8.index t 0 = t.val / 8 ∧ win0_8.index t 1 = 28 + t.val % 8)
theorem index9 : ∀ t : Fin cfg0.N, win0_9.index t 0 = t.val / 8 ∧ win0_9.index t 1 = t.val % 8 :=
  (by decide +kernel : ∀ t : Fin grid0.N, win0_9.index t 0 = t.val / 8 ∧ win0_9.index t 1 = t.val % 8)

/-- The number of grid points. -/
abbrev points : Nat := 128
theorem lt_points (t : Fin cfg0.N) : t.val < 128 := lt_of_lt_of_eq t.isLt (show cfg0.N = 128 from N_0)

def rowOf (t : Fin cfg0.N) (r : Fin 1024) : Fin 16384 := ⟨1024 * (t.val / 8) + r.val, by have := lt_points t; omega⟩
def colOf (t : Fin cfg0.N) (k : Fin 512) : Fin 4096 := ⟨512 * (t.val % 8) + k.val, by have := lt_points t; omega⟩

abbrev B0 (t : Fin cfg0.N) : Vec Ideal S1024x2048 .bf16 := iblk m c 0 t
abbrev B1 (t : Fin cfg0.N) : Vec Ideal S1024x1024 .bf16 := iblk m c 1 t
abbrev B2 (t : Fin cfg0.N) : Vec Ideal S1024x1024 .bf16 := iblk m c 2 t
abbrev B3 (t : Fin cfg0.N) : Vec Ideal S1x2048x512 .bf16 := iblk m c 3 t
abbrev B4 (t : Fin cfg0.N) : Vec Ideal S1x1024x512 .bf16 := iblk m c 4 t
abbrev B5 (t : Fin cfg0.N) : Vec Ideal S1x1024x512 .bf16 := iblk m c 5 t
abbrev B6 (t : Fin cfg0.N) : Vec Ideal S1024x512 .bf16 := iblk m c 6 t
abbrev B7 (t : Fin cfg0.N) : Vec Ideal S1024x512 .bf16 := iblk m c 7 t
abbrev B8 (t : Fin cfg0.N) : Vec Ideal S1024x512 .bf16 := iblk m c 8 t

theorem V_first : (V m c main_v0 : (⟨3, ![2, 2048, 4096]⟩ : Shape).Idx → EReal) = A3 m c := by
  show StableHlo.after hostOps0 _ (Proc.devRef .tc main_v0) = _
  simp only [hostOps0, StableHlo.TRef.unary, StableHlo.TRef.reshape, StableHlo.TRef.toBuf, StableHlo.TRef.ofBuf, cast_eq]
  after_results_simp <;> rfl

theorem V_second : (V m c main_v1 : (⟨3, ![2, 1024, 4096]⟩ : Shape).Idx → EReal) = A4 m c := by
  show StableHlo.after hostOps0 _ (Proc.devRef .tc main_v1) = _
  simp only [hostOps0, StableHlo.TRef.unary, StableHlo.TRef.reshape, StableHlo.TRef.toBuf, StableHlo.TRef.ofBuf, cast_eq]
  after_results_simp <;> rfl

theorem V_third : (V m c main_v2 : (⟨3, ![2, 1024, 4096]⟩ : Shape).Idx → EReal) = A5 m c := by
  show StableHlo.after hostOps0 _ (Proc.devRef .tc main_v2) = _
  simp only [hostOps0, StableHlo.TRef.unary, StableHlo.TRef.reshape, StableHlo.TRef.toBuf, StableHlo.TRef.ofBuf, cast_eq]
  after_results_simp <;> rfl

theorem B0_at (t : Fin cfg0.N) (r : Fin 1024) (d : Fin 2048) : B0 m c t (ix2 r d) = A0 m c (ix2 (rowOf t r) d) := by
  obtain ⟨e0, e1⟩ := index0 t
  unfold B0 iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 8) + r.val; omega
  | ⟨1, _⟩ => show win0_0.index t 1 * 2048 + 1 * d.val = d.val; omega

theorem B1_at (t : Fin cfg0.N) (r : Fin 1024) (d : Fin 1024) : B1 m c t (ix2 r d) = A1 m c (ix2 (rowOf t r) d) := by
  obtain ⟨e0, e1⟩ := index1 t
  unfold B1 iblk
  rw [View.read_apply]
  show V m c main_arg1 _ = _
  rw [V_main_arg1]
  refine congrArg (A1 m c) (funext fun a => Fin.ext ?_)
  match a with
  | ⟨0, _⟩ => show win0_1.index t 0 * 1024 + 1 * r.val = 1024 * (t.val / 8) + r.val; omega
  | ⟨1, _⟩ => show win0_1.index t 1 * 1024 + 1 * d.val = d.val; omega

theorem B2_at (t : Fin cfg0.N) (r : Fin 1024) (d : Fin 1024) : B2 m c t (ix2 r d) = A2 m c (ix2 (rowOf t r) d) := by
  obtain ⟨e0, e1⟩ := index2 t
  unfold B2 iblk
  rw [View.read_apply]
  show V m c main_arg2 _ = _
  rw [V_main_arg2]
  refine congrArg (A2 m c) (funext fun a => Fin.ext ?_)
  match a with
  | ⟨0, _⟩ => show win0_2.index t 0 * 1024 + 1 * r.val = 1024 * (t.val / 8) + r.val; omega
  | ⟨1, _⟩ => show win0_2.index t 1 * 1024 + 1 * d.val = d.val; omega

theorem B3_at (t : Fin cfg0.N) (d : Fin 2048) (k : Fin 512) : B3 m c t (ix3 0 d k) = A3 m c (ix3 0 d (colOf t k)) := by
  obtain ⟨e0, e1, e2⟩ := index3 t
  unfold B3 iblk
  rw [View.read_apply]
  show (V m c main_v0 : (⟨3, ![2, 2048, 4096]⟩ : Shape).Idx → EReal) _ = _
  rw [V_first]
  refine congrArg (A3 m c) (funext fun a => Fin.ext ?_)
  match a with
  | ⟨0, _⟩ => show win0_3.index t 0 * 1 + 1 * 0 = 0; omega
  | ⟨1, _⟩ => show win0_3.index t 1 * 2048 + 1 * d.val = d.val; omega
  | ⟨2, _⟩ => show win0_3.index t 2 * 512 + 1 * k.val = 512 * (t.val % 8) + k.val; omega

theorem B4_at (t : Fin cfg0.N) (d : Fin 1024) (k : Fin 512) : B4 m c t (ix3 0 d k) = A4 m c (ix3 0 d (colOf t k)) := by
  obtain ⟨e0, e1, e2⟩ := index4 t
  unfold B4 iblk
  rw [View.read_apply]
  show (V m c main_v1 : (⟨3, ![2, 1024, 4096]⟩ : Shape).Idx → EReal) _ = _
  rw [V_second]
  refine congrArg (A4 m c) (funext fun a => Fin.ext ?_)
  match a with
  | ⟨0, _⟩ => show win0_4.index t 0 * 1 + 1 * 0 = 0; omega
  | ⟨1, _⟩ => show win0_4.index t 1 * 1024 + 1 * d.val = d.val; omega
  | ⟨2, _⟩ => show win0_4.index t 2 * 512 + 1 * k.val = 512 * (t.val % 8) + k.val; omega

theorem B5_at (t : Fin cfg0.N) (d : Fin 1024) (k : Fin 512) : B5 m c t (ix3 0 d k) = A5 m c (ix3 0 d (colOf t k)) := by
  obtain ⟨e0, e1, e2⟩ := index5 t
  unfold B5 iblk
  rw [View.read_apply]
  show (V m c main_v2 : (⟨3, ![2, 1024, 4096]⟩ : Shape).Idx → EReal) _ = _
  rw [V_third]
  refine congrArg (A5 m c) (funext fun a => Fin.ext ?_)
  match a with
  | ⟨0, _⟩ => show win0_5.index t 0 * 1 + 1 * 0 = 0; omega
  | ⟨1, _⟩ => show win0_5.index t 1 * 1024 + 1 * d.val = d.val; omega
  | ⟨2, _⟩ => show win0_5.index t 2 * 512 + 1 * k.val = 512 * (t.val % 8) + k.val; omega

theorem B6_at (t : Fin cfg0.N) (r : Fin 1024) (k : Fin 512) : B6 m c t (ix2 r k) = A6 m c (ix2 (rowOf t r) ⟨6144 + (colOf t k).val, by have := (colOf t k).isLt; omega⟩) := by
  obtain ⟨e0, e1⟩ := index6 t
  unfold B6 iblk
  rw [View.read_apply]
  show V m c main_arg6 _ = _
  rw [V_main_arg6]
  refine congrArg (A6 m c) (funext fun a => Fin.ext ?_)
  match a with
  | ⟨0, _⟩ => show win0_6.index t 0 * 1024 + 1 * r.val = 1024 * (t.val / 8) + r.val; omega
  | ⟨1, _⟩ => show win0_6.index t 1 * 512 + 1 * k.val = 6144 + (512 * (t.val % 8) + k.val); omega

theorem B7_at (t : Fin cfg0.N) (r : Fin 1024) (k : Fin 512) : B7 m c t (ix2 r k) = A6 m c (ix2 (rowOf t r) ⟨10240 + (colOf t k).val, by have := (colOf t k).isLt; omega⟩) := by
  obtain ⟨e0, e1⟩ := index7 t
  unfold B7 iblk
  rw [View.read_apply]
  show V m c main_arg6 _ = _
  rw [V_main_arg6]
  refine congrArg (A6 m c) (funext fun a => Fin.ext ?_)
  match a with
  | ⟨0, _⟩ => show win0_7.index t 0 * 1024 + 1 * r.val = 1024 * (t.val / 8) + r.val; omega
  | ⟨1, _⟩ => show win0_7.index t 1 * 512 + 1 * k.val = 10240 + (512 * (t.val % 8) + k.val); omega

theorem B8_at (t : Fin cfg0.N) (r : Fin 1024) (k : Fin 512) : B8 m c t (ix2 r k) = A6 m c (ix2 (rowOf t r) ⟨14336 + (colOf t k).val, by have := (colOf t k).isLt; omega⟩) := by
  obtain ⟨e0, e1⟩ := index8 t
  unfold B8 iblk
  rw [View.read_apply]
  show V m c main_arg6 _ = _
  rw [V_main_arg6]
  refine congrArg (A6 m c) (funext fun a => Fin.ext ?_)
  match a with
  | ⟨0, _⟩ => show win0_8.index t 0 * 1024 + 1 * r.val = 1024 * (t.val / 8) + r.val; omega
  | ⟨1, _⟩ => show win0_8.index t 1 * 512 + 1 * k.val = 14336 + (512 * (t.val % 8) + k.val); omega

theorem out_eq (x0 : Vec Ideal S1024x2048 .bf16) (x1 x2 : Vec Ideal S1024x1024 .bf16) (x3 : Vec Ideal S1x2048x512 .bf16)
    (x4 x5 : Vec Ideal S1x1024x512 .bf16) (x6 x7 x8 : Vec Ideal S1024x512 .bf16) :
    out0_9 x0 x1 x2 x3 x4 x5 x6 x7 x8 = k0_pay1 (k0_pay2 x6 x0 x3 x7 x1 x4) (k0_pay3 x8) x2 x5 := by
  unfold out0_9
  rw [View.canon_unit_zero hz2]
  repeat (first | rw [View.ld_unit_zero hz2] | rw [View.ld_unit_zero hz3])

theorem pay_at (x0 : Vec Ideal S1024x2048 .bf16) (x1 x2 : Vec Ideal S1024x1024 .bf16) (x3 : Vec Ideal S1x2048x512 .bf16)
    (x4 x5 : Vec Ideal S1x1024x512 .bf16) (x6 x7 x8 : Vec Ideal S1024x512 .bf16) (r : Fin 1024) (k : Fin 512) :
    k0_pay1 (F := Ideal) (k0_pay2 x6 x0 x3 x7 x1 x4) (k0_pay3 x8) x2 x5 (ix2 r k)
      = Ideal.logistic (x6 (ix2 r k)) * (∑ d : Fin 2048, x0 (ix2 r d) * x3 (ix3 0 d k))
        + Ideal.logistic (x7 (ix2 r k)) * (∑ d : Fin 1024, x1 (ix2 r d) * x4 (ix3 0 d k))
        + Ideal.logistic (x8 (ix2 r k)) * ∑ d : Fin 1024, x2 (ix2 r d) * x5 (ix3 0 d k) := by
  unfold k0_pay1 k0_pay2 k0_pay3
  refine congrArg₂ (fun a b : EReal => a + b) (congrArg₂ (fun a b : EReal => a + b) ?_ ?_) ?_
  · exact congrArg₂ (fun a b : EReal => a * b) (sigmoid_eq _) (dot_block (M := 1024) (K := 2048) (N := 512) _ _ _ r k)
  · exact congrArg₂ (fun a b : EReal => a * b) (sigmoid_eq _) (dot_block (M := 1024) (K := 1024) (N := 512) _ _ _ r k)
  · exact congrArg₂ (fun a b : EReal => a * b) (sigmoid_eq _) (dot_block (M := 1024) (K := 1024) (N := 512) _ _ _ r k)

theorem flushed_at (t : Fin cfg0.N) (r : Fin 1024) (k : Fin 512) : (dats m 0 c).flushed 9 t (ix2 r k : S1024x512.Idx)
    = spec (A0 m c) (A1 m c) (A2 m c) (A3 m c) (A4 m c) (A5 m c) (A6 m c) (rowOf t r) (colOf t k) := by
  rw [flushed9, out_eq]
  refine (pay_at (B0 m c t) (B1 m c t) (B2 m c t) (B3 m c t) (B4 m c t) (B5 m c t) (B6 m c t) (B7 m c t) (B8 m c t) r k).trans ?_
  unfold spec gate
  rw [B6_at, B7_at, B8_at]
  simp only [B0_at, B1_at, B2_at, B3_at, B4_at, B5_at]
  rfl

def outArr : S16384x4096.Idx → EReal := fun i => spec (A0 m c) (A1 m c) (A2 m c) (A3 m c) (A4 m c) (A5 m c) (A6 m c) (i 0) (i 1)

theorem mem_blk (t : Fin cfg0.N) (i : S16384x4096.Idx) :
    i ∈ ((cfg0.win 9).blk t).view.set ↔ (i 0 : Nat) / 1024 = t.val / 8 ∧ (i 1 : Nat) / 512 = t.val % 8 := by
  show i ∈ ((View.whole main_v3).slice (win0_9.rect t)).set ↔ _
  rw [View.set_slice_whole, Rect.mem_set_unit]
  obtain ⟨e0, e1⟩ := index9 t
  have h1 : (i 1 : Nat) < 4096 := (i 1).isLt
  constructor
  · intro h
    have a0 : win0_9.index t 0 * 1024 ≤ (i 0 : Nat) ∧ (i 0 : Nat) < win0_9.index t 0 * 1024 + 1024 := h 0
    have a1 : win0_9.index t 1 * 512 ≤ (i 1 : Nat) ∧ (i 1 : Nat) < win0_9.index t 1 * 512 + 512 := h 1
    omega
  · intro h a
    match a with
    | ⟨0, _⟩ => show win0_9.index t 0 * 1024 ≤ (i 0 : Nat) ∧ (i 0 : Nat) < win0_9.index t 0 * 1024 + 1024; omega
    | ⟨1, _⟩ => show win0_9.index t 1 * 512 ≤ (i 1 : Nat) ∧ (i 1 : Nat) < win0_9.index t 1 * 512 + 512; omega

theorem cover (i : S16384x4096.Idx) : ∃ t : Fin cfg0.N, (cfg0.win 9).flush t = true ∧ i ∈ ((cfg0.win 9).blk t).view.set := by
  have h0 : (i 0 : Nat) < 16384 := (i 0).isLt
  have h1 : (i 1 : Nat) < 4096 := (i 1).isLt
  have hN : cfg0.N = points := N_0
  unfold points at hN
  refine ⟨⟨(i 0 : Nat) / 1024 * 8 + (i 1 : Nat) / 512, by omega⟩, flush0_9 _, ?_⟩
  rw [mem_blk]
  dsimp only
  omega

theorem flushed_eq (t : Fin cfg0.N) : (dats m 0 c).flushed 9 t = ((cfg0.win 9).blk t).view.read (Elt Ideal) (outArr m c) := by
  refine funext fun (i : S1024x512.Idx) => ?_
  obtain ⟨r, k, hi⟩ : ∃ (r : Fin 1024) (k : Fin 512), i = ix2 r k := ⟨i 0, i 1, funext fun a => match a with
    | ⟨0, _⟩ => rfl
    | ⟨1, _⟩ => rfl⟩
  rw [hi]
  refine (flushed_at m c t r k).trans ?_
  obtain ⟨e0, e1⟩ := index9 t
  have hj : ((cfg0.win 9).blk t).view.emb (ix2 r k : S1024x512.Idx) = (ix2 (rowOf t r) (colOf t k) : S16384x4096.Idx) :=
    funext fun a => Fin.ext (match a with
    | ⟨0, _⟩ => by show win0_9.index t 0 * 1024 + 1 * r.val = 1024 * (t.val / 8) + r.val; omega
    | ⟨1, _⟩ => by show win0_9.index t 1 * 512 + 1 * k.val = 512 * (t.val % 8) + k.val; omega)
  show _ = outArr m c (((cfg0.win 9).blk t).view.emb (ix2 r k : S1024x512.Idx))
  rw [hj]
  rfl

theorem final_eq : (dats m 0 c).arrAt 9 cfg0.N = outArr m c :=
  (dats m 0 c).arrAt_eq_of_cover 9 (outArr m c) (fun t _ => flushed_eq m c t) cover

end Cert.Merge

end
-- ==== Proof.MergeClaims.lean ====
/- The output projection's claims: the three frames, and the equation between the kernel and its reference. -/
module

public import proofs.«01_k».proof.Defs
public import proofs.«01_k».proof.Proof.Merge
public import proofs.«01_k».proof.Proof.Gen.Reference3Ideal.Read
public import proofs.«01_k».proof.Proof.Gen.Kernel3.Frame
public import Idealize.ShloMosaic.Adequacy
public import Idealize.ShloMosaic.Init

@[expose] public section

set_option maxRecDepth 65536

noncomputable section

namespace Cert.Merge.Claims

open Idealize.ShloMosaic Idealize.ShloMosaic.TcCoe Idealize.SL.Sem

theorem kernelFacts : Cert.Kernel3.Facts := Cert.Kernel3.Gen.facts
theorem idealFacts : Cert.Kernel3Ideal.Facts := Cert.Kernel3Ideal.Gen.facts
theorem refFacts : Cert.Reference3Ideal.Facts := Cert.Reference3Ideal.Gen.facts

open Cert.Reference3Ideal.Read in
theorem dot_first (x : (⟨2, ![16384, 2048]⟩ : Shape).Idx → EReal) (w : (⟨3, ![2, 2048, 4096]⟩ : Shape).Idx → EReal)
    (i : Cert.Reference3Ideal.S16384x4096.Idx) : val_main_v12 (F := Ideal) x w i = ∑ d : Fin 2048, x (ix2 (i 0) d) * w (ix3 0 d (i 1)) := by
  rw [val_main_v12_apply]
  refine Finset.sum_congr rfl fun d _ => ?_
  have h1 : (i 1).val < 4096 := (i 1).isLt
  rw [val_main_v11_apply, val_main_v10_apply]
  refine congrArg₂ (fun a b : EReal => a * b) (congrArg x (funext fun a => match a with
    | ⟨0, _⟩ => rfl
    | ⟨1, _⟩ => rfl)) (congrArg w (funext fun a => Fin.ext ?_))
  match a with
  | ⟨0, _⟩ => rfl
  | ⟨1, _⟩ => show (d.val * 4096 + (i 1).val) / 4096 % 2048 = d.val; omega
  | ⟨2, _⟩ => show (d.val * 4096 + (i 1).val) % 4096 = (i 1).val; omega

open Cert.Reference3Ideal.Read in
theorem dot_second (x : (⟨2, ![16384, 1024]⟩ : Shape).Idx → EReal) (w : (⟨3, ![2, 1024, 4096]⟩ : Shape).Idx → EReal)
    (i : Cert.Reference3Ideal.S16384x4096.Idx) : val_main_v24 (F := Ideal) x w i = ∑ d : Fin 1024, x (ix2 (i 0) d) * w (ix3 0 d (i 1)) := by
  rw [val_main_v24_apply]
  refine Finset.sum_congr rfl fun d _ => ?_
  have h1 : (i 1).val < 4096 := (i 1).isLt
  rw [val_main_v23_apply, val_main_v22_apply]
  refine congrArg₂ (fun a b : EReal => a * b) (congrArg x (funext fun a => match a with
    | ⟨0, _⟩ => rfl
    | ⟨1, _⟩ => rfl)) (congrArg w (funext fun a => Fin.ext ?_))
  match a with
  | ⟨0, _⟩ => rfl
  | ⟨1, _⟩ => show (d.val * 4096 + (i 1).val) / 4096 % 1024 = d.val; omega
  | ⟨2, _⟩ => show (d.val * 4096 + (i 1).val) % 4096 = (i 1).val; omega

open Cert.Reference3Ideal.Read in
theorem dot_third (x : (⟨2, ![16384, 1024]⟩ : Shape).Idx → EReal) (w : (⟨3, ![2, 1024, 4096]⟩ : Shape).Idx → EReal)
    (i : Cert.Reference3Ideal.S16384x4096.Idx) : val_main_v37 (F := Ideal) x w i = ∑ d : Fin 1024, x (ix2 (i 0) d) * w (ix3 0 d (i 1)) := by
  rw [val_main_v37_apply]
  refine Finset.sum_congr rfl fun d _ => ?_
  have h1 : (i 1).val < 4096 := (i 1).isLt
  rw [val_main_v36_apply, val_main_v35_apply]
  refine congrArg₂ (fun a b : EReal => a * b) (congrArg x (funext fun a => match a with
    | ⟨0, _⟩ => rfl
    | ⟨1, _⟩ => rfl)) (congrArg w (funext fun a => Fin.ext ?_))
  match a with
  | ⟨0, _⟩ => rfl
  | ⟨1, _⟩ => show (d.val * 4096 + (i 1).val) / 4096 % 1024 = d.val; omega
  | ⟨2, _⟩ => show (d.val * 4096 + (i 1).val) % 4096 = (i 1).val; omega

open Cert.Reference3Ideal.Read in
theorem gate_first (p : (⟨2, ![16384, 18432]⟩ : Shape).Idx → EReal) (i : Cert.Reference3Ideal.S16384x4096.Idx) :
    val_main_v8 (F := Ideal) p i = gate p 0 (i 0) (i 1) := by
  rw [val_main_v8_apply, val_main_v7_apply, val_main_cst_0_apply, val_main_v6_apply, val_main_v5_apply, val_main_cst_apply,
    val_main_v4_apply, val_main_v3_apply, val_main_v2_apply, val_main_v1_apply, val_main_v0_apply]
  unfold gate
  refine (Cert.Products.host_sigmoid _).trans (congrArg Ideal.logistic (congrArg p (funext fun a => Fin.ext ?_)))
  match a with
  | ⟨0, _⟩ => show _ = (i 0).val; first | rfl | (dsimp only; omega)
  | ⟨1, _⟩ => show _ = 6144 + 4096 * 0 + (i 1).val; first | rfl | (dsimp only; omega)

open Cert.Reference3Ideal.Read in
theorem gate_second (p : (⟨2, ![16384, 18432]⟩ : Shape).Idx → EReal) (i : Cert.Reference3Ideal.S16384x4096.Idx) :
    val_main_v20 (F := Ideal) p i = gate p 1 (i 0) (i 1) := by
  rw [val_main_v20_apply, val_main_v19_apply, val_main_cst_2_apply, val_main_v18_apply, val_main_v17_apply, val_main_cst_1_apply,
    val_main_v16_apply, val_main_v15_apply, val_main_v14_apply, val_main_v1_apply, val_main_v0_apply]
  unfold gate
  refine (Cert.Products.host_sigmoid _).trans (congrArg Ideal.logistic (congrArg p (funext fun a => Fin.ext ?_)))
  match a with
  | ⟨0, _⟩ => show _ = (i 0).val; first | rfl | (dsimp only; omega)
  | ⟨1, _⟩ => show _ = 6144 + 4096 * 1 + (i 1).val; first | rfl | (dsimp only; omega)

open Cert.Reference3Ideal.Read in
theorem gate_third (p : (⟨2, ![16384, 18432]⟩ : Shape).Idx → EReal) (i : Cert.Reference3Ideal.S16384x4096.Idx) :
    val_main_v33 (F := Ideal) p i = gate p 2 (i 0) (i 1) := by
  rw [val_main_v33_apply, val_main_v32_apply, val_main_cst_4_apply, val_main_v31_apply, val_main_v30_apply, val_main_cst_3_apply,
    val_main_v29_apply, val_main_v28_apply, val_main_v27_apply, val_main_v1_apply, val_main_v0_apply]
  unfold gate
  refine (Cert.Products.host_sigmoid _).trans (congrArg Ideal.logistic (congrArg p (funext fun a => Fin.ext ?_)))
  match a with
  | ⟨0, _⟩ => show _ = (i 0).val; first | rfl | (dsimp only; omega)
  | ⟨1, _⟩ => show _ = 6144 + 4096 * 2 + (i 1).val; first | rfl | (dsimp only; omega)

open Cert.Reference3Ideal.Read in
theorem ref_eq (y0 : (⟨2, ![16384, 2048]⟩ : Shape).Idx → EReal) (y1 y2 : (⟨2, ![16384, 1024]⟩ : Shape).Idx → EReal)
    (w0 : (⟨3, ![2, 2048, 4096]⟩ : Shape).Idx → EReal) (w1 w2 : (⟨3, ![2, 1024, 4096]⟩ : Shape).Idx → EReal)
    (p : (⟨2, ![16384, 18432]⟩ : Shape).Idx → EReal) (i : Cert.Reference3Ideal.S16384x4096.Idx) :
    val_main_v40 (F := Ideal) y0 y1 y2 w0 w1 w2 p i = spec y0 y1 y2 w0 w1 w2 p (i 0) (i 1) := by
  rw [val_main_v40_apply, val_main_v39_apply, val_main_v38_apply, val_main_v26_apply, val_main_v25_apply, val_main_v13_apply,
    gate_first, gate_second, gate_third, dot_first, dot_second, dot_third]
  rfl

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem preserves : Cert.preserves_Kernel3_Kernel3Ideal := trivial

theorem algebraic : Cert.algebraic_Kernel3Ideal_Reference3Ideal := by
  intro m ρ m' ρ' hpre hagree
  refine ⟨fun c => outArr m c, ?_, ?_⟩
  · refine (θ_run Cert.Kernel3Ideal.defs _ _).mono (fun r h c => ?_) (Cert.Kernel3Ideal.Value.run_blocks m ρ)
    exact ⟨(h c).1.trans (final_eq m c), (h c).2⟩
  · refine (θ_run Cert.Reference3Ideal.defs _ _).mono (fun r h c => ?_) (Cert.Reference3Ideal.Value.run m' ρ')
    obtain ⟨a0, a1, a2, a3, a4, a5, a6⟩ := hagree c
    refine ⟨(h c).1.trans (Eq.trans ?_ (funext fun i => ref_eq (A0 m c) (A1 m c) (A2 m c) (A3 m c) (A4 m c) (A5 m c) (A6 m c) i)), (h c).2⟩
    rw [a0, a1, a2, a3, a4, a5, a6]
    exact Cert.Reference3Ideal.Read.val_main_v40_eq _ _ _ _ _ _ _

end Cert.Merge.Claims

end
-- ==== Proof.OutProj.lean ====
/- The output projection with its residual: what a grid point writes, and the whole result array. -/
module

public import proofs.«01_k».proof.Proof.Products
public import proofs.«01_k».proof.Proof.Gen.Kernel4Ideal.Value
public import proofs.«01_k».proof.Proof.Gen.Reference4Ideal.Run
public import proofs.«01_k».proof.Proof.Gen.Reference4Ideal.Read

@[expose] public section

set_option maxRecDepth 65536

noncomputable section

namespace Cert.OutProj

open Cert.Kernel4Ideal Cert.Kernel4Ideal.Gen Cert.Kernel4Ideal.Value Idealize.ShloMosaic Idealize.ShloMosaic.TcCoe Idealize.SL.Sem
open Cert.Kernel4Ideal.Facts Cert.Products

variable [hF : Cert.Kernel4Ideal.Facts]
variable (m : (ℓ : Loc nD τ sig) → Buf (Elt Ideal) ℓ) (c : Dev nD)

abbrev A0 : (⟨2, ![16384, 4096]⟩ : Shape).Idx → EReal := m ((c : Thread nD τ).loc main_arg0)
abbrev A1 : (⟨2, ![16384, 4096]⟩ : Shape).Idx → EReal := m ((c : Thread nD τ).loc main_arg1)
abbrev A2 : (⟨3, ![2, 4096, 4096]⟩ : Shape).Idx → EReal := m ((c : Thread nD τ).loc main_arg2)

/-- One entry of the result. -/
def spec (h x : (⟨2, ![16384, 4096]⟩ : Shape).Idx → EReal) (w : (⟨3, ![2, 4096, 4096]⟩ : Shape).Idx → EReal) (r : Fin 16384) (k : Fin 4096) : EReal :=
  h (ix2 r k) + ∑ d : Fin 4096, x (ix2 r d) * w (ix3 0 d k)

theorem lt_64 (t : Fin cfg0.N) : t.val < 64 := lt_of_lt_of_eq t.isLt (show cfg0.N = 64 from N_0)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index1 : ∀ t : Fin cfg0.N, win0_1.index t 0 = t.val / 4 ∧ win0_1.index t 1 = 0 :=
  (by decide +kernel : ∀ t : Fin grid0.N, win0_1.index t 0 = t.val / 4 ∧ win0_1.index t 1 = 0)
theorem index2 : ∀ t : Fin cfg0.N, win0_2.index t 0 = 0 ∧ win0_2.index t 1 = 0 ∧ win0_2.index t 2 = t.val % 4 :=
  (by decide +kernel : ∀ t : Fin grid0.N, win0_2.index t 0 = 0 ∧ win0_2.index t 1 = 0 ∧ win0_2.index t 2 = t.val % 4)
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

def rowOf (t : Fin cfg0.N) (r : Fin 1024) : Fin 16384 := ⟨1024 * (t.val / 4) + r.val, by have := lt_64 t; omega⟩
def colOf (t : Fin cfg0.N) (k : Fin 1024) : Fin 4096 := ⟨1024 * (t.val % 4) + k.val, by omega⟩

abbrev B0 (t : Fin cfg0.N) : Vec Ideal S1024x1024 .f32 := iblk m c 0 t
abbrev B1 (t : Fin cfg0.N) : Vec Ideal S1024x4096 .bf16 := iblk m c 1 t
abbrev B2 (t : Fin cfg0.N) : Vec Ideal S1x4096x1024 .bf16 := iblk m c 2 t

theorem V_weights : (V m c main_v0 : (⟨3, ![2, 4096, 4096]⟩ : Shape).Idx → EReal) = A2 m c := by
  show StableHlo.after hostOps0 _ (Proc.devRef .tc main_v0) = _
  simp only [hostOps0, StableHlo.TRef.unary, StableHlo.TRef.toBuf, StableHlo.TRef.ofBuf, cast_eq]
  after_results_simp <;> rfl

theorem B0_at (t : Fin cfg0.N) (r : Fin 1024) (k : Fin 1024) : B0 m c t (ix2 r k) = A0 m c (ix2 (rowOf t r) (colOf t k)) := by
  obtain ⟨e0, e1⟩ := index0 t
  unfold B0 iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 4) + r.val; omega
  | ⟨1, _⟩ => show win0_0.index t 1 * 1024 + 1 * k.val = 1024 * (t.val % 4) + k.val; omega

theorem B1_at (t : Fin cfg0.N) (r : Fin 1024) (d : Fin 4096) : B1 m c t (ix2 r d) = A1 m c (ix2 (rowOf t r) d) := by
  obtain ⟨e0, e1⟩ := index1 t
  unfold B1 iblk
  rw [View.read_apply]
  show V m c main_arg1 _ = _
  rw [V_main_arg1]
  refine congrArg (A1 m c) (funext fun a => Fin.ext ?_)
  match a with
  | ⟨0, _⟩ => show win0_1.index t 0 * 1024 + 1 * r.val = 1024 * (t.val / 4) + r.val; omega
  | ⟨1, _⟩ => show win0_1.index t 1 * 4096 + 1 * d.val = d.val; omega

theorem B2_at (t : Fin cfg0.N) (d : Fin 4096) (k : Fin 1024) : B2 m c t (ix3 0 d k) = A2 m c (ix3 0 d (colOf t k)) := by
  obtain ⟨e0, e1, e2⟩ := index2 t
  unfold B2 iblk
  rw [View.read_apply]
  show (V m c main_v0 : (⟨3, ![2, 4096, 4096]⟩ : Shape).Idx → EReal) _ = _
  rw [V_weights]
  refine congrArg (A2 m c) (funext fun a => Fin.ext ?_)
  match a with
  | ⟨0, _⟩ => show win0_2.index t 0 * 1 + 1 * 0 = 0; omega
  | ⟨1, _⟩ => show win0_2.index t 1 * 4096 + 1 * d.val = d.val; omega
  | ⟨2, _⟩ => show win0_2.index t 2 * 1024 + 1 * k.val = 1024 * (t.val % 4) + k.val; omega

theorem out_eq (x0 : Vec Ideal S1024x1024 .f32) (x1 : Vec Ideal S1024x4096 .bf16) (x2 : Vec Ideal S1x4096x1024 .bf16) :
    out0_3 x0 x1 x2 = k0_pay1 x0 x1 x2 := by
  unfold out0_3
  rw [View.canon_unit_zero hz2, View.ld_unit_zero hz2, View.ld_unit_zero hz2, View.ld_unit_zero hz3]

theorem pay_at (x0 : Vec Ideal S1024x1024 .f32) (x1 : Vec Ideal S1024x4096 .bf16) (x2 : Vec Ideal S1x4096x1024 .bf16) (r k : Fin 1024) :
    k0_pay1 (F := Ideal) x0 x1 x2 (ix2 r k) = x0 (ix2 r k) + ∑ d : Fin 4096, x1 (ix2 r d) * x2 (ix3 0 d k) := by
  unfold k0_pay1
  refine congrArg (x0 (ix2 r k) + ·) ((dot_at (M := 1024) (K := 4096) (N := 1024) _ _ r k).trans ?_)
  refine Finset.sum_congr rfl fun d _ => congrArg (x1 (ix2 r d) * ·) ?_
  exact Cert.Attn.drop_unit (n := 4096) (m := 1024) _ _ d k

theorem flushed_at (t : Fin cfg0.N) (r k : Fin 1024) :
    (dats m 0 c).flushed 3 t (ix2 r k : S1024x1024.Idx) = spec (A0 m c) (A1 m c) (A2 m c) (rowOf t r) (colOf t k) := by
  rw [flushed3, out_eq]
  refine (pay_at (B0 m c t) (B1 m c t) (B2 m c t) r k).trans ?_
  unfold spec
  rw [B0_at]
  simp only [B1_at, B2_at]

def outArr : S16384x4096.Idx → EReal := fun i => spec (A0 m c) (A1 m c) (A2 m c) (i 0) (i 1)

theorem mem_blk (t : Fin cfg0.N) (i : S16384x4096.Idx) :
    i ∈ ((cfg0.win 3).blk t).view.set ↔ (i 0 : Nat) / 1024 = t.val / 4 ∧ (i 1 : Nat) / 1024 = t.val % 4 := by
  show i ∈ ((View.whole main_v1).slice (win0_3.rect t)).set ↔ _
  rw [View.set_slice_whole, Rect.mem_set_unit]
  obtain ⟨e0, e1⟩ := index3 t
  constructor
  · intro h
    have a0 : win0_3.index t 0 * 1024 ≤ (i 0 : Nat) ∧ (i 0 : Nat) < win0_3.index t 0 * 1024 + 1024 := h 0
    have a1 : win0_3.index t 1 * 1024 ≤ (i 1 : Nat) ∧ (i 1 : Nat) < win0_3.index t 1 * 1024 + 1024 := h 1
    omega
  · intro h a
    match a with
    | ⟨0, _⟩ => show win0_3.index t 0 * 1024 ≤ (i 0 : Nat) ∧ (i 0 : Nat) < win0_3.index t 0 * 1024 + 1024; omega
    | ⟨1, _⟩ => show win0_3.index t 1 * 1024 ≤ (i 1 : Nat) ∧ (i 1 : Nat) < win0_3.index t 1 * 1024 + 1024; omega

theorem cover (i : S16384x4096.Idx) : ∃ t : Fin cfg0.N, (cfg0.win 3).flush t = true ∧ i ∈ ((cfg0.win 3).blk t).view.set := by
  have h0 : (i 0 : Nat) < 16384 := (i 0).isLt
  have h1 : (i 1 : Nat) < 4096 := (i 1).isLt
  have hN : cfg0.N = 64 := N_0
  refine ⟨⟨(i 0 : Nat) / 1024 * 4 + (i 1 : Nat) / 1024, by omega⟩, flush0_3 _, ?_⟩
  rw [mem_blk]
  dsimp only
  omega

theorem flushed_eq (t : Fin cfg0.N) : (dats m 0 c).flushed 3 t = ((cfg0.win 3).blk t).view.read (Elt Ideal) (outArr m c) := by
  refine funext fun (i : S1024x1024.Idx) => ?_
  obtain ⟨r, k, hi⟩ : ∃ (r k : Fin 1024), i = ix2 r k := ⟨i 0, i 1, funext fun a => match a with
    | ⟨0, _⟩ => rfl
    | ⟨1, _⟩ => rfl⟩
  rw [hi]
  refine (flushed_at m c t r k).trans ?_
  obtain ⟨e0, e1⟩ := index3 t
  have hj : ((cfg0.win 3).blk t).view.emb (ix2 r k : S1024x1024.Idx) = (ix2 (rowOf t r) (colOf t k) : S16384x4096.Idx) :=
    funext fun a => Fin.ext (match a with
    | ⟨0, _⟩ => by show win0_3.index t 0 * 1024 + 1 * r.val = 1024 * (t.val / 4) + r.val; omega
    | ⟨1, _⟩ => by show win0_3.index t 1 * 1024 + 1 * k.val = 1024 * (t.val % 4) + k.val; omega)
  show _ = outArr m c (((cfg0.win 3).blk t).view.emb (ix2 r k : S1024x1024.Idx))
  rw [hj]
  rfl

theorem final_eq : (dats m 0 c).arrAt 3 cfg0.N = outArr m c :=
  (dats m 0 c).arrAt_eq_of_cover 3 (outArr m c) (fun t _ => flushed_eq m c t) cover

end Cert.OutProj

end
-- ==== Proof.OutClaims.lean ====
/- The output projection's claims: the three frames, and the equation between the kernel and its reference. -/
module

public import proofs.«01_k».proof.Defs
public import proofs.«01_k».proof.Proof.OutProj
public import proofs.«01_k».proof.Proof.Gen.Kernel4.Frame
public import Idealize.ShloMosaic.Adequacy
public import Idealize.ShloMosaic.Init

@[expose] public section

set_option maxRecDepth 65536

noncomputable section

namespace Cert.OutProj.Claims

open Idealize.ShloMosaic Idealize.ShloMosaic.TcCoe Idealize.SL.Sem

theorem kernelFacts : Cert.Kernel4.Facts := Cert.Kernel4.Gen.facts
theorem idealFacts : Cert.Kernel4Ideal.Facts := Cert.Kernel4Ideal.Gen.facts
theorem refFacts : Cert.Reference4Ideal.Facts := Cert.Reference4Ideal.Gen.facts

open Cert.Reference4Ideal.Read in
theorem ref_eq (h x : (⟨2, ![16384, 4096]⟩ : Shape).Idx → EReal) (w : (⟨3, ![2, 4096, 4096]⟩ : Shape).Idx → EReal)
    (i : Cert.Reference4Ideal.S16384x4096.Idx) : val_main_v4 (F := Ideal) h x w i = spec h x w (i 0) (i 1) := by
  rw [val_main_v4_apply, val_main_v3_apply]
  unfold spec
  refine congrArg₂ (fun a b : EReal => a + b) (congrArg h (funext fun a => match a with
    | ⟨0, _⟩ => rfl
    | ⟨1, _⟩ => rfl)) (Finset.sum_congr rfl fun d _ => ?_)
  rw [val_main_v2_apply, val_main_v1_apply]
  refine congrArg₂ (fun a b : EReal => a * b) (congrArg x (funext fun a => match a with
    | ⟨0, _⟩ => rfl
    | ⟨1, _⟩ => rfl)) (congrArg w (funext fun a => Fin.ext ?_))
  have h1 : (i 1).val < 4096 := (i 1).isLt
  match a with
  | ⟨0, _⟩ => rfl
  | ⟨1, _⟩ => show (d.val * 4096 + (i 1).val) / 4096 % 4096 = d.val; omega
  | ⟨2, _⟩ => show (d.val * 4096 + (i 1).val) % 4096 = (i 1).val; omega

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem preserves : Cert.preserves_Kernel4_Kernel4Ideal := trivial

theorem algebraic : Cert.algebraic_Kernel4Ideal_Reference4Ideal := by
  intro m ρ m' ρ' hpre hagree
  refine ⟨fun c => outArr m c, ?_, ?_⟩
  · refine (θ_run Cert.Kernel4Ideal.defs _ _).mono (fun r h c => ?_) (Cert.Kernel4Ideal.Value.run_blocks m ρ)
    exact ⟨(h c).1.trans (final_eq m c), (h c).2⟩
  · refine (θ_run Cert.Reference4Ideal.defs _ _).mono (fun r h c => ?_) (Cert.Reference4Ideal.Value.run m' ρ')
    obtain ⟨a0, a1, a2⟩ := hagree c
    refine ⟨(h c).1.trans (Eq.trans ?_ (funext fun i => ref_eq (A0 m c) (A1 m c) (A2 m c) i)), (h c).2⟩
    rw [a0, a1, a2]
    exact Cert.Reference4Ideal.Read.val_main_v4_eq _ _ _

end Cert.OutProj.Claims

end
-- ==== Proof.Embed.lean ====
/- The layer input's gated embedding: what a grid point writes, and the whole result array. -/
module

public import proofs.«01_k».proof.Proof.Products
public import proofs.«01_k».proof.Proof.Gen.Kernel5Ideal.Value

@[expose] public section

set_option maxRecDepth 65536

noncomputable section

namespace Cert.Embed

open Cert.Kernel5Ideal Cert.Kernel5Ideal.Gen Cert.Kernel5Ideal.Value Idealize.ShloMosaic Idealize.ShloMosaic.TcCoe Idealize.SL.Sem
open Cert.Kernel5Ideal.Facts Cert.Products

variable [hF : Cert.Kernel5Ideal.Facts]
variable (m : (ℓ : Loc nD τ sig) → Buf (Elt Ideal) ℓ) (c : Dev nD)

abbrev A0 : (⟨2, ![16384, 4096]⟩ : Shape).Idx → EReal := m ((c : Thread nD τ).loc main_arg0)
abbrev A1 : (⟨2, ![16384, 4096]⟩ : Shape).Idx → EReal := m ((c : Thread nD τ).loc main_arg1)
abbrev A2 : (⟨3, ![2, 4096, 4096]⟩ : Shape).Idx → EReal := m ((c : Thread nD τ).loc main_arg2)
abbrev A3 : (⟨3, ![2, 16384, 256]⟩ : Shape).Idx → EReal := m ((c : Thread nD τ).loc main_arg3)
abbrev A4 : (⟨3, ![2, 256, 4096]⟩ : Shape).Idx → EReal := m ((c : Thread nD τ).loc main_arg4)

/-- One entry of the result. -/
def spec (h x : (⟨2, ![16384, 4096]⟩ : Shape).Idx → EReal) (wg : (⟨3, ![2, 4096, 4096]⟩ : Shape).Idx → EReal)
    (p : (⟨3, ![2, 16384, 256]⟩ : Shape).Idx → EReal) (wp : (⟨3, ![2, 256, 4096]⟩ : Shape).Idx → EReal) (r : Fin 16384) (k : Fin 4096) : EReal :=
  h (ix2 r k) + Ideal.logistic (∑ d : Fin 4096, x (ix2 r d) * wg (ix3 0 d k)) * ∑ d : Fin 256, p (ix3 0 r d) * wp (ix3 0 d k)

theorem index0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index1 : ∀ t : Fin cfg0.N, win0_1.index t 0 = t.val / 8 ∧ win0_1.index t 1 = 0 :=
  (by decide +kernel : ∀ t : Fin grid0.N, win0_1.index t 0 = t.val / 8 ∧ win0_1.index t 1 = 0)
theorem index2 : ∀ t : Fin cfg0.N, win0_2.index t 0 = 0 ∧ win0_2.index t 1 = 0 ∧ win0_2.index t 2 = t.val % 8 :=
  (by decide +kernel : ∀ t : Fin grid0.N, win0_2.index t 0 = 0 ∧ win0_2.index t 1 = 0 ∧ win0_2.index t 2 = t.val % 8)
theorem index3 : ∀ t : Fin cfg0.N, win0_3.index t 0 = 0 ∧ win0_3.index t 1 = t.val / 8 ∧ win0_3.index t 2 = 0 :=
  (by decide +kernel : ∀ t : Fin grid0.N, win0_3.index t 0 = 0 ∧ win0_3.index t 1 = t.val / 8 ∧ win0_3.index t 2 = 0)
theorem index4 : ∀ t : Fin cfg0.N, win0_4.index t 0 = 0 ∧ win0_4.index t 1 = 0 ∧ win0_4.index t 2 = t.val % 8 :=
  (by decide +kernel : ∀ t : Fin grid0.N, win0_4.index t 0 = 0 ∧ win0_4.index t 1 = 0 ∧ win0_4.index t 2 = t.val % 8)
theorem index5 : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)

/-- The number of grid points. -/
abbrev points : Nat := 128
theorem lt_points (t : Fin cfg0.N) : t.val < 128 := lt_of_lt_of_eq t.isLt (show cfg0.N = 128 from N_0)

def rowOf (t : Fin cfg0.N) (r : Fin 1024) : Fin 16384 := ⟨1024 * (t.val / 8) + r.val, by have := lt_points t; omega⟩
def colOf (t : Fin cfg0.N) (k : Fin 512) : Fin 4096 := ⟨512 * (t.val % 8) + k.val, by have := lt_points t; omega⟩

abbrev B0 (t : Fin cfg0.N) : Vec Ideal S1024x512 .f32 := iblk m c 0 t
abbrev B1 (t : Fin cfg0.N) : Vec Ideal S1024x4096 .bf16 := iblk m c 1 t
abbrev B2 (t : Fin cfg0.N) : Vec Ideal S1x4096x512 .bf16 := iblk m c 2 t
abbrev B3 (t : Fin cfg0.N) : Vec Ideal S1x1024x256 .bf16 := iblk m c 3 t
abbrev B4 (t : Fin cfg0.N) : Vec Ideal S1x256x512 .bf16 := iblk m c 4 t

theorem V_gate : (V m c main_v0 : (⟨3, ![2, 4096, 4096]⟩ : Shape).Idx → EReal) = A2 m c := by
  show StableHlo.after hostOps0 _ (Proc.devRef .tc main_v0) = _
  simp only [hostOps0, StableHlo.TRef.unary, StableHlo.TRef.reshape, StableHlo.TRef.toBuf, StableHlo.TRef.ofBuf, cast_eq]
  after_results_simp <;> rfl

theorem V_input : (V m c main_v1 : (⟨3, ![2, 16384, 256]⟩ : Shape).Idx → EReal) = A3 m c := by
  show StableHlo.after hostOps0 _ (Proc.devRef .tc main_v1) = _
  simp only [hostOps0, StableHlo.TRef.unary, StableHlo.TRef.reshape, StableHlo.TRef.toBuf, StableHlo.TRef.ofBuf, cast_eq]
  after_results_simp <;> rfl

theorem V_embed : (V m c main_v2 : (⟨3, ![2, 256, 4096]⟩ : Shape).Idx → EReal) = A4 m c := by
  show StableHlo.after hostOps0 _ (Proc.devRef .tc main_v2) = _
  simp only [hostOps0, StableHlo.TRef.unary, StableHlo.TRef.reshape, StableHlo.TRef.toBuf, StableHlo.TRef.ofBuf, cast_eq]
  after_results_simp <;> rfl

theorem B0_at (t : Fin cfg0.N) (r : Fin 1024) (k : Fin 512) : B0 m c t (ix2 r k) = A0 m c (ix2 (rowOf t r) (colOf t k)) := by
  obtain ⟨e0, e1⟩ := index0 t
  unfold B0 iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 8) + r.val; omega
  | ⟨1, _⟩ => show win0_0.index t 1 * 512 + 1 * k.val = 512 * (t.val % 8) + k.val; omega

theorem B1_at (t : Fin cfg0.N) (r : Fin 1024) (d : Fin 4096) : B1 m c t (ix2 r d) = A1 m c (ix2 (rowOf t r) d) := by
  obtain ⟨e0, e1⟩ := index1 t
  unfold B1 iblk
  rw [View.read_apply]
  show V m c main_arg1 _ = _
  rw [V_main_arg1]
  refine congrArg (A1 m c) (funext fun a => Fin.ext ?_)
  match a with
  | ⟨0, _⟩ => show win0_1.index t 0 * 1024 + 1 * r.val = 1024 * (t.val / 8) + r.val; omega
  | ⟨1, _⟩ => show win0_1.index t 1 * 4096 + 1 * d.val = d.val; omega

theorem B2_at (t : Fin cfg0.N) (d : Fin 4096) (k : Fin 512) : B2 m c t (ix3 0 d k) = A2 m c (ix3 0 d (colOf t k)) := by
  obtain ⟨e0, e1, e2⟩ := index2 t
  unfold B2 iblk
  rw [View.read_apply]
  show (V m c main_v0 : (⟨3, ![2, 4096, 4096]⟩ : Shape).Idx → EReal) _ = _
  rw [V_gate]
  refine congrArg (A2 m c) (funext fun a => Fin.ext ?_)
  match a with
  | ⟨0, _⟩ => show win0_2.index t 0 * 1 + 1 * 0 = 0; omega
  | ⟨1, _⟩ => show win0_2.index t 1 * 4096 + 1 * d.val = d.val; omega
  | ⟨2, _⟩ => show win0_2.index t 2 * 512 + 1 * k.val = 512 * (t.val % 8) + k.val; omega

theorem B3_at (t : Fin cfg0.N) (r : Fin 1024) (d : Fin 256) : B3 m c t (ix3 0 r d) = A3 m c (ix3 0 (rowOf t r) d) := by
  obtain ⟨e0, e1, e2⟩ := index3 t
  unfold B3 iblk
  rw [View.read_apply]
  show (V m c main_v1 : (⟨3, ![2, 16384, 256]⟩ : Shape).Idx → EReal) _ = _
  rw [V_input]
  refine congrArg (A3 m c) (funext fun a => Fin.ext ?_)
  match a with
  | ⟨0, _⟩ => show win0_3.index t 0 * 1 + 1 * 0 = 0; omega
  | ⟨1, _⟩ => show win0_3.index t 1 * 1024 + 1 * r.val = 1024 * (t.val / 8) + r.val; omega
  | ⟨2, _⟩ => show win0_3.index t 2 * 256 + 1 * d.val = d.val; omega

theorem B4_at (t : Fin cfg0.N) (d : Fin 256) (k : Fin 512) : B4 m c t (ix3 0 d k) = A4 m c (ix3 0 d (colOf t k)) := by
  obtain ⟨e0, e1, e2⟩ := index4 t
  unfold B4 iblk
  rw [View.read_apply]
  show (V m c main_v2 : (⟨3, ![2, 256, 4096]⟩ : Shape).Idx → EReal) _ = _
  rw [V_embed]
  refine congrArg (A4 m c) (funext fun a => Fin.ext ?_)
  match a with
  | ⟨0, _⟩ => show win0_4.index t 0 * 1 + 1 * 0 = 0; omega
  | ⟨1, _⟩ => show win0_4.index t 1 * 256 + 1 * d.val = d.val; omega
  | ⟨2, _⟩ => show win0_4.index t 2 * 512 + 1 * k.val = 512 * (t.val % 8) + k.val; omega

theorem out_eq (x0 : Vec Ideal S1024x512 .f32) (x1 : Vec Ideal S1024x4096 .bf16) (x2 : Vec Ideal S1x4096x512 .bf16)
    (x3 : Vec Ideal S1x1024x256 .bf16) (x4 : Vec Ideal S1x256x512 .bf16) : out0_5 x0 x1 x2 x3 x4 = k0_pay1 x1 x2 x3 x4 x0 := by
  unfold out0_5
  rw [View.canon_unit_zero hz2]
  repeat (first | rw [View.ld_unit_zero hz2] | rw [View.ld_unit_zero hz3])

theorem pay_at (x0 : Vec Ideal S1024x512 .f32) (x1 : Vec Ideal S1024x4096 .bf16) (x2 : Vec Ideal S1x4096x512 .bf16)
    (x3 : Vec Ideal S1x1024x256 .bf16) (x4 : Vec Ideal S1x256x512 .bf16) (r : Fin 1024) (k : Fin 512) :
    k0_pay1 (F := Ideal) x1 x2 x3 x4 x0 (ix2 r k) = x0 (ix2 r k)
      + Ideal.logistic (∑ d : Fin 4096, x1 (ix2 r d) * x2 (ix3 0 d k)) * ∑ d : Fin 256, x3 (ix3 0 r d) * x4 (ix3 0 d k) := by
  unfold k0_pay1
  refine congrArg (x0 (ix2 r k) + ·) (congrArg₂ (fun a b : EReal => a * b) ?_ ?_)
  · exact (sigmoid_eq _).trans (congrArg Ideal.logistic (dot_block (M := 1024) (K := 4096) (N := 512) _ _ _ r k))
  · refine (dot_block (M := 1024) (K := 256) (N := 512) _ _ _ r k).trans (Finset.sum_congr rfl fun d _ => congrArg (· * x4 (ix3 0 d k)) ?_)
    exact Cert.Attn.drop_unit (n := 1024) (m := 256) _ _ r d

theorem flushed_at (t : Fin cfg0.N) (r : Fin 1024) (k : Fin 512) : (dats m 0 c).flushed 5 t (ix2 r k : S1024x512.Idx)
    = spec (A0 m c) (A1 m c) (A2 m c) (A3 m c) (A4 m c) (rowOf t r) (colOf t k) := by
  rw [flushed5, out_eq]
  refine (pay_at (B0 m c t) (B1 m c t) (B2 m c t) (B3 m c t) (B4 m c t) r k).trans ?_
  unfold spec
  rw [B0_at]
  simp only [B1_at, B2_at, B3_at, B4_at]

def outArr : S16384x4096.Idx → EReal := fun i => spec (A0 m c) (A1 m c) (A2 m c) (A3 m c) (A4 m c) (i 0) (i 1)

theorem mem_blk (t : Fin cfg0.N) (i : S16384x4096.Idx) :
    i ∈ ((cfg0.win 5).blk t).view.set ↔ (i 0 : Nat) / 1024 = t.val / 8 ∧ (i 1 : Nat) / 512 = t.val % 8 := by
  show i ∈ ((View.whole main_v3).slice (win0_5.rect t)).set ↔ _
  rw [View.set_slice_whole, Rect.mem_set_unit]
  obtain ⟨e0, e1⟩ := index5 t
  have h1 : (i 1 : Nat) < 4096 := (i 1).isLt
  constructor
  · intro h
    have a0 : win0_5.index t 0 * 1024 ≤ (i 0 : Nat) ∧ (i 0 : Nat) < win0_5.index t 0 * 1024 + 1024 := h 0
    have a1 : win0_5.index t 1 * 512 ≤ (i 1 : Nat) ∧ (i 1 : Nat) < win0_5.index t 1 * 512 + 512 := h 1
    omega
  · intro h a
    match a with
    | ⟨0, _⟩ => show win0_5.index t 0 * 1024 ≤ (i 0 : Nat) ∧ (i 0 : Nat) < win0_5.index t 0 * 1024 + 1024; omega
    | ⟨1, _⟩ => show win0_5.index t 1 * 512 ≤ (i 1 : Nat) ∧ (i 1 : Nat) < win0_5.index t 1 * 512 + 512; omega

theorem cover (i : S16384x4096.Idx) : ∃ t : Fin cfg0.N, (cfg0.win 5).flush t = true ∧ i ∈ ((cfg0.win 5).blk t).view.set := by
  have h0 : (i 0 : Nat) < 16384 := (i 0).isLt
  have h1 : (i 1 : Nat) < 4096 := (i 1).isLt
  have hN : cfg0.N = points := N_0
  unfold points at hN
  refine ⟨⟨(i 0 : Nat) / 1024 * 8 + (i 1 : Nat) / 512, by omega⟩, flush0_5 _, ?_⟩
  rw [mem_blk]
  dsimp only
  omega

theorem flushed_eq (t : Fin cfg0.N) : (dats m 0 c).flushed 5 t = ((cfg0.win 5).blk t).view.read (Elt Ideal) (outArr m c) := by
  refine funext fun (i : S1024x512.Idx) => ?_
  obtain ⟨r, k, hi⟩ : ∃ (r : Fin 1024) (k : Fin 512), i = ix2 r k := ⟨i 0, i 1, funext fun a => match a with
    | ⟨0, _⟩ => rfl
    | ⟨1, _⟩ => rfl⟩
  rw [hi]
  refine (flushed_at m c t r k).trans ?_
  obtain ⟨e0, e1⟩ := index5 t
  have hj : ((cfg0.win 5).blk t).view.emb (ix2 r k : S1024x512.Idx) = (ix2 (rowOf t r) (colOf t k) : S16384x4096.Idx) :=
    funext fun a => Fin.ext (match a with
    | ⟨0, _⟩ => by show win0_5.index t 0 * 1024 + 1 * r.val = 1024 * (t.val / 8) + r.val; omega
    | ⟨1, _⟩ => by show win0_5.index t 1 * 512 + 1 * k.val = 512 * (t.val % 8) + k.val; omega)
  show _ = outArr m c (((cfg0.win 5).blk t).view.emb (ix2 r k : S1024x512.Idx))
  rw [hj]
  rfl

theorem final_eq : (dats m 0 c).arrAt 5 cfg0.N = outArr m c :=
  (dats m 0 c).arrAt_eq_of_cover 5 (outArr m c) (fun t _ => flushed_eq m c t) cover

end Cert.Embed

end
-- ==== Proof.EmbedClaims.lean ====
/- The output projection's claims: the three frames, and the equation between the kernel and its reference. -/
module

public import proofs.«01_k».proof.Defs
public import proofs.«01_k».proof.Proof.Embed
public import proofs.«01_k».proof.Proof.Gen.Reference5Ideal.Read
public import proofs.«01_k».proof.Proof.Gen.Kernel5.Frame
public import Idealize.ShloMosaic.Adequacy
public import Idealize.ShloMosaic.Init

@[expose] public section

set_option maxRecDepth 65536

noncomputable section

namespace Cert.Embed.Claims

open Idealize.ShloMosaic Idealize.ShloMosaic.TcCoe Idealize.SL.Sem

theorem kernelFacts : Cert.Kernel5.Facts := Cert.Kernel5.Gen.facts
theorem idealFacts : Cert.Kernel5Ideal.Facts := Cert.Kernel5Ideal.Gen.facts
theorem refFacts : Cert.Reference5Ideal.Facts := Cert.Reference5Ideal.Gen.facts

open Cert.Reference5Ideal.Read in
theorem dot_gate (x : (⟨2, ![16384, 4096]⟩ : Shape).Idx → EReal) (w : (⟨3, ![2, 4096, 4096]⟩ : Shape).Idx → EReal)
    (i : Cert.Reference5Ideal.S16384x4096.Idx) : val_main_v3 (F := Ideal) x w i = ∑ d : Fin 4096, x (ix2 (i 0) d) * w (ix3 0 d (i 1)) := by
  rw [val_main_v3_apply]
  refine Finset.sum_congr rfl fun d _ => ?_
  have h1 : (i 1).val < 4096 := (i 1).isLt
  rw [val_main_v2_apply, val_main_v1_apply]
  refine congrArg₂ (fun a b : EReal => a * b) (congrArg x (funext fun a => match a with
    | ⟨0, _⟩ => rfl
    | ⟨1, _⟩ => rfl)) (congrArg w (funext fun a => Fin.ext ?_))
  match a with
  | ⟨0, _⟩ => rfl
  | ⟨1, _⟩ => show (d.val * 4096 + (i 1).val) / 4096 % 4096 = d.val; omega
  | ⟨2, _⟩ => show (d.val * 4096 + (i 1).val) % 4096 = (i 1).val; omega

open Cert.Reference5Ideal.Read in
theorem dot_embed (p : (⟨3, ![2, 16384, 256]⟩ : Shape).Idx → EReal) (w : (⟨3, ![2, 256, 4096]⟩ : Shape).Idx → EReal)
    (i : Cert.Reference5Ideal.S16384x4096.Idx) : val_main_v14 (F := Ideal) p w i = ∑ d : Fin 256, p (ix3 0 (i 0) d) * w (ix3 0 d (i 1)) := by
  rw [val_main_v14_apply]
  refine Finset.sum_congr rfl fun d _ => ?_
  have h0 : (i 0).val < 16384 := (i 0).isLt
  have h1 : (i 1).val < 4096 := (i 1).isLt
  rw [val_main_v11_apply, val_main_v10_apply, val_main_v13_apply, val_main_v12_apply]
  refine congrArg₂ (fun a b : EReal => a * b) (congrArg p (funext fun a => Fin.ext ?_)) (congrArg w (funext fun a => Fin.ext ?_))
  · match a with
    | ⟨0, _⟩ => rfl
    | ⟨1, _⟩ => show ((i 0).val * 256 + d.val) / 256 % 16384 = (i 0).val; omega
    | ⟨2, _⟩ => show ((i 0).val * 256 + d.val) % 256 = d.val; omega
  · match a with
    | ⟨0, _⟩ => rfl
    | ⟨1, _⟩ => show (d.val * 4096 + (i 1).val) / 4096 % 256 = d.val; omega
    | ⟨2, _⟩ => show (d.val * 4096 + (i 1).val) % 4096 = (i 1).val; omega

open Cert.Reference5Ideal.Read in
theorem ref_eq (h x : (⟨2, ![16384, 4096]⟩ : Shape).Idx → EReal) (wg : (⟨3, ![2, 4096, 4096]⟩ : Shape).Idx → EReal)
    (p : (⟨3, ![2, 16384, 256]⟩ : Shape).Idx → EReal) (wp : (⟨3, ![2, 256, 4096]⟩ : Shape).Idx → EReal)
    (i : Cert.Reference5Ideal.S16384x4096.Idx) : val_main_v16 (F := Ideal) h x wg p wp i = spec h x wg p wp (i 0) (i 1) := by
  rw [val_main_v16_apply, val_main_v15_apply, dot_embed, val_main_v9_apply, val_main_v8_apply, val_main_cst_0_apply, val_main_v7_apply,
    val_main_v6_apply, val_main_cst_apply, val_main_v5_apply, val_main_v4_apply, dot_gate]
  unfold spec
  refine congrArg₂ (fun a b : EReal => a + b) (congrArg h (funext fun a => match a with
    | ⟨0, _⟩ => rfl
    | ⟨1, _⟩ => rfl)) (congrArg₂ (fun a b : EReal => a * b) (Cert.Products.host_sigmoid _) rfl)

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem preserves : Cert.preserves_Kernel5_Kernel5Ideal := trivial

theorem algebraic : Cert.algebraic_Kernel5Ideal_Reference5Ideal := by
  intro m ρ m' ρ' hpre hagree
  refine ⟨fun c => outArr m c, ?_, ?_⟩
  · refine (θ_run Cert.Kernel5Ideal.defs _ _).mono (fun r h c => ?_) (Cert.Kernel5Ideal.Value.run_blocks m ρ)
    exact ⟨(h c).1.trans (final_eq m c), (h c).2⟩
  · refine (θ_run Cert.Reference5Ideal.defs _ _).mono (fun r h c => ?_) (Cert.Reference5Ideal.Value.run m' ρ')
    obtain ⟨a0, a1, a2, a3, a4⟩ := hagree c
    refine ⟨(h c).1.trans (Eq.trans ?_ (funext fun i => ref_eq (A0 m c) (A1 m c) (A2 m c) (A3 m c) (A4 m c) i)), (h c).2⟩
    rw [a0, a1, a2, a3, a4]
    exact Cert.Reference5Ideal.Read.val_main_v16_eq _ _ _ _ _

end Cert.Embed.Claims

end
-- ==== Proof.Glu.lean ====
/- The gated linear unit after the state-space branch: what a grid point writes, and the whole result array. -/
module

public import proofs.«01_k».proof.Proof.Products
public import proofs.«01_k».proof.Proof.Gen.Kernel6Ideal.Value

@[expose] public section

set_option maxRecDepth 65536

noncomputable section

namespace Cert.Glu

open Cert.Kernel6Ideal Cert.Kernel6Ideal.Gen Cert.Kernel6Ideal.Value Idealize.ShloMosaic Idealize.ShloMosaic.TcCoe Idealize.SL.Sem
open Cert.Kernel6Ideal.Facts Cert.Products

variable [hF : Cert.Kernel6Ideal.Facts]
variable (m : (ℓ : Loc nD τ sig) → Buf (Elt Ideal) ℓ) (c : Dev nD)

abbrev A0 : (⟨2, ![16384, 1024]⟩ : Shape).Idx → EReal := m ((c : Thread nD τ).loc main_arg0)
abbrev A1 : (⟨3, ![2, 1024, 2048]⟩ : Shape).Idx → EReal := m ((c : Thread nD τ).loc main_arg1)
abbrev A2 : (⟨1, ![2048]⟩ : Shape).Idx → EReal := m ((c : Thread nD τ).loc main_arg2)

/-- One entry of the affine map before the gate. -/
def lin (x : (⟨2, ![16384, 1024]⟩ : Shape).Idx → EReal) (w : (⟨3, ![2, 1024, 2048]⟩ : Shape).Idx → EReal)
    (b : (⟨1, ![2048]⟩ : Shape).Idx → EReal) (r : Fin 16384) (k : Fin 2048) : EReal :=
  (∑ d : Fin 1024, x (ix2 r d) * w (ix3 0 d k)) + b (ix1 k)

/-- One entry of the result. -/
def spec (x : (⟨2, ![16384, 1024]⟩ : Shape).Idx → EReal) (w : (⟨3, ![2, 1024, 2048]⟩ : Shape).Idx → EReal)
    (b : (⟨1, ![2048]⟩ : Shape).Idx → EReal) (r : Fin 16384) (k : Fin 1024) : EReal :=
  lin x w b r ⟨k.val, by omega⟩ * Ideal.logistic (lin x w b r ⟨1024 + k.val, by omega⟩)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

/-- The number of grid points. -/
abbrev points : Nat := 16
theorem lt_points (t : Fin cfg0.N) : t.val < 16 := lt_of_lt_of_eq t.isLt (show cfg0.N = 16 from N_0)

def rowOf (t : Fin cfg0.N) (r : Fin 1024) : Fin 16384 := ⟨1024 * (t.val) + r.val, by have := lt_points t; omega⟩
def colOf (t : Fin cfg0.N) (k : Fin 1024) : Fin 1024 := ⟨1024 * (0) + k.val, by have := lt_points t; omega⟩

abbrev B0 (t : Fin cfg0.N) : Vec Ideal S1024x1024 .bf16 := iblk m c 0 t
abbrev B1 (t : Fin cfg0.N) : Vec Ideal S1x1024x2048 .bf16 := iblk m c 1 t
abbrev B2 (t : Fin cfg0.N) : Vec Ideal S1x2048 .f32 := iblk m c 2 t

theorem V_weights : (V m c main_v0 : (⟨3, ![2, 1024, 2048]⟩ : Shape).Idx → EReal) = A1 m c := by
  show StableHlo.after hostOps0 _ (Proc.devRef .tc main_v0) = _
  simp only [hostOps0, StableHlo.TRef.unary, StableHlo.TRef.reshape, StableHlo.TRef.toBuf, StableHlo.TRef.ofBuf, cast_eq]
  after_results_simp <;> rfl

theorem V_bias : (V m c main_v1 : (⟨2, ![1, 2048]⟩ : Shape).Idx → EReal) = shapeCast S1x2048 (A2 m c) shapeCasts_S2048_S1x2048 := by
  show StableHlo.after hostOps0 _ (Proc.devRef .tc main_v1) = _
  simp only [hostOps0, StableHlo.TRef.unary, StableHlo.TRef.toBuf, StableHlo.TRef.ofBuf, cast_eq]
  after_results_simp <;> rfl

theorem B0_at (t : Fin cfg0.N) (r : Fin 1024) (d : Fin 1024) : B0 m c t (ix2 r d) = A0 m c (ix2 (rowOf t r) d) := by
  obtain ⟨e0, e1⟩ := index0 t
  unfold B0 iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val) + r.val; omega
  | ⟨1, _⟩ => show win0_0.index t 1 * 1024 + 1 * d.val = d.val; omega

theorem B1_at (t : Fin cfg0.N) (d : Fin 1024) (k : Fin 2048) : B1 m c t (ix3 0 d k) = A1 m c (ix3 0 d k) := by
  obtain ⟨e0, e1, e2⟩ := index1 t
  unfold B1 iblk
  rw [View.read_apply]
  show (V m c main_v0 : (⟨3, ![2, 1024, 2048]⟩ : Shape).Idx → EReal) _ = _
  rw [V_weights]
  refine congrArg (A1 m c) (funext fun a => Fin.ext ?_)
  match a with
  | ⟨0, _⟩ => show win0_1.index t 0 * 1 + 1 * 0 = 0; omega
  | ⟨1, _⟩ => show win0_1.index t 1 * 1024 + 1 * d.val = d.val; omega
  | ⟨2, _⟩ => show win0_1.index t 2 * 2048 + 1 * k.val = k.val; omega

theorem B2_at (t : Fin cfg0.N) (k : Fin 2048) : B2 m c t (ix2 0 k) = A2 m c (ix1 k) := by
  obtain ⟨e0, e1⟩ := index2 t
  unfold B2 iblk
  rw [View.read_apply]
  show (V m c main_v1 : (⟨2, ![1, 2048]⟩ : Shape).Idx → EReal) _ = _
  rw [V_bias]
  refine shapeCast_apply (A2 m c) _ _ _ ?_
  rw [Shape.rowMajor_val_one, Shape.rowMajor_val_two]
  show k.val = (win0_2.index t 0 * 1 + 1 * 0) * 2048 + (win0_2.index t 1 * 2048 + 1 * k.val)
  omega

theorem out_eq (x0 : Vec Ideal S1024x1024 .bf16) (x1 : Vec Ideal S1x1024x2048 .bf16) (x2 : Vec Ideal S1x2048 .f32) :
    out0_3 x0 x1 x2 = k0_pay1 x0 x1 x2 := by
  unfold out0_3
  rw [View.canon_unit_zero hz2]
  repeat (first | rw [View.ld_unit_zero hz2] | rw [View.ld_unit_zero hz3])

/-- The affine map of a block, before the gate. -/
def blockLin (x0 : Vec Ideal S1024x1024 .bf16) (x1 : Vec Ideal S1x1024x2048 .bf16) (x2 : Vec Ideal S1x2048 .f32) : FVec Ideal S1024x2048 .f32 :=
  addf (matmul (φ₁ := .bf16) (φ₂ := .bf16) dot_S1024x1024_S1024x2048_S1024x2048_1_0_0_1_n_n none x0 (shapeCast S1024x2048 x1 shapeCasts_S1x1024x2048_S1024x2048)
      (constant S1024x2048 .f32 0x00000000#32))
    (broadcastTo S1024x2048 (shapeCast S1x2048 x2 shapeCasts_S1x2048_S1x2048) broadcasts_S1x2048_S1024x2048)

theorem blockLin_at (x0 : Vec Ideal S1024x1024 .bf16) (x1 : Vec Ideal S1x1024x2048 .bf16) (x2 : Vec Ideal S1x2048 .f32) (r : Fin 1024) (k : Fin 2048) :
    blockLin x0 x1 x2 (ix2 r k) = (∑ d : Fin 1024, x0 (ix2 r d) * x1 (ix3 0 d k)) + x2 (ix2 0 k) := by
  unfold blockLin
  refine congrArg₂ (fun a b : EReal => a + b) (dot_block (M := 1024) (K := 1024) (N := 2048) _ _ _ r k) ?_
  exact (Cert.Attn.column_of_row (n := 1024) (m := 2048) _ _ (by decide) r k).trans (Cert.Attn.same_cast (n := 1) (m := 2048) x2 _ 0 k)

theorem pay_at (x0 : Vec Ideal S1024x1024 .bf16) (x1 : Vec Ideal S1x1024x2048 .bf16) (x2 : Vec Ideal S1x2048 .f32) (r k : Fin 1024) :
    k0_pay1 (F := Ideal) x0 x1 x2 (ix2 r k) = blockLin x0 x1 x2 (ix2 r ⟨k.val, by omega⟩)
      * Ideal.logistic (blockLin x0 x1 x2 (ix2 r ⟨1024 + k.val, by omega⟩)) := by
  show extractStridedSlice S1024x1024 ![0, 0] (blockLin x0 x1 x2) slices_S1024x2048_o0_0_S1024x1024 (ix2 r k)
    * (Ideal.ofBits .f32 0x3F000000#32 * Ideal.tanh (Ideal.ofBits .f32 0x3F000000#32
        * extractStridedSlice S1024x1024 ![0, 1024] (blockLin x0 x1 x2) slices_S1024x2048_o0_1024_S1024x1024 (ix2 r k))
      + Ideal.ofBits .f32 0x3F000000#32) = _
  rw [sigmoid_eq]
  refine congrArg₂ (fun a b : EReal => a * Ideal.logistic b) ?_ ?_
  · exact extractStridedSlice_apply _ _ _ _ (ix2 r ⟨k.val, by omega⟩) fun a => match a with
      | ⟨0, _⟩ => by show r.val = 0 + r.val; omega
      | ⟨1, _⟩ => by show k.val = 0 + k.val; omega
  · exact extractStridedSlice_apply _ _ _ _ (ix2 r ⟨1024 + k.val, by omega⟩) fun a => match a with
      | ⟨0, _⟩ => by show r.val = 0 + r.val; omega
      | ⟨1, _⟩ => rfl

theorem flushed_at (t : Fin cfg0.N) (r k : Fin 1024) : (dats m 0 c).flushed 3 t (ix2 r k : S1024x1024.Idx)
    = spec (A0 m c) (A1 m c) (A2 m c) (rowOf t r) (colOf t k) := by
  rw [flushed3, out_eq]
  refine (pay_at (B0 m c t) (B1 m c t) (B2 m c t) r k).trans ?_
  unfold spec lin
  rw [blockLin_at, blockLin_at, B2_at, B2_at]
  simp only [B0_at, B1_at]
  rw [show colOf t k = k from Fin.ext (by show 1024 * (0) + k.val = k.val; omega)]

def outArr : S16384x1024.Idx → EReal := fun i => spec (A0 m c) (A1 m c) (A2 m c) (i 0) (i 1)

theorem mem_blk (t : Fin cfg0.N) (i : S16384x1024.Idx) :
    i ∈ ((cfg0.win 3).blk t).view.set ↔ (i 0 : Nat) / 1024 = t.val ∧ (i 1 : Nat) / 1024 = 0 := by
  show i ∈ ((View.whole main_v2).slice (win0_3.rect t)).set ↔ _
  rw [View.set_slice_whole, Rect.mem_set_unit]
  obtain ⟨e0, e1⟩ := index3 t
  have h1 : (i 1 : Nat) < 1024 := (i 1).isLt
  constructor
  · intro h
    have a0 : win0_3.index t 0 * 1024 ≤ (i 0 : Nat) ∧ (i 0 : Nat) < win0_3.index t 0 * 1024 + 1024 := h 0
    have a1 : win0_3.index t 1 * 1024 ≤ (i 1 : Nat) ∧ (i 1 : Nat) < win0_3.index t 1 * 1024 + 1024 := h 1
    omega
  · intro h a
    match a with
    | ⟨0, _⟩ => show win0_3.index t 0 * 1024 ≤ (i 0 : Nat) ∧ (i 0 : Nat) < win0_3.index t 0 * 1024 + 1024; omega
    | ⟨1, _⟩ => show win0_3.index t 1 * 1024 ≤ (i 1 : Nat) ∧ (i 1 : Nat) < win0_3.index t 1 * 1024 + 1024; omega

theorem cover (i : S16384x1024.Idx) : ∃ t : Fin cfg0.N, (cfg0.win 3).flush t = true ∧ i ∈ ((cfg0.win 3).blk t).view.set := by
  have h0 : (i 0 : Nat) < 16384 := (i 0).isLt
  have h1 : (i 1 : Nat) < 1024 := (i 1).isLt
  have hN : cfg0.N = points := N_0
  unfold points at hN
  refine ⟨⟨(i 0 : Nat) / 1024, by omega⟩, flush0_3 _, ?_⟩
  rw [mem_blk]
  dsimp only
  omega

theorem flushed_eq (t : Fin cfg0.N) : (dats m 0 c).flushed 3 t = ((cfg0.win 3).blk t).view.read (Elt Ideal) (outArr m c) := by
  refine funext fun (i : S1024x1024.Idx) => ?_
  obtain ⟨r, k, hi⟩ : ∃ (r : Fin 1024) (k : Fin 1024), i = ix2 r k := ⟨i 0, i 1, funext fun a => match a with
    | ⟨0, _⟩ => rfl
    | ⟨1, _⟩ => rfl⟩
  rw [hi]
  refine (flushed_at m c t r k).trans ?_
  obtain ⟨e0, e1⟩ := index3 t
  have hj : ((cfg0.win 3).blk t).view.emb (ix2 r k : S1024x1024.Idx) = (ix2 (rowOf t r) (colOf t k) : S16384x1024.Idx) :=
    funext fun a => Fin.ext (match a with
    | ⟨0, _⟩ => by show win0_3.index t 0 * 1024 + 1 * r.val = 1024 * (t.val) + r.val; omega
    | ⟨1, _⟩ => by show win0_3.index t 1 * 1024 + 1 * k.val = 1024 * (0) + k.val; omega)
  show _ = outArr m c (((cfg0.win 3).blk t).view.emb (ix2 r k : S1024x1024.Idx))
  rw [hj]
  rfl

theorem final_eq : (dats m 0 c).arrAt 3 cfg0.N = outArr m c :=
  (dats m 0 c).arrAt_eq_of_cover 3 (outArr m c) (fun t _ => flushed_eq m c t) cover

end Cert.Glu

end
-- ==== Proof.GluClaims.lean ====
/- The output projection's claims: the three frames, and the equation between the kernel and its reference. -/
module

public import proofs.«01_k».proof.Defs
public import proofs.«01_k».proof.Proof.Glu
public import proofs.«01_k».proof.Proof.Gen.Reference6Ideal.Read
public import proofs.«01_k».proof.Proof.Gen.Kernel6.Frame
public import Idealize.ShloMosaic.Adequacy
public import Idealize.ShloMosaic.Init

@[expose] public section

set_option maxRecDepth 65536

noncomputable section

namespace Cert.Glu.Claims

open Idealize.ShloMosaic Idealize.ShloMosaic.TcCoe Idealize.SL.Sem

theorem kernelFacts : Cert.Kernel6.Facts := Cert.Kernel6.Gen.facts
theorem idealFacts : Cert.Kernel6Ideal.Facts := Cert.Kernel6Ideal.Gen.facts
theorem refFacts : Cert.Reference6Ideal.Facts := Cert.Reference6Ideal.Gen.facts

open Cert.Reference6Ideal.Read in
theorem dot_lin (x : (⟨2, ![16384, 1024]⟩ : Shape).Idx → EReal) (w : (⟨3, ![2, 1024, 2048]⟩ : Shape).Idx → EReal)
    (i : Cert.Reference6Ideal.S16384x2048.Idx) : val_main_v3 (F := Ideal) x w i = ∑ d : Fin 1024, x (ix2 (i 0) d) * w (ix3 0 d (i 1)) := by
  rw [val_main_v3_apply]
  refine Finset.sum_congr rfl fun d _ => ?_
  have h1 : (i 1).val < 2048 := (i 1).isLt
  rw [val_main_v2_apply, val_main_v1_apply]
  refine congrArg₂ (fun a b : EReal => a * b) (congrArg x (funext fun a => match a with
    | ⟨0, _⟩ => rfl
    | ⟨1, _⟩ => rfl)) (congrArg w (funext fun a => Fin.ext ?_))
  match a with
  | ⟨0, _⟩ => rfl
  | ⟨1, _⟩ => show (d.val * 2048 + (i 1).val) / 2048 % 1024 = d.val; omega
  | ⟨2, _⟩ => show (d.val * 2048 + (i 1).val) % 2048 = (i 1).val; omega

open Cert.Reference6Ideal.Read in
theorem ref_lin (x : (⟨2, ![16384, 1024]⟩ : Shape).Idx → EReal) (w : (⟨3, ![2, 1024, 2048]⟩ : Shape).Idx → EReal)
    (b : (⟨1, ![2048]⟩ : Shape).Idx → EReal) (i : Cert.Reference6Ideal.S16384x2048.Idx) :
    val_main_v6 (F := Ideal) x w b i = lin x w b (i 0) (i 1) := by
  rw [val_main_v6_apply, val_main_v5_apply, val_main_v4_apply, dot_lin]
  unfold lin
  exact congrArg (_ + ·) (congrArg b (funext fun a => match a with
    | ⟨0, _⟩ => Fin.ext rfl))

open Cert.Reference6Ideal.Read in
theorem ref_eq (x : (⟨2, ![16384, 1024]⟩ : Shape).Idx → EReal) (w : (⟨3, ![2, 1024, 2048]⟩ : Shape).Idx → EReal)
    (b : (⟨1, ![2048]⟩ : Shape).Idx → EReal) (i : Cert.Reference6Ideal.S16384x1024.Idx) :
    val_main_v16 (F := Ideal) x w b i = spec x w b (i 0) (i 1) := by
  rw [val_main_v16_apply, val_main_v15_apply, val_main_v14_apply, val_main_v13_apply, val_main_cst_0_apply, val_main_v12_apply,
    val_main_v11_apply, val_main_cst_apply, val_main_v10_apply, val_main_v9_apply, val_main_v8_apply, val_main_v7_apply, ref_lin, ref_lin]
  unfold spec
  refine congrArg₂ (fun a b : EReal => a * b) (congrArg₂ (lin x w b) rfl (Fin.ext ?_))
    ((Cert.Products.host_sigmoid _).trans (congrArg Ideal.logistic (congrArg₂ (lin x w b) rfl (Fin.ext ?_))))
  · show _ = (i 1).val; first | rfl | (dsimp only; omega)
  · show _ = 1024 + (i 1).val; first | rfl | (dsimp only; omega)

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem preserves : Cert.preserves_Kernel6_Kernel6Ideal := trivial

theorem algebraic : Cert.algebraic_Kernel6Ideal_Reference6Ideal := by
  intro m ρ m' ρ' hpre hagree
  refine ⟨fun c => outArr m c, ?_, ?_⟩
  · refine (θ_run Cert.Kernel6Ideal.defs _ _).mono (fun r h c => ?_) (Cert.Kernel6Ideal.Value.run_blocks m ρ)
    exact ⟨(h c).1.trans (final_eq m c), (h c).2⟩
  · refine (θ_run Cert.Reference6Ideal.defs _ _).mono (fun r h c => ?_) (Cert.Reference6Ideal.Value.run m' ρ')
    obtain ⟨a0, a1, a2⟩ := hagree c
    refine ⟨(h c).1.trans (Eq.trans ?_ (funext fun i => ref_eq (A0 m c) (A1 m c) (A2 m c) i)), (h c).2⟩
    rw [a0, a1, a2]
    exact Cert.Reference6Ideal.Read.val_main_v16_eq _ _ _

end Cert.Glu.Claims

end
-- ==== Proof.ExpertTables.lean ====
module

public import proofs.«01_k».proof.Proof.Gen.Pre_tables_agree
public import Idealize.ShloMosaic.Lib.WordCmp
public import Idealize.ShloMosaic.Lib.Pipeline.Value
public import Idealize.ShloMosaic.Lib.ValueIdxCore

@[expose] public section

noncomputable section

/-! # The experts' tables

What the precondition says of the four tables, entry by entry. -/

namespace Cert.ExpertTables

open Idealize.ShloMosaic
open Idealize.ShloMosaic.WordCmp
open Cert.Pre_tables_agree

/-- Row tile `j`'s place in a table. -/
def place (j : ℕ) : S160.Idx := ValueIdx.ix1 ⟨j % 160, Nat.mod_lt _ (by decide)⟩
/-- Row tile `j`'s word of a table. -/
def word (T : IVec S160 32) (j : ℕ) : BitVec 32 := T (place j)
/-- The number of row tiles in use. -/
def count (T : IVec S1 32) : ℤ := (T (ValueIdx.ix1 0)).toInt

/-- The tables agree: row tiles sorted by expert, each marked if it is its expert's first, each told the expert after its own. -/
structure Agree (te first next : IVec S160 32) (used : IVec S1 32) : Prop where
  expert_lt : ∀ j, (word te j).toNat < 32
  next_lt : ∀ j, 0 ≤ (word next j).toInt → (word next j).toNat < 32
  used_pos : 0 < count used
  first_zero : word first 0 = 1#32
  next_last : (word next 159).toInt < 0
  first_step : ∀ j, j < 159 → word first (j + 1) = if ((j : ℤ) + 1 < count used ∧ word te j ≠ word te (j + 1)) then 1#32 else 0#32
  next_step : ∀ j, j < 159 → word next j = if word first (j + 1) = 1#32 then word te (j + 1) else word next (j + 1)

section Reads
variable {α : Type}
theorem row_at (x : S160.Idx → α) (d) (h) (hd : ∀ a, (d a).val = 0) (i : S160x1.Idx) : broadcastInDim S160x1 d h x i = x (ValueIdx.ix1 (i 0)) :=
  broadcastInDim_apply _ h x i _ fun a => by fin_cases a; rw [show d ⟨0, by decide⟩ = 0 from Fin.ext (hd _)]; rfl
theorem col_at (x : S160.Idx → α) (d) (h) (hd : ∀ a, (d a).val = 1) (i : S1x160.Idx) : broadcastInDim S1x160 d h x i = x (ValueIdx.ix1 (i 1)) :=
  broadcastInDim_apply _ h x i _ fun a => by fin_cases a; rw [show d ⟨0, by decide⟩ = 1 from Fin.ext (hd _)]; rfl
theorem one_at (x : S1.Idx → α) (d) (h) (i : S1x1.Idx) : broadcastInDim S1x1 d h x i = x (ValueIdx.ix1 0) :=
  broadcastInDim_apply _ h x i _ fun a => by fin_cases a; rfl
theorem rows_at (x : S160x1.Idx → α) (d) (h) (hd : ∀ a, (d a).val = a.val) (i : S160x160.Idx) : broadcastInDim S160x160 d h x i = x (ValueIdx.ix2 (i 0) 0) :=
  broadcastInDim_apply _ h x _ _ fun a => by
    fin_cases a
    · rw [show d ⟨0, by decide⟩ = 0 from Fin.ext (hd _)]; rfl
    · rfl
theorem cols_at (x : S1x160.Idx → α) (d) (h) (hd : ∀ a, (d a).val = a.val) (i : S160x160.Idx) : broadcastInDim S160x160 d h x i = x (ValueIdx.ix2 0 (i 1)) :=
  broadcastInDim_apply _ h x _ _ fun a => by
    fin_cases a
    · rfl
    · rw [show d ⟨1, by decide⟩ = 1 from Fin.ext (hd _)]; rfl
theorem ones_at (x : S1x1.Idx → α) (d) (h) (i : S160x160.Idx) : broadcastInDim S160x160 d h x i = x (ValueIdx.ix2 0 0) :=
  broadcastInDim_apply _ h x _ _ fun a => by fin_cases a <;> rfl
theorem one_col_at (x : S1x1.Idx → α) (d) (h) (i : S1x160.Idx) : broadcastInDim S1x160 d h x i = x (ValueIdx.ix2 0 0) :=
  broadcastInDim_apply _ h x _ _ fun a => by fin_cases a <;> rfl
end Reads

variable {F : FTy → Type} [FloatOps F]

/-- The precondition at one pair of row tiles. -/
theorem fn_at (x0 : FVec F S40960x4096 .bf16) (te first next : IVec S160 32) (used : IVec S1 32) (x5 : FVec F S2x32x4096x512 .f32) (x6 : FVec F S2x32x4096x512 .f32) (x7 : FVec F S2x32x512x4096 .f32)
    (y : S160x160.Idx) (h : fn (F := F) x0 te first next used x5 x6 x7 y = 1#1) (s t : Fin 160) (hs : y 0 = s) (ht' : y 1 = t) :
    ((0 ≤ (te (ValueIdx.ix1 t)).toInt ∧ (te (ValueIdx.ix1 t)).toInt < 32 ∧ (next (ValueIdx.ix1 t)).toInt < 32 ∧ 0 < (used (ValueIdx.ix1 0)).toInt)
      ∧ ((t.val = 0 → first (ValueIdx.ix1 t) = 1#32) ∧ (t.val = 159 → (next (ValueIdx.ix1 t)).toInt < 0))
      ∧ (t.val = s.val + 1 → first (ValueIdx.ix1 t) = (if (t.val : ℤ) < (used (ValueIdx.ix1 0)).toInt ∧ te (ValueIdx.ix1 s) ≠ te (ValueIdx.ix1 t) then 1#32 else 0#32)
          ∧ next (ValueIdx.ix1 s) = if first (ValueIdx.ix1 t) = 1#32 then te (ValueIdx.ix1 t) else next (ValueIdx.ix1 t))) := by
  have hy0 : BitVec.ofNat 32 (y 0).val = BitVec.ofNat 32 s.val := by rw [hs]
  have hy1 : BitVec.ofNat 32 (y 1).val = BitVec.ofNat 32 t.val := by rw [ht']
  have ht : (BitVec.ofNat 32 t.val).toInt = (t.val : ℤ) := toInt_ofNat_of_lt (by have := t.isLt; simp; omega)
  simp (disch := decide) only [fn, fn_part1, fn_part2, fn_where, fn_where_0, andi_at, ori_at, cmpi_at, select_at, iotaInDim_at, rows_at, cols_at, ones_at, one_col_at, row_at, col_at, one_at,
    broadcastInDim_constantI, constantI_at, cmpi_slt_eq, cmpi_sge_eq, cmpi_sgt_eq, cmpi_eq_eq, cmpi_ne_eq, andi_ofBool, ori_ofBool, id, addi, IntOp.addi,
    ofBool_eq_one_iff, Bool.and_eq_true, Bool.or_eq_true, decide_eq_true_eq, select_ofBool] at h
  simp only [hy0, hy1, ht, hs, ht'] at h
  obtain ⟨⟨⟨⟨⟨p1, p2⟩, p3⟩, p4⟩, p5, p6⟩, p7⟩ := h
  refine ⟨⟨p1, p2, p3, p4⟩, ⟨fun e => ?_, fun e => ?_⟩, fun e => ?_⟩
  · exact p5.resolve_left fun hn => hn (by rw [e])
  · exact p6.resolve_left fun hn => hn (by rw [e])
  · exact p7.resolve_left fun hn => hn (by rw [e, BitVec.ofNat_add])

theorem word_of_lt (T : IVec S160 32) (j : ℕ) (h : j < 160) : word T j = T (ValueIdx.ix1 ⟨j, h⟩) :=
  congrArg (fun k => T (ValueIdx.ix1 k)) (Fin.ext (Nat.mod_eq_of_lt h))

/-- The precondition holds: the tables agree. -/
theorem agree_of (x0 : FVec F S40960x4096 .bf16) (te first next : IVec S160 32) (used : IVec S1 32) (x5 : FVec F S2x32x4096x512 .f32) (x6 : FVec F S2x32x4096x512 .f32) (x7 : FVec F S2x32x512x4096 .f32)
    (h : fn (F := F) x0 te first next used x5 x6 x7 = fun _ => 1#1) : Agree te first next used where
  expert_lt j := by
    have e := (fn_at x0 te first next used x5 x6 x7 (ValueIdx.ix2 0 ⟨j % 160, Nat.mod_lt _ (by decide)⟩) (congrFun h _) _ _ rfl rfl).1
    have e1 : 0 ≤ (word te j).toInt := e.1
    have e2 : (word te j).toInt < 32 := e.2.1
    rw [BitVec.toInt_eq_toNat_cond] at e1 e2
    split at e1 <;> omega
  next_lt j hj := by
    have e := (fn_at x0 te first next used x5 x6 x7 (ValueIdx.ix2 0 ⟨j % 160, Nat.mod_lt _ (by decide)⟩) (congrFun h _) _ _ rfl rfl).1
    have e2 : (word next j).toInt < 32 := e.2.2.1
    rw [BitVec.toInt_eq_toNat_cond] at hj e2
    split at hj <;> omega
  used_pos := (fn_at x0 te first next used x5 x6 x7 (ValueIdx.ix2 0 0) (congrFun h _) _ _ rfl rfl).1.2.2.2
  first_zero := (fn_at x0 te first next used x5 x6 x7 (ValueIdx.ix2 0 0) (congrFun h _) _ _ rfl rfl).2.1.1 rfl
  next_last := (fn_at x0 te first next used x5 x6 x7 (ValueIdx.ix2 0 ⟨159, by decide⟩) (congrFun h _) _ _ rfl rfl).2.1.2 rfl
  first_step j hj := by
    have e := (fn_at x0 te first next used x5 x6 x7 (ValueIdx.ix2 ⟨j, by omega⟩ ⟨j + 1, by omega⟩) (congrFun h _) ⟨j, by omega⟩ ⟨j + 1, by omega⟩ rfl rfl).2.2 rfl
    rw [word_of_lt first (j + 1) (by omega), word_of_lt te j (by omega), word_of_lt te (j + 1) (by omega)]
    exact e.1.trans (if_congr (by simp only [count, Nat.cast_add, Nat.cast_one]) rfl rfl)
  next_step j hj := by
    have e := (fn_at x0 te first next used x5 x6 x7 (ValueIdx.ix2 ⟨j, by omega⟩ ⟨j + 1, by omega⟩) (congrFun h _) ⟨j, by omega⟩ ⟨j + 1, by omega⟩ rfl rfl).2.2 rfl
    rw [word_of_lt first (j + 1) (by omega), word_of_lt next j (by omega), word_of_lt te (j + 1) (by omega), word_of_lt next (j + 1) (by omega)]
    exact e.2

end Cert.ExpertTables

end
-- ==== Proof.ExpertSpec.lean ====
/- The experts' call as a formula, and its reference read entry by entry. -/
module

public import proofs.«01_k».proof.Proof.Products
public import proofs.«01_k».proof.Proof.ExpertTables
public import proofs.«01_k».proof.Proof.Gen.Reference7Ideal.Run
public import Idealize.ShloMosaic.Lib.ValueIdx
public import Idealize.ShloMosaic.Lib.WordCmp
public import Idealize.ShloMosaic.Lib.Pipeline.Value

@[expose] public section

set_option maxRecDepth 65536

noncomputable section

namespace Cert.ExpertSpec

open Idealize.ShloMosaic Idealize.ShloMosaic.WordCmp
open Cert.ExpertTables Cert.Products

abbrev Rows : Type := (⟨2, ![40960, 4096]⟩ : Shape).Idx → EReal
abbrev Wide : Type := (⟨4, ![2, 32, 4096, 512]⟩ : Shape).Idx → EReal
abbrev Down : Type := (⟨4, ![2, 32, 512, 4096]⟩ : Shape).Idx → EReal

/-- The expert a word names. -/
def pick (b : BitVec 32) : Fin 32 := ⟨min b.toNat 31, by omega⟩

/-- One entry of a row times an expert's matrix. -/
def lin (x : Rows) (w : Wide) (b : BitVec 32) (r : Fin 40960) (f : Fin 512) : EReal :=
  ∑ k : Fin 4096, x (ix2 r k) * w (ValueIdx.ix4 0 (pick b) k f)

/-- One entry of the gated product. -/
def gate (x : Rows) (g u : Wide) (b : BitVec 32) (r : Fin 40960) (f : Fin 512) : EReal :=
  lin x g b r f * Ideal.logistic (lin x g b r f) * lin x u b r f

/-- One entry of the result. -/
def spec (x : Rows) (te : (⟨1, ![160]⟩ : Shape).Idx → BitVec 32) (used : (⟨1, ![1]⟩ : Shape).Idx → BitVec 32) (g u : Wide) (d : Down) (r : Fin 40960) (c : Fin 4096) : EReal :=
  if ((r.val / 256 : ℕ) : ℤ) < count used
  then ∑ f : Fin 512, gate x g u (word te (r.val / 256)) r f * d (ValueIdx.ix4 0 (pick (word te (r.val / 256))) f c) else 0

/-! ## Batched operations -/

section General
variable {α : Type}

/-- The dimension numbers of taking whole blocks of a stack. -/
abbrev blockDims (N A B T : Nat) (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

theorem kept_at {L : List (Fin 3)} (hL : L = [1, 2]) (k v : Fin 3) (n : ℕ) (hn : ([1, 2] : List (Fin 3)).idxOf k = n) (hv : ([1, 2] : List (Fin 3))[n]? = some v)
    (h : L.idxOf k < ([1, 2] : List (Fin 3)).length) : ([1, 2] : List (Fin 3))[L.idxOf k]'h = v := by
  subst hL
  subst hn
  exact Option.some.inj ((List.getElem?_eq_getElem h).symm.trans hv)

/-- A block taken from a stack, entry by entry: the block at the index's word, clamped into the stack. -/
theorem take_block {N A B T w : Nat} (hN : 0 < N)
    (wf : GatherDims.WF ⟨3, ![N, A, B]⟩ ⟨2, ![T, 1]⟩ ⟨3, ![T, A, B]⟩ [1, 2] [0] [] [0] [] 1 ![1, A, B])
    (x : (⟨3, ![N, A, B]⟩ : Shape).Idx → α) (idx : IVec ⟨2, ![T, 1]⟩ w) (t : Fin T) (a : Fin A) (b : Fin B) :
    Host.gather (blockDims N A B T wf) x idx (ix3 t a b) = x (ix3 ⟨min (idx (ix2 t 0)).toInt.toNat (N - 1), by omega⟩ a b) := by
  have hk : (blockDims N A B T wf).sKept = [1, 2] :=
    (by decide : (List.finRange 3).filter (fun k => decide (k ∉ ([0] ++ [] : List (Fin 3)))) = [1, 2])
  unfold Host.gather
  congr 1
  funext k
  refine Fin.ext ?_
  show (blockDims N A B T wf).start (ix3 t a b) idx k + (blockDims N A B T wf).batchCoord (ix3 t a b) k + (blockDims N A B T wf).offCoord (ix3 t a b) k = _
  rw [GatherDims.batchCoord_eq_zero _ _ _ List.not_mem_nil]
  match k with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (blockDims N A B T wf).startIndexMap from List.mem_singleton.mpr rfl)]
    have hsi : (blockDims N A B T wf).siIdx (ix3 t a b) ⟨List.idxOf (⟨0, by decide⟩ : Fin 3) (blockDims N A B T wf).startIndexMap,
        List.idxOf_lt_length_iff.2 (List.mem_singleton.mpr rfl)⟩ = ix2 t 0 := by
      funext q; refine Fin.ext ?_
      match q with
      | ⟨0, _⟩ => rfl
      | ⟨1, _⟩ => rfl
    rw [hsi]
    rfl
  | ⟨1, _⟩ =>
    unfold GatherDims.start GatherDims.offCoord
    rw [dif_neg (show ¬(⟨1, by decide⟩ : Fin 3) ∈ ([0] : List (Fin 3)) by decide),
      dif_pos ((GatherDims.mem_sKept _ _).mpr ⟨show ¬(⟨1, by decide⟩ : Fin 3) ∈ ([0] : List (Fin 3)) by decide, List.not_mem_nil⟩)]
    exact (Nat.zero_add _).trans (congrArg (fun q : Fin 3 => ((ix3 t a b : (⟨3, ![T, A, B]⟩ : Shape).Idx) q).val) (kept_at hk 1 1 0 rfl rfl _))
  | ⟨2, _⟩ =>
    unfold GatherDims.start GatherDims.offCoord
    rw [dif_neg (show ¬(⟨2, by decide⟩ : Fin 3) ∈ ([0] : List (Fin 3)) by decide),
      dif_pos ((GatherDims.mem_sKept _ _).mpr ⟨show ¬(⟨2, by decide⟩ : Fin 3) ∈ ([0] : List (Fin 3)) by decide, List.not_mem_nil⟩)]
    exact (Nat.zero_add _).trans (congrArg (fun q : Fin 3 => ((ix3 t a b : (⟨3, ![T, A, B]⟩ : Shape).Idx) q).val) (kept_at hk 2 2 1 rfl rfl _))

/-- A product block by block, entry by entry. -/
theorem dot_blocks {T M K N : Nat}
    (wf : DotDims.WF ⟨3, ![T, M, K]⟩ ⟨3, ![T, K, N]⟩ ⟨3, ![T, M, N]⟩ [2] [1] [1] [2] [0] [0])
    (x : (⟨3, ![T, M, K]⟩ : Shape).Idx → EReal) (w : (⟨3, ![T, K, N]⟩ : Shape).Idx → EReal) (t : Fin T) (r : Fin M) (c : Fin N) :
    Host.dotGeneral (F := Ideal) (φ₁ := .f32) (φ₂ := .f32) ⟨[2], [1], [1], [2], [0], [0], wf⟩ none x w (ix3 t r c)
      = ∑ k : Fin K, x (ix3 t r k) * w (ix3 t k c) := by
  refine (Ideal.dotGeneral_apply (φ₁ := .f32) (φ₂ := .f32) _ none _ x w (ix3 t r c)).trans ?_
  rw [← Equiv.sum_comp (ValueIdx.contrEquiv1 (⟨[2], [1], [1], [2], [0], [0], wf⟩ : DotDims ⟨3, ![T, M, K]⟩ ⟨3, ![T, K, N]⟩ ⟨3, ![T, M, N]⟩) K rfl rfl).symm]
  refine Finset.sum_congr rfl fun d _ => ?_
  congr 1
  · refine congrArg x (funext fun a => ?_)
    match a with
    | ⟨0, _⟩ => rfl
    | ⟨1, _⟩ => rfl
    | ⟨2, _⟩ => rfl
  · refine congrArg w (funext fun a => ?_)
    match a with
    | ⟨0, _⟩ => rfl
    | ⟨1, _⟩ => rfl
    | ⟨2, _⟩ => rfl

/-- The first layer of a stack of layers. -/
theorem first_layer {N A B : Nat} (x : (⟨4, ![2, N, A, B]⟩ : Shape).Idx → α) (hs) (hc : (⟨4, ![1, N, A, B]⟩ : Shape).ShapeCasts ⟨3, ![N, A, B]⟩)
    (e : Fin N) (a : Fin A) (b : Fin B) :
    shapeCast ⟨3, ![N, A, B]⟩ (extractStridedSlice ⟨4, ![1, N, A, B]⟩ ![0, 0, 0, 0] x hs) hc (ix3 e a b) = x (ValueIdx.ix4 0 e a b) := by
  refine (shapeCast_apply _ hc _ (ValueIdx.ix4 0 e a b) ?_).trans ?_
  · rw [Shape.rowMajor_val_three, Shape.rowMajor_val_four]
    show ((0 * N + e.val) * A + a.val) * B + b.val = (e.val * A + a.val) * B + b.val
    simp
  · exact extractStridedSlice_apply _ _ _ _ (ValueIdx.ix4 0 e a b) fun k => match k with
      | ⟨0, _⟩ => rfl
      | ⟨1, _⟩ => by show e.val = 0 + e.val; omega
      | ⟨2, _⟩ => by show a.val = 0 + a.val; omega
      | ⟨3, _⟩ => by show b.val = 0 + b.val; omega
end General

theorem pick_signed (b : BitVec 32) (h : b.toNat < 32) : (⟨min b.toInt.toNat (32 - 1), by omega⟩ : Fin 32) = pick b :=
  Fin.ext (by
    show min b.toInt.toNat 31 = min b.toNat 31
    rw [BitVec.toInt_eq_toNat_of_lt (by omega)]
    rfl)

theorem ofBits_zero : Ideal.ofBits .f32 0x00000000#32 = 0 := by
  simp [Ideal.ofBits, Ideal.ieee]

/-! ## The reference, piece by piece -/

section Reference
open Cert.Reference7Ideal Cert.Reference7Ideal.Gen

variable (x : Rows) (te : (⟨1, ![160]⟩ : Shape).Idx → BitVec 32) (used : (⟨1, ![1]⟩ : Shape).Idx → BitVec 32) (g u : Wide) (d : Down)

/-- The rows, tile by tile. -/
def tiles : S160x256x4096.Idx → EReal := shapeCast S160x256x4096 x shapeCasts_S40960x4096_S160x256x4096
/-- Each row tile's expert's first or second weight. -/
def chosen (w : Wide) : S160x4096x512.Idx → EReal :=
  Host.gather gather_S32x4096x512_S160x1_S160x4096x512_12_0_n_n_0_1_14096512
    (shapeCast S32x4096x512 (extractStridedSlice S1x32x4096x512 ![0, 0, 0, 0] w slices_S2x32x4096x512_S1x32x4096x512_0_0_0_0) shapeCasts_S1x32x4096x512_S32x4096x512)
    (broadcastInDim S160x1 ![0] bcast_S160_S160x1_0 te)
/-- Each row tile's expert's last weight. -/
def chosenD : S160x512x4096.Idx → EReal :=
  Host.gather gather_S32x512x4096_S160x1_S160x512x4096_12_0_n_n_0_1_15124096
    (shapeCast S32x512x4096 (extractStridedSlice S1x32x512x4096 ![0, 0, 0, 0] d slices_S2x32x512x4096_S1x32x512x4096_0_0_0_0) shapeCasts_S1x32x512x4096_S32x512x4096)
    (broadcastInDim S160x1 ![0] bcast_S160_S160x1_0 te)
/-- A product of every row tile. -/
def product (w : Wide) : S160x256x512.Idx → EReal :=
  Host.dotGeneral (F := Ideal) (φ₁ := .f32) (φ₂ := .f32) dot_S160x256x4096_S160x4096x512_S160x256x512_2_1_1_2_0_0 none (tiles x) (chosen te w)
/-- The gated products. -/
def gates : FVec Ideal S160x256x512 .f32 :=
  mulf (φ := .f32) (mulf (φ := .f32) (product x te g) (Host.divf (φ := .f32) (broadcastInDim S160x256x512 ![] bcast_S_S160x256x512 (constant S_ .f32 0x3F800000#32))
    (addf (φ := .f32) (broadcastInDim S160x256x512 ![] bcast_S_S160x256x512 (constant S_ .f32 0x3F800000#32)) (Host.exp (φ := .f32) (Host.negf (φ := .f32) (product x te g)))))) (product x te u)
/-- The result, tile by tile, before the unused tiles are cleared. -/
def results : S160x256x4096.Idx → EReal :=
  Host.dotGeneral (F := Ideal) (φ₁ := .f32) (φ₂ := .f32) dot_S160x256x512_S160x512x4096_S160x256x4096_2_1_1_2_0_0 none (gates x te g u) (chosenD te d)
/-- Which tiles are in use. -/
def inUse : IVec S160x1x1 1 :=
  cmpi .slt (broadcastInDim S160x1x1 ![0] bcast_S160_S160x1x1_0 (iotaInDim S160 32 0)) (broadcastInDim S160x1x1 ![] bcast_S_S160x1x1 (shapeCast S_ used shapeCasts_S1_S_))
/-- The reference's result. -/
def refOut : S40960x4096.Idx → EReal :=
  shapeCast S40960x4096 (select (broadcastInDim S160x256x4096 ![0, 1, 2] bcast_S160x1x1_S160x256x4096_0_1_2 (inUse used)) (results x te g u d)
    (broadcastInDim S160x256x4096 ![] bcast_S_S160x256x4096 (constant (F := Ideal) S_ .f32 0x00000000#32))) shapeCasts_S160x256x4096_S40960x4096

/-- Row `r` of tile `t`. -/
def rowOf (t : Fin 160) (r : Fin 256) : Fin 40960 := ⟨256 * t.val + r.val, by omega⟩

theorem tiles_at (t : Fin 160) (r : Fin 256) (k : Fin 4096) : tiles x (ix3 t r k) = x (ix2 (rowOf t r) k) :=
  shapeCast_apply x _ _ _ (by
    rw [Shape.rowMajor_val_three, Shape.rowMajor_val_two]
    show (256 * t.val + r.val) * 4096 + k.val = (t.val * 256 + r.val) * 4096 + k.val
    omega)

theorem word_row (t : Fin 160) : word te t.val = te (ValueIdx.ix1 t) := word_of_lt te t.val t.isLt

theorem chosen_at (h : ∀ j, (word te j).toNat < 32) (w : Wide) (t : Fin 160) (k : Fin 4096) (f : Fin 512) :
    chosen te w (ix3 t k f) = w (ValueIdx.ix4 0 (pick (word te t.val)) k f) := by
  refine (take_block (N := 32) (A := 4096) (B := 512) (T := 160) (by decide) _ _ _ t k f).trans ?_
  refine (first_layer (N := 32) (A := 4096) (B := 512) w _ _ _ k f).trans ?_
  have e : broadcastInDim S160x1 ![0] bcast_S160_S160x1_0 te (ix2 t 0) = word te t.val :=
    (row_at te _ _ (by decide) (ix2 t 0)).trans (word_row te t).symm
  refine congrArg (fun q => w (ValueIdx.ix4 0 q k f)) ((Fin.ext ?_ : _ = _).trans (pick_signed _ (h t.val)))
  show min (broadcastInDim S160x1 ![0] bcast_S160_S160x1_0 te (ix2 t 0)).toInt.toNat (32 - 1) = min (word te t.val).toInt.toNat (32 - 1)
  rw [e]

theorem chosenD_at (h : ∀ j, (word te j).toNat < 32) (t : Fin 160) (f : Fin 512) (c : Fin 4096) :
    chosenD te d (ix3 t f c) = d (ValueIdx.ix4 0 (pick (word te t.val)) f c) := by
  refine (take_block (N := 32) (A := 512) (B := 4096) (T := 160) (by decide) _ _ _ t f c).trans ?_
  refine (first_layer (N := 32) (A := 512) (B := 4096) d _ _ _ f c).trans ?_
  have e : broadcastInDim S160x1 ![0] bcast_S160_S160x1_0 te (ix2 t 0) = word te t.val :=
    (row_at te _ _ (by decide) (ix2 t 0)).trans (word_row te t).symm
  refine congrArg (fun q => d (ValueIdx.ix4 0 q f c)) ((Fin.ext ?_ : _ = _).trans (pick_signed _ (h t.val)))
  show min (broadcastInDim S160x1 ![0] bcast_S160_S160x1_0 te (ix2 t 0)).toInt.toNat (32 - 1) = min (word te t.val).toInt.toNat (32 - 1)
  rw [e]

theorem product_at (h : ∀ j, (word te j).toNat < 32) (w : Wide) (t : Fin 160) (r : Fin 256) (f : Fin 512) :
    product x te w (ix3 t r f) = lin x w (word te t.val) (rowOf t r) f := by
  refine (dot_blocks (T := 160) (M := 256) (K := 4096) (N := 512) _ _ _ t r f).trans ?_
  unfold lin
  refine Finset.sum_congr rfl fun k _ => ?_
  rw [tiles_at, chosen_at te h]

theorem gates_at (h : ∀ j, (word te j).toNat < 32) (t : Fin 160) (r : Fin 256) (f : Fin 512) :
    gates x te g u (ix3 t r f) = gate x g u (word te t.val) (rowOf t r) f := by
  show product x te g (ix3 t r f) * Ideal.div (Ideal.ofBits .f32 0x3F800000#32) (Ideal.ofBits .f32 0x3F800000#32 + Ideal.exp (-product x te g (ix3 t r f)))
    * product x te u (ix3 t r f) = _
  rw [host_sigmoid, product_at x te h, product_at x te h]
  rfl

theorem results_at (h : ∀ j, (word te j).toNat < 32) (t : Fin 160) (r : Fin 256) (c : Fin 4096) :
    results x te g u d (ix3 t r c) = ∑ f : Fin 512, gate x g u (word te t.val) (rowOf t r) f * d (ValueIdx.ix4 0 (pick (word te t.val)) f c) := by
  refine (dot_blocks (T := 160) (M := 256) (K := 512) (N := 4096) _ _ _ t r c).trans ?_
  refine Finset.sum_congr rfl fun f _ => ?_
  rw [gates_at x te g u h, chosenD_at te d h]

theorem inUse_at (t : Fin 160) : inUse used (ix3 t 0 0) = BitVec.ofBool (decide ((t.val : ℤ) < count used)) := by
  have ht : (BitVec.ofNat 32 t.val).toInt = (t.val : ℤ) := toInt_ofNat_of_lt (by have := t.isLt; simp; omega)
  have e1 : broadcastInDim S160x1x1 ![0] bcast_S160_S160x1x1_0 (iotaInDim S160 32 0) (ix3 t 0 0) = BitVec.ofNat 32 t.val :=
    broadcastInDim_apply _ _ _ _ (ValueIdx.ix1 t) fun a => by fin_cases a; rfl
  have e2 : broadcastInDim S160x1x1 ![] bcast_S_S160x1x1 (shapeCast S_ used shapeCasts_S1_S_) (ix3 t 0 0) = used (ValueIdx.ix1 0) :=
    congrArg used (funext fun a => by fin_cases a; exact Subsingleton.elim (α := Fin 1) _ _)
  unfold inUse
  rw [cmpi_at, e1, e2, cmpi_slt_eq, ht]
  rfl

theorem refOut_at (h : ∀ j, (word te j).toNat < 32) (i : S40960x4096.Idx) : refOut x te used g u d i = spec x te used g u d (i 0) (i 1) := by
  have h0 : (i 0).val < 40960 := (i 0).isLt
  have h1 : (i 1).val < 4096 := (i 1).isLt
  let t : Fin 160 := ⟨(i 0).val / 256, by omega⟩
  let r : Fin 256 := ⟨(i 0).val % 256, by omega⟩
  let c : Fin 4096 := i 1
  have hr : rowOf t r = i 0 := Fin.ext (by show 256 * ((i 0).val / 256) + (i 0).val % 256 = (i 0).val; omega)
  refine (shapeCast_apply _ _ _ (ix3 t r c) (by
    rw [Shape.rowMajor_val_three, Shape.rowMajor_val_two]
    show ((i 0).val / 256 * 256 + (i 0).val % 256) * 4096 + (i 1).val = (i 0).val * 4096 + (i 1).val
    omega)).trans ?_
  have e1 : broadcastInDim S160x256x4096 ![0, 1, 2] bcast_S160x1x1_S160x256x4096_0_1_2 (inUse used) (ix3 t r c) = inUse used (ix3 t 0 0) :=
    broadcastInDim_apply _ _ _ _ (ix3 t 0 0) fun a => by fin_cases a <;> rfl
  rw [select_at, e1, inUse_at]
  show Scalar.select (BitVec.ofBool (decide ((((i 0).val / 256 : ℕ) : ℤ) < count used))) (results x te g u d (ix3 t r c)) (Ideal.ofBits .f32 0x00000000#32) = _
  rw [results_at x te g u d h, hr, select_ofBool, ofBits_zero]
  unfold spec
  exact if_congr decide_eq_true_iff rfl rfl
end Reference

end Cert.ExpertSpec

end
-- ==== Proof.ExpertRun.lean ====
module

public import proofs.«01_k».proof.Proof.Gen.Kernel7Ideal.Launch
public import Idealize.ShloMosaic.Lib.Pipeline.Frame
public import Idealize.ShloMosaic.Lib.Tactic
public import Idealize.ShloMosaic.Lib.Pipeline.FrameBody
public import Idealize.ShloMosaic.Lib.Ring
public import Idealize.ShloMosaic.Lib.WordCmp
public import Idealize.ShloMosaic.Lib.VecWindow
public import Idealize.ShloMosaic.Lib.Pipeline.Value

@[expose] public section

set_option maxRecDepth 65536

noncomputable section

/-! # The experts: one grid point's run

Row tiles come sorted by expert.  An expert's three weights are copied, each into its own staging buffer, while the
expert before it is in use; at the first tile of an expert the body waits for the three copies, rounds the weights into
three more buffers and, if another expert follows, starts its copies.  A tile past the last one in use is zeros. -/

namespace Cert.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (Pipeline.UD sig nD τ) ℕ

abbrev teM : Memref sig .tc .smem S160 .i32 := Memref.whole main_arg1
abbrev firstM : Memref sig .tc .smem S160 .i32 := Memref.whole main_arg2
abbrev nextM : Memref sig .tc .smem S160 .i32 := Memref.whole main_arg3
abbrev usedM : Memref sig .tc .smem S1 .i32 := Memref.whole main_arg4
abbrev gM : Memref sig .tc .hbm S2x32x4096x512 .f32 := Memref.whole main_arg5
abbrev uM : Memref sig .tc .hbm S2x32x4096x512 .f32 := Memref.whole main_arg6
abbrev dM : Memref sig .tc .hbm S2x32x512x4096 .f32 := Memref.whole main_arg7
abbrev sgM : Memref sig .tc .vmem S4096x512 .f32 := Memref.whole cc0_scratch0
abbrev suM : Memref sig .tc .vmem S4096x512 .f32 := Memref.whole cc0_scratch1
abbrev sdM : Memref sig .tc .vmem S512x4096 .f32 := Memref.whole cc0_scratch2
abbrev rgM : Memref sig .tc .vmem S4096x512 .bf16 := Memref.whole cc0_scratch3
abbrev ruM : Memref sig .tc .vmem S4096x512 .bf16 := Memref.whole cc0_scratch4
abbrev rdM : Memref sig .tc .vmem S512x4096 .bf16 := Memref.whole cc0_scratch5

/-- The contents of a memref's buffer. -/
abbrev Held (c : Dev nD) {sp : Space} {S : Shape} {e : EltTy} (M : Memref sig .tc sp S e) : Type := Buf (Elt F) (M.view.loc (c : Thread nD τ))
/-- The tables' half shares. -/
abbrev tabP (c : Dev nD) {S : Shape} (M : Memref sig .tc .smem S .i32) (f : Held (F := F) c M) : sProp 𝕄 :=
  M.view.loc (c : Thread nD τ) ↦{fullShare.right} f

/-- The body at a grid point, on two staging buffers. -/
abbrev body (t : Fin grid0.N) (arg5 : Memref sig .tc .vmem S256x4096 .bf16) (harg5 : arg5.IsWhole) (arg9 : Memref sig .tc .vmem S256x4096 .bf16) (harg9 : arg9.IsWhole) :
    Prog (TpuEff nD τ sig (Elt F) Λ₀ .tc) PUnit :=
  cc0_moe_expert_ffn (grid0.coords t) teM (Memref.isWhole_whole _) firstM (Memref.isWhole_whole _) nextM (Memref.isWhole_whole _) usedM (Memref.isWhole_whole _) arg5 harg5
    gM (Memref.isWhole_whole _) uM (Memref.isWhole_whole _) dM (Memref.isWhole_whole _) arg9 harg9 sgM (Memref.isWhole_whole _) suM (Memref.isWhole_whole _) sdM (Memref.isWhole_whole _)
    rgM (Memref.isWhole_whole _) ruM (Memref.isWhole_whole _) rdM (Memref.isWhole_whole _) cc0_scratch6

/-! ## Words the body reads from the tables -/

section Words
variable (c : Dev nD)
def teW (T1 : Held (F := F) c teM) : BitVec 32 := View.readAt (Elt F) teM.view (Rect.unit (s := S160) ![0] S1.size inb_S160_S1_0).toLoadRect T1 (Shape.Idx.first (s := S1) (numel1_S1.symm ▸ Nat.one_pos))
def firstW (t : Fin grid0.N) (T2 : Held (F := F) c firstM) : BitVec 32 := View.readAt (Elt F) firstM.view (Rect.unit (s := S160) (k0_off4 (grid0.coords t)) S1.size (k0_off4_inb (grid0.coords t))).toLoadRect T2 (Shape.Idx.first (s := S1) (numel1_S1.symm ▸ Nat.one_pos))
def nextW (t : Fin grid0.N) (T3 : Held (F := F) c nextM) : BitVec 32 := View.readAt (Elt F) nextM.view (Rect.unit (s := S160) (k0_off5 (grid0.coords t)) S1.size (k0_off5_inb (grid0.coords t))).toLoadRect T3 (Shape.Idx.first (s := S1) (numel1_S1.symm ▸ Nat.one_pos))
def usedW (T4 : Held (F := F) c usedM) : BitVec 32 := View.readAt (Elt F) usedM.view (Rect.unit (s := S1) ![0] S1.size inb_S1_S1_0).toLoadRect T4 (Shape.Idx.first (s := S1) (numel1_S1.symm ▸ Nat.one_pos))
/-- The four tables, as the body holds them. -/
abbrev tabs (T1 : Held (F := F) c teM) (T2 : Held (F := F) c firstM) (T3 : Held (F := F) c nextM) (T4 : Held (F := F) c usedM) : sProp 𝕄 :=
  iprop(tabP c teM T1 ∗ tabP c firstM T2 ∗ tabP c nextM T3 ∗ tabP c usedM T4)
end Words

/-! ## An expert's weights -/

theorem srcG_inb (b : BitVec 32) : ∀ a, (![0, min b.toNat 31, 0, 0] : Fin 4 → Nat) a + S1x1x4096x512.size a ≤ S2x32x4096x512.size a := by
  intro a; fin_cases a <;> simp <;> omega
theorem srcD_inb (b : BitVec 32) : ∀ a, (![0, min b.toNat 31, 0, 0] : Fin 4 → Nat) a + S1x1x512x4096.size a ≤ S2x32x512x4096.size a := by
  intro a; fin_cases a <;> simp <;> omega
/-- Expert `b`'s three weights, as a copy reads them. -/
def srcG (b : BitVec 32) : Memref sig .tc .hbm S4096x512 .f32 :=
  (gM.slice (Rect.unit (s := S2x32x4096x512) ![0, min b.toNat 31, 0, 0] S1x1x4096x512.size (srcG_inb b)) (fun _ => rfl)).squeeze S4096x512 squeezes_S1x1x4096x512_S4096x512
def srcU (b : BitVec 32) : Memref sig .tc .hbm S4096x512 .f32 :=
  (uM.slice (Rect.unit (s := S2x32x4096x512) ![0, min b.toNat 31, 0, 0] S1x1x4096x512.size (srcG_inb b)) (fun _ => rfl)).squeeze S4096x512 squeezes_S1x1x4096x512_S4096x512
def srcD (b : BitVec 32) : Memref sig .tc .hbm S512x4096 .f32 :=
  (dM.slice (Rect.unit (s := S2x32x512x4096) ![0, min b.toNat 31, 0, 0] S1x1x512x4096.size (srcD_inb b)) (fun _ => rfl)).squeeze S512x4096 squeezes_S1x1x512x4096_S512x4096

abbrev cellG : SemLoc sig := SemLoc.dma ((cc0_scratch6.slice (Rect.unit (s := S3) ![0] S1.size inb_S3_S1_0)).squeeze S_ squeezes_S1_S_).sem
abbrev cellU : SemLoc sig := SemLoc.dma ((cc0_scratch6.slice (Rect.unit (s := S3) ![1] S1.size inb_S3_S1_1)).squeeze S_ squeezes_S1_S_).sem
abbrev cellD : SemLoc sig := SemLoc.dma ((cc0_scratch6.slice (Rect.unit (s := S3) ![2] S1.size inb_S3_S1_2)).squeeze S_ squeezes_S1_S_).sem
theorem cellG_eq : cellG = SemLoc.dma 4 := by decide
theorem cellU_eq : cellU = SemLoc.dma 5 := by decide
theorem cellD_eq : cellD = SemLoc.dma 6 := by decide

section Pieces
variable (c : Dev nD)
abbrev slotP {S : Shape} {e : EltTy} (M : Memref sig .tc .vmem S e) (f : Held (F := F) c M) : sProp 𝕄 := M.view.loc (c : Thread nD τ) ↦[M.view.set]{fullShare} f
abbrev cellP (l : SemLoc sig) : sProp 𝕄 := semVal ((c : Thread nD τ), l) 0
abbrev srcP {S : Shape} (A : Memref sig .tc .hbm S .f32) (q : PosShare TreeShare) (W : Held (F := F) c A) : sProp 𝕄 := A.view.loc (c : Thread nD τ) ↦[A.view.set]{q} W
abbrev landed {S : Shape} (A : Memref sig .tc .hbm S .f32) (M : Memref sig .tc .vmem S .f32) (W : Held (F := F) c A) (f : Held (F := F) c M) : Held (F := F) c M :=
  M.view.writes (Elt F) f [⟨Rect.whole S, ReadAs.same.apply (A.view.read (Elt F) W)⟩]
abbrev flightP {S : Shape} (A : Memref sig .tc .hbm S .f32) (M : Memref sig .tc .vmem S .f32) (l : SemLoc sig) (q : PosShare TreeShare) (W : Held (F := F) c A) (f : Held (F := F) c M) : sProp 𝕄 :=
  Transfers.Flight countersEmb (c : Thread nD τ) l default (M.view.amount l) iprop(slotP c M (landed c A M W f) ∗ srcP c A q W)

variable (G : Held (F := F) c gM) (U : Held (F := F) c uM) (D : Held (F := F) c dM) (q : PosShare TreeShare) (b : BitVec 32)
/-- What of a weight a copy of expert `b` leaves. -/
def restG : sProp 𝕄 := ((c : Thread nD τ).loc main_arg5) ↦[Finset.univ \ (srcG b).view.set]{q} G
def restU : sProp 𝕄 := ((c : Thread nD τ).loc main_arg6) ↦[Finset.univ \ (srcU b).view.set]{q} U
def restD : sProp 𝕄 := ((c : Thread nD τ).loc main_arg7) ↦[Finset.univ \ (srcD b).view.set]{q} D
abbrev wholeG : sProp 𝕄 := ((c : Thread nD τ).loc main_arg5) ↦[Finset.univ]{q} G
abbrev wholeU : sProp 𝕄 := ((c : Thread nD τ).loc main_arg6) ↦[Finset.univ]{q} U
abbrev wholeD : sProp 𝕄 := ((c : Thread nD τ).loc main_arg7) ↦[Finset.univ]{q} D
theorem splitG : wholeG (F := F) c G q ⊣⊢ iprop(srcP c (srcG b) q G ∗ restG c G q b) := by unfold restG; exact pointsTo_split_subset (Finset.subset_univ _)
theorem splitU : wholeU (F := F) c U q ⊣⊢ iprop(srcP c (srcU b) q U ∗ restU c U q b) := by unfold restU; exact pointsTo_split_subset (Finset.subset_univ _)
theorem splitD : wholeD (F := F) c D q ⊣⊢ iprop(srcP c (srcD b) q D ∗ restD c D q b) := by unfold restD; exact pointsTo_split_subset (Finset.subset_univ _)
/-- Expert `b`'s weights on their way into the staging buffers, from the share `q` of the weights. -/
abbrev inflight : sProp 𝕄 :=
  iprop(((∃ f, flightP c (srcG b) sgM cellG q G f) ∗ restG c G q b) ∗ ((∃ f, flightP c (srcU b) suM cellU q U f) ∗ restU c U q b) ∗ ((∃ f, flightP c (srcD b) sdM cellD q D f) ∗ restD c D q b))
/-- The weights at a share. -/
abbrev wholeP : sProp 𝕄 := iprop(wholeG c G q ∗ wholeU c U q ∗ wholeD c D q)
/-- No copy under way. -/
abbrev idleP : sProp 𝕄 := iprop(((∃ f, slotP (F := F) c sgM f) ∗ cellP c cellG) ∗ ((∃ f, slotP (F := F) c suM f) ∗ cellP c cellU) ∗ ((∃ f, slotP (F := F) c sdM f) ∗ cellP c cellD))
end Pieces

/-- Expert `b`'s weights, rounded. -/
def rG {c : Dev nD} (G : Held (F := F) c gM) (b : BitVec 32) : FVec F S4096x512 .bf16 := truncf .bf16 ((srcG b).view.read (Elt F) G) bitsLt_bf16_f32
def rU {c : Dev nD} (U : Held (F := F) c uM) (b : BitVec 32) : FVec F S4096x512 .bf16 := truncf .bf16 ((srcU b).view.read (Elt F) U) bitsLt_bf16_f32
def rD {c : Dev nD} (D : Held (F := F) c dM) (b : BitVec 32) : FVec F S512x4096 .bf16 := truncf .bf16 ((srcD b).view.read (Elt F) D) bitsLt_bf16_f32

/-- A row tile times a rounded weight. -/
def prod (x : FVec F S256x4096 .bf16) (g : FVec F S4096x512 .bf16) : FVec F S256x512 .f32 :=
  matmul (φ₁ := .bf16) (φ₂ := .bf16) dot_S256x4096_S4096x512_S256x512_1_0_0_1_n_n none x g (constant S256x512 .f32 0x00000000#32)
/-- The gated product of two products. -/
def gated (p r : FVec F S256x512 .f32) : FVec F S256x512 .bf16 :=
  truncf .bf16 (mulf (mulf p (addf (mulf (broadcast S256x512 (Scalar.ofBits .f32 0x3F000000#32)) (tanh (mulf (broadcast S256x512 (Scalar.ofBits .f32 0x3F000000#32)) p))) (broadcast S256x512 (Scalar.ofBits .f32 0x3F000000#32)))) r) bitsLt_bf16_f32
/-- A row tile through an expert. -/
def out (x : FVec F S256x4096 .bf16) (g u : FVec F S4096x512 .bf16) (d : FVec F S512x4096 .bf16) : FVec F S256x4096 .bf16 :=
  truncf .bf16 (matmul (φ₁ := .bf16) (φ₂ := .bf16) dot_S256x512_S512x4096_S256x4096_1_0_0_1_n_n none (gated (prod x g) (prod x u)) d (constant S256x4096 .f32 0x00000000#32)) bitsLt_bf16_f32

/-- What a rounded buffer holds after a copy has landed and been rounded. -/
theorem rounded_eq {S : Shape} (M : Memref sig .tc .vmem S .f32) (v : Vec F S .f32) {off : Fin S.rank → ℕ} (inb : ∀ a, off a + S.size a ≤ S.size a) (hsc : S.numel = S.numel) :
    shapeCast S (truncf .bf16 (M.view.readCov (Val := Elt F) [⟨Rect.whole S, ReadAs.same.apply v⟩] (Rect.unit off S.size inb).toLoadRect : FVec F S .f32) bitsLt_bf16_f32) hsc = truncf .bf16 v bitsLt_bf16_f32 :=
  (shapeCast_self _ _).trans (congrArg (fun v => truncf .bf16 v bitsLt_bf16_f32) (View.readAt_writes_full (Val := Elt F) M.view _ (off' := fun _ => 0) inb _ _ []))

theorem read_tile (x : Vec F S256x4096 .bf16) (arg5 : Memref sig .tc .vmem S256x4096 .bf16) (harg5 : arg5.IsWhole)
    (inb : ∀ a, (![0, 0] : Fin 2 → ℕ) a + S256x4096.size a ≤ S256x4096.size a) :
    View.readAt (Elt F) arg5.view (Rect.unit ![0, 0] S256x4096.size inb).toLoadRect (harg5.unread x) = x :=
  (View.readAt_full _ _ _).trans (harg5.read_unread x)

theorem out_of {x x' : FVec F S256x4096 .bf16} {g g' u u' : FVec F S4096x512 .bf16} {d d' : FVec F S512x4096 .bf16} (hx : x' = x) (hg : g' = g) (hu : u' = u) (hd : d' = d) :
    out x' g' u' d' = out x g u d := by rw [hx, hg, hu, hd]

/-! ## One point -/

section Canon
omit [FloatOps F]
theorem off_eq (w : BitVec 32) (h : w.toNat + 1 ≤ 32) : (![0, w.toNat, 0, 0] : Fin 4 → ℕ) = ![0, min w.toNat 31, 0, 0] := by
  rw [min_eq_left (by omega)]
@[sl_canon] theorem canon1 (w : BitVec 32) (inb) :
    (gM.slice (Rect.unit (s := S2x32x4096x512) (k0_off1 w) S1x1x4096x512.size inb) (fun _ => rfl)).squeeze S4096x512 squeezes_S1x1x4096x512_S4096x512 = srcG w :=
  congrArg (fun M : Memref sig .tc .hbm S1x1x4096x512 .f32 => M.squeeze S4096x512 squeezes_S1x1x4096x512_S4096x512) (Memref.slice_unit_congr _ (off_eq w (inb 1)) _ _ (fun _ => rfl) (fun _ => rfl))
@[sl_canon] theorem canon2 (w : BitVec 32) (inb) :
    (uM.slice (Rect.unit (s := S2x32x4096x512) (k0_off2 w) S1x1x4096x512.size inb) (fun _ => rfl)).squeeze S4096x512 squeezes_S1x1x4096x512_S4096x512 = srcU w :=
  congrArg (fun M : Memref sig .tc .hbm S1x1x4096x512 .f32 => M.squeeze S4096x512 squeezes_S1x1x4096x512_S4096x512) (Memref.slice_unit_congr _ (off_eq w (inb 1)) _ _ (fun _ => rfl) (fun _ => rfl))
@[sl_canon] theorem canon3 (w : BitVec 32) (inb) :
    (dM.slice (Rect.unit (s := S2x32x512x4096) (k0_off3 w) S1x1x512x4096.size inb) (fun _ => rfl)).squeeze S512x4096 squeezes_S1x1x512x4096_S512x4096 = srcD w :=
  congrArg (fun M : Memref sig .tc .hbm S1x1x512x4096 .f32 => M.squeeze S512x4096 squeezes_S1x1x512x4096_S512x4096) (Memref.slice_unit_congr _ (off_eq w (inb 1)) _ _ (fun _ => rfl) (fun _ => rfl))
@[sl_canon] theorem canon7 (w : BitVec 32) (inb) :
    (gM.slice (Rect.unit (s := S2x32x4096x512) (k0_off7 w) S1x1x4096x512.size inb) (fun _ => rfl)).squeeze S4096x512 squeezes_S1x1x4096x512_S4096x512 = srcG w :=
  congrArg (fun M : Memref sig .tc .hbm S1x1x4096x512 .f32 => M.squeeze S4096x512 squeezes_S1x1x4096x512_S4096x512) (Memref.slice_unit_congr _ (off_eq w (inb 1)) _ _ (fun _ => rfl) (fun _ => rfl))
@[sl_canon] theorem canon9 (w : BitVec 32) (inb) :
    (uM.slice (Rect.unit (s := S2x32x4096x512) (k0_off9 w) S1x1x4096x512.size inb) (fun _ => rfl)).squeeze S4096x512 squeezes_S1x1x4096x512_S4096x512 = srcU w :=
  congrArg (fun M : Memref sig .tc .hbm S1x1x4096x512 .f32 => M.squeeze S4096x512 squeezes_S1x1x4096x512_S4096x512) (Memref.slice_unit_congr _ (off_eq w (inb 1)) _ _ (fun _ => rfl) (fun _ => rfl))
@[sl_canon] theorem canon11 (w : BitVec 32) (inb) :
    (dM.slice (Rect.unit (s := S2x32x512x4096) (k0_off11 w) S1x1x512x4096.size inb) (fun _ => rfl)).squeeze S512x4096 squeezes_S1x1x512x4096_S512x4096 = srcD w :=
  congrArg (fun M : Memref sig .tc .hbm S1x1x512x4096 .f32 => M.squeeze S512x4096 squeezes_S1x1x512x4096_S512x4096) (Memref.slice_unit_congr _ (off_eq w (inb 1)) _ _ (fun _ => rfl) (fun _ => rfl))
end Canon

/-- A tile of zeros. -/
def zeros : FVec F S256x4096 .bf16 := broadcast S256x4096 (Scalar.ofBits .bf16 0x0000#16)

set_option maxHeartbeats 8000000 in
/-- Tile 0, another expert following: copy its expert's weights and wait, round them, start the next expert's copies, multiply. -/
theorem runA1 (c : Dev nD) (t : Fin grid0.N) (arg5 : Memref sig .tc .vmem S256x4096 .bf16) (harg5 : arg5.IsWhole) (arg9 : Memref sig .tc .vmem S256x4096 .bf16) (harg9 : arg9.IsWhole)
    (T1 : Held (F := F) c teM) (T2 : Held (F := F) c firstM) (T3 : Held (F := F) c nextM) (T4 : Held (F := F) c usedM) (x : Vec F S256x4096 .bf16) (G : Held (F := F) c gM) (U : Held (F := F) c uM) (D : Held (F := F) c dM) (q q' : PosShare TreeShare)
    (h1 : k0_cond1 (grid0.coords t) = 1#1)
    (h2 : k0_cond2 (grid0.coords t) (usedW c T4) (firstW c t T2) = 1#1)
    (h3 : k0_cond3 (nextW c t T3) = 1#1)
    (h4 : k0_cond4 (grid0.coords t) (usedW c T4) = 1#1)
    (h5 : ¬k0_cond5 (grid0.coords t) (usedW c T4) = 1#1)
    (hc1 : k0_chk1 (grid0.coords t) (teW c T1))
    (hc2 : k0_chk2 (grid0.coords t) (teW c T1))
    (hc3 : k0_chk3 (grid0.coords t) (teW c T1))
    (hc4 : k0_chk4 (grid0.coords t) (usedW c T4) (firstW c t T2) (nextW c t T3) (nextW c t T3))
    (hc5 : k0_chk5 (grid0.coords t) (usedW c T4) (firstW c t T2) (nextW c t T3) (nextW c t T3))
    (hc6 : k0_chk6 (grid0.coords t) (usedW c T4) (firstW c t T2) (nextW c t T3) (nextW c t T3))
    (W : Waits sig Unit) (K : PUnit → sProp 𝕄) :
    iprop(tabs c T1 T2 T3 T4 ∗ owns (c : Thread nD τ) arg5 fullShare x ∗ (∃ d, owns (c : Thread nD τ) arg9 fullShare d) ∗ (∃ d, owns (c : Thread nD τ) rgM fullShare d) ∗ (∃ d, owns (c : Thread nD τ) ruM fullShare d) ∗ (∃ d, owns (c : Thread nD τ) rdM fullShare d) ∗ idleP c ∗ wholeP c G U D q ∗ wholeP c G U D q' ∗ owes (c : Thread nD τ) 0 W
        ∗ (iprop(tabs c T1 T2 T3 T4 ∗ owns (c : Thread nD τ) arg5 fullShare x ∗ owns (c : Thread nD τ) arg9 fullShare (out x (rG G (teW c T1)) (rU U (teW c T1)) (rD D (teW c T1))) ∗ owns (c : Thread nD τ) rgM fullShare (rG G (teW c T1)) ∗ owns (c : Thread nD τ) ruM fullShare (rU U (teW c T1)) ∗ owns (c : Thread nD τ) rdM fullShare (rD D (teW c T1)) ∗ inflight c G U D q' (nextW c t T3) ∗ wholeP c G U D q ∗ (∃ W', owes (c : Thread nD τ) 0 W')) -∗ K ⟨⟩))
      ⊢ wp frame (wpE (defs₀ (F := F)) Variants.none c none) Set.univ (body t arg5 harg5 arg9 harg9) K := by
  haveI : Fact (k0_cond1 (grid0.coords t) = 1#1) := ⟨h1⟩
  haveI : Fact (k0_cond2 (grid0.coords t) (usedW c T4) (firstW c t T2) = 1#1) := ⟨h2⟩
  haveI : Fact (k0_cond3 (nextW c t T3) = 1#1) := ⟨h3⟩
  haveI : Fact (k0_cond4 (grid0.coords t) (usedW c T4) = 1#1) := ⟨h4⟩
  haveI : Fact (¬k0_cond5 (grid0.coords t) (usedW c T4) = 1#1) := ⟨h5⟩
  unfold body cc0_moe_expert_ffn owns
  iintro ⟨⟨HT1, HT2, HT3, HT4⟩, ⟨%f0, %hf0, H0⟩, ⟨%d1, %f1, -, H1⟩, ⟨%dg, %fg, -, HG⟩, ⟨%du, %fu, -, HU⟩, ⟨%dd, %fd, -, HD⟩, ⟨⟨⟨%sg, Hsg⟩, Hcg⟩, ⟨⟨%su, Hsu⟩, Hcu⟩, ⟨⟨%sd, Hsd⟩, Hcd⟩⟩, ⟨Hwg, Hwu, Hwd⟩, ⟨Hng, Hnu, Hnd⟩, HW, Hk⟩
  ihave Hxg := (splitG c G q (teW c T1)).1 $$ Hwg
  icases Hxg with ⟨Hsgb, Hrg⟩
  ihave Hxu := (splitU c U q (teW c T1)).1 $$ Hwu
  icases Hxu with ⟨Hsub, Hru⟩
  ihave Hxd := (splitD c D q (teW c T1)).1 $$ Hwd
  icases Hxd with ⟨Hsdb, Hrd⟩
  ihave Hyg := (splitG c G q' (nextW c t T3)).1 $$ Hng
  icases Hyg with ⟨Htg, Hqg⟩
  ihave Hyu := (splitU c U q' (nextW c t T3)).1 $$ Hnu
  icases Hyu with ⟨Htu, Hqu⟩
  ihave Hyd := (splitD c D q' (nextW c t T3)).1 $$ Hnd
  icases Hyd with ⟨Htd, Hqd⟩
  obtain rfl := harg5.eq_unread hf0
  sl_exec (disch := first | sl_exact h1 | sl_exact h2 | sl_exact h3 | sl_exact h4 | sl_exact h5 | sl_exact hc1 | sl_exact hc2 | sl_exact hc3 | sl_exact hc4 | sl_exact hc5 | sl_exact hc6)
  sl_step
  iapply Hk
  isplitl [HT1 HT2 HT3 HT4]
  · isplitl [HT1]; · iexact HT1
    isplitl [HT2]; · iexact HT2
    isplitl [HT3]; · iexact HT3
    iexact HT4
  isplitl [H0]
  · iexists _; isplitr; · ipureintro; exact harg5.read_unread _
    iexact H0
  isplitl [H1]
  · iexists _; isplitr; swap; · iexact H1
    ipureintro
    refine (View.read_writes_full _ _ _ _ _).trans ?_
    refine out_of (read_tile x arg5 harg5 _) ?_ ?_ ?_
    · exact (View.readAt_writes_full (Val := Elt F) rgM.view _ _ _ _ []).trans (rounded_eq _ _ _ _)
    · exact (View.readAt_writes_full (Val := Elt F) ruM.view _ _ _ _ []).trans (rounded_eq _ _ _ _)
    · exact (View.readAt_writes_full (Val := Elt F) rdM.view _ _ _ _ []).trans (rounded_eq _ _ _ _)
  isplitl [HG]
  · iexists _; isplitr; swap; · iexact HG
    ipureintro
    exact (View.read_writes_full _ _ _ _ _).trans (rounded_eq _ _ _ _)
  isplitl [HU]
  · iexists _; isplitr; swap; · iexact HU
    ipureintro
    exact (View.read_writes_full _ _ _ _ _).trans (rounded_eq _ _ _ _)
  isplitl [HD]
  · iexists _; isplitr; swap; · iexact HD
    ipureintro
    exact (View.read_writes_full _ _ _ _ _).trans (rounded_eq _ _ _ _)
  isplitl [Hcg Hqg Hcu Hqu Hcd Hqd]
  · isplitl [Hcg Hqg]
    · isplitl [Hcg]; · iexists _; iexact Hcg
      iexact Hqg
    isplitl [Hcu Hqu]
    · isplitl [Hcu]; · iexists _; iexact Hcu
      iexact Hqu
    isplitl [Hcd]; · iexists _; iexact Hcd
    iexact Hqd
  isplitl [Hsgb Hrg Hsub Hru Hsdb Hrd]
  · isplitl [Hsgb Hrg]
    · iapply (splitG c G q (teW c T1)).2; isplitl [Hsgb]; · iexact Hsgb
      iexact Hrg
    isplitl [Hsub Hru]
    · iapply (splitU c U q (teW c T1)).2; isplitl [Hsub]; · iexact Hsub
      iexact Hru
    iapply (splitD c D q (teW c T1)).2; isplitl [Hsdb]; · iexact Hsdb
    iexact Hrd
  iexists _; iexact HW

set_option maxHeartbeats 8000000 in
/-- Tile 0, no other expert following: copy its expert's weights and wait, round them, multiply. -/
theorem runA2 (c : Dev nD) (t : Fin grid0.N) (arg5 : Memref sig .tc .vmem S256x4096 .bf16) (harg5 : arg5.IsWhole) (arg9 : Memref sig .tc .vmem S256x4096 .bf16) (harg9 : arg9.IsWhole)
    (T1 : Held (F := F) c teM) (T2 : Held (F := F) c firstM) (T3 : Held (F := F) c nextM) (T4 : Held (F := F) c usedM) (x : Vec F S256x4096 .bf16) (G : Held (F := F) c gM) (U : Held (F := F) c uM) (D : Held (F := F) c dM) (q q' : PosShare TreeShare)
    (h1 : k0_cond1 (grid0.coords t) = 1#1)
    (h2 : k0_cond2 (grid0.coords t) (usedW c T4) (firstW c t T2) = 1#1)
    (h3 : ¬k0_cond3 (nextW c t T3) = 1#1)
    (h4 : k0_cond4 (grid0.coords t) (usedW c T4) = 1#1)
    (h5 : ¬k0_cond5 (grid0.coords t) (usedW c T4) = 1#1)
    (hc1 : k0_chk1 (grid0.coords t) (teW c T1))
    (hc2 : k0_chk2 (grid0.coords t) (teW c T1))
    (hc3 : k0_chk3 (grid0.coords t) (teW c T1))
    (W : Waits sig Unit) (K : PUnit → sProp 𝕄) :
    iprop(tabs c T1 T2 T3 T4 ∗ owns (c : Thread nD τ) arg5 fullShare x ∗ (∃ d, owns (c : Thread nD τ) arg9 fullShare d) ∗ (∃ d, owns (c : Thread nD τ) rgM fullShare d) ∗ (∃ d, owns (c : Thread nD τ) ruM fullShare d) ∗ (∃ d, owns (c : Thread nD τ) rdM fullShare d) ∗ idleP c ∗ wholeP c G U D q ∗ owes (c : Thread nD τ) 0 W
        ∗ (iprop(tabs c T1 T2 T3 T4 ∗ owns (c : Thread nD τ) arg5 fullShare x ∗ owns (c : Thread nD τ) arg9 fullShare (out x (rG G (teW c T1)) (rU U (teW c T1)) (rD D (teW c T1))) ∗ owns (c : Thread nD τ) rgM fullShare (rG G (teW c T1)) ∗ owns (c : Thread nD τ) ruM fullShare (rU U (teW c T1)) ∗ owns (c : Thread nD τ) rdM fullShare (rD D (teW c T1)) ∗ idleP c ∗ wholeP c G U D q ∗ (∃ W', owes (c : Thread nD τ) 0 W')) -∗ K ⟨⟩))
      ⊢ wp frame (wpE (defs₀ (F := F)) Variants.none c none) Set.univ (body t arg5 harg5 arg9 harg9) K := by
  haveI : Fact (k0_cond1 (grid0.coords t) = 1#1) := ⟨h1⟩
  haveI : Fact (k0_cond2 (grid0.coords t) (usedW c T4) (firstW c t T2) = 1#1) := ⟨h2⟩
  haveI : Fact (¬k0_cond3 (nextW c t T3) = 1#1) := ⟨h3⟩
  haveI : Fact (k0_cond4 (grid0.coords t) (usedW c T4) = 1#1) := ⟨h4⟩
  haveI : Fact (¬k0_cond5 (grid0.coords t) (usedW c T4) = 1#1) := ⟨h5⟩
  unfold body cc0_moe_expert_ffn owns
  iintro ⟨⟨HT1, HT2, HT3, HT4⟩, ⟨%f0, %hf0, H0⟩, ⟨%d1, %f1, -, H1⟩, ⟨%dg, %fg, -, HG⟩, ⟨%du, %fu, -, HU⟩, ⟨%dd, %fd, -, HD⟩, ⟨⟨⟨%sg, Hsg⟩, Hcg⟩, ⟨⟨%su, Hsu⟩, Hcu⟩, ⟨⟨%sd, Hsd⟩, Hcd⟩⟩, ⟨Hwg, Hwu, Hwd⟩, HW, Hk⟩
  ihave Hxg := (splitG c G q (teW c T1)).1 $$ Hwg
  icases Hxg with ⟨Hsgb, Hrg⟩
  ihave Hxu := (splitU c U q (teW c T1)).1 $$ Hwu
  icases Hxu with ⟨Hsub, Hru⟩
  ihave Hxd := (splitD c D q (teW c T1)).1 $$ Hwd
  icases Hxd with ⟨Hsdb, Hrd⟩
  obtain rfl := harg5.eq_unread hf0
  sl_exec (disch := first | sl_exact h1 | sl_exact h2 | sl_exact h3 | sl_exact h4 | sl_exact h5 | sl_exact hc1 | sl_exact hc2 | sl_exact hc3)
  sl_step
  iapply Hk
  isplitl [HT1 HT2 HT3 HT4]
  · isplitl [HT1]; · iexact HT1
    isplitl [HT2]; · iexact HT2
    isplitl [HT3]; · iexact HT3
    iexact HT4
  isplitl [H0]
  · iexists _; isplitr; · ipureintro; exact harg5.read_unread _
    iexact H0
  isplitl [H1]
  · iexists _; isplitr; swap; · iexact H1
    ipureintro
    refine (View.read_writes_full _ _ _ _ _).trans ?_
    refine out_of (read_tile x arg5 harg5 _) ?_ ?_ ?_
    · exact (View.readAt_writes_full (Val := Elt F) rgM.view _ _ _ _ []).trans (rounded_eq _ _ _ _)
    · exact (View.readAt_writes_full (Val := Elt F) ruM.view _ _ _ _ []).trans (rounded_eq _ _ _ _)
    · exact (View.readAt_writes_full (Val := Elt F) rdM.view _ _ _ _ []).trans (rounded_eq _ _ _ _)
  isplitl [HG]
  · iexists _; isplitr; swap; · iexact HG
    ipureintro
    exact (View.read_writes_full _ _ _ _ _).trans (rounded_eq _ _ _ _)
  isplitl [HU]
  · iexists _; isplitr; swap; · iexact HU
    ipureintro
    exact (View.read_writes_full _ _ _ _ _).trans (rounded_eq _ _ _ _)
  isplitl [HD]
  · iexists _; isplitr; swap; · iexact HD
    ipureintro
    exact (View.read_writes_full _ _ _ _ _).trans (rounded_eq _ _ _ _)
  isplitl [Hsg Hcg Hsu Hcu Hsd Hcd]
  · isplitl [Hsg Hcg]
    · isplitl [Hsg]; · iexists _; iexact Hsg
      iexact Hcg
    isplitl [Hsu Hcu]
    · isplitl [Hsu]; · iexists _; iexact Hsu
      iexact Hcu
    isplitl [Hsd]; · iexists _; iexact Hsd
    iexact Hcd
  isplitl [Hsgb Hrg Hsub Hru Hsdb Hrd]
  · isplitl [Hsgb Hrg]
    · iapply (splitG c G q (teW c T1)).2; isplitl [Hsgb]; · iexact Hsgb
      iexact Hrg
    isplitl [Hsub Hru]
    · iapply (splitU c U q (teW c T1)).2; isplitl [Hsub]; · iexact Hsub
      iexact Hru
    iapply (splitD c D q (teW c T1)).2; isplitl [Hsdb]; · iexact Hsdb
    iexact Hrd
  iexists _; iexact HW

set_option maxHeartbeats 8000000 in
/-- An expert's first tile, another expert following: wait for the weights, round them, start the next expert's copies, multiply. -/
theorem runB1 (c : Dev nD) (t : Fin grid0.N) (arg5 : Memref sig .tc .vmem S256x4096 .bf16) (harg5 : arg5.IsWhole) (arg9 : Memref sig .tc .vmem S256x4096 .bf16) (harg9 : arg9.IsWhole)
    (T1 : Held (F := F) c teM) (T2 : Held (F := F) c firstM) (T3 : Held (F := F) c nextM) (T4 : Held (F := F) c usedM) (x : Vec F S256x4096 .bf16) (G : Held (F := F) c gM) (U : Held (F := F) c uM) (D : Held (F := F) c dM) (q q' : PosShare TreeShare) (b : BitVec 32)
    (h1 : ¬k0_cond1 (grid0.coords t) = 1#1)
    (h2 : k0_cond2 (grid0.coords t) (usedW c T4) (firstW c t T2) = 1#1)
    (h3 : k0_cond3 (nextW c t T3) = 1#1)
    (h4 : k0_cond4 (grid0.coords t) (usedW c T4) = 1#1)
    (h5 : ¬k0_cond5 (grid0.coords t) (usedW c T4) = 1#1)
    (hc4 : k0_chk4 (grid0.coords t) (usedW c T4) (firstW c t T2) (nextW c t T3) (nextW c t T3))
    (hc5 : k0_chk5 (grid0.coords t) (usedW c T4) (firstW c t T2) (nextW c t T3) (nextW c t T3))
    (hc6 : k0_chk6 (grid0.coords t) (usedW c T4) (firstW c t T2) (nextW c t T3) (nextW c t T3))
    (W : Waits sig Unit) (K : PUnit → sProp 𝕄) :
    iprop(tabs c T1 T2 T3 T4 ∗ owns (c : Thread nD τ) arg5 fullShare x ∗ (∃ d, owns (c : Thread nD τ) arg9 fullShare d) ∗ (∃ d, owns (c : Thread nD τ) rgM fullShare d) ∗ (∃ d, owns (c : Thread nD τ) ruM fullShare d) ∗ (∃ d, owns (c : Thread nD τ) rdM fullShare d) ∗ inflight c G U D q b ∗ wholeP c G U D q' ∗ owes (c : Thread nD τ) 0 W
        ∗ (iprop(tabs c T1 T2 T3 T4 ∗ owns (c : Thread nD τ) arg5 fullShare x ∗ owns (c : Thread nD τ) arg9 fullShare (out x (rG G b) (rU U b) (rD D b)) ∗ owns (c : Thread nD τ) rgM fullShare (rG G b) ∗ owns (c : Thread nD τ) ruM fullShare (rU U b) ∗ owns (c : Thread nD τ) rdM fullShare (rD D b) ∗ inflight c G U D q' (nextW c t T3) ∗ wholeP c G U D q ∗ (∃ W', owes (c : Thread nD τ) 0 W')) -∗ K ⟨⟩))
      ⊢ wp frame (wpE (defs₀ (F := F)) Variants.none c none) Set.univ (body t arg5 harg5 arg9 harg9) K := by
  haveI : Fact (¬k0_cond1 (grid0.coords t) = 1#1) := ⟨h1⟩
  haveI : Fact (k0_cond2 (grid0.coords t) (usedW c T4) (firstW c t T2) = 1#1) := ⟨h2⟩
  haveI : Fact (k0_cond3 (nextW c t T3) = 1#1) := ⟨h3⟩
  haveI : Fact (k0_cond4 (grid0.coords t) (usedW c T4) = 1#1) := ⟨h4⟩
  haveI : Fact (¬k0_cond5 (grid0.coords t) (usedW c T4) = 1#1) := ⟨h5⟩
  unfold body cc0_moe_expert_ffn owns
  iintro ⟨⟨HT1, HT2, HT3, HT4⟩, ⟨%f0, %hf0, H0⟩, ⟨%d1, %f1, -, H1⟩, ⟨%dg, %fg, -, HG⟩, ⟨%du, %fu, -, HU⟩, ⟨%dd, %fd, -, HD⟩, ⟨⟨⟨%sg, Hfg⟩, Hrg⟩, ⟨⟨%su, Hfu⟩, Hru⟩, ⟨⟨%sd, Hfd⟩, Hrd⟩⟩, ⟨Hng, Hnu, Hnd⟩, HW, Hk⟩
  ihave Hyg := (splitG c G q' (nextW c t T3)).1 $$ Hng
  icases Hyg with ⟨Htg, Hqg⟩
  ihave Hyu := (splitU c U q' (nextW c t T3)).1 $$ Hnu
  icases Hyu with ⟨Htu, Hqu⟩
  ihave Hyd := (splitD c D q' (nextW c t T3)).1 $$ Hnd
  icases Hyd with ⟨Htd, Hqd⟩
  obtain rfl := harg5.eq_unread hf0
  sl_exec (disch := first | sl_exact h1 | sl_exact h2 | sl_exact h3 | sl_exact h4 | sl_exact h5 | sl_exact hc4 | sl_exact hc5 | sl_exact hc6)
  sl_step
  iapply Hk
  isplitl [HT1 HT2 HT3 HT4]
  · isplitl [HT1]; · iexact HT1
    isplitl [HT2]; · iexact HT2
    isplitl [HT3]; · iexact HT3
    iexact HT4
  isplitl [H0]
  · iexists _; isplitr; · ipureintro; exact harg5.read_unread _
    iexact H0
  isplitl [H1]
  · iexists _; isplitr; swap; · iexact H1
    ipureintro
    refine (View.read_writes_full _ _ _ _ _).trans ?_
    refine out_of (read_tile x arg5 harg5 _) ?_ ?_ ?_
    · exact (View.readAt_writes_full (Val := Elt F) rgM.view _ _ _ _ []).trans (rounded_eq _ _ _ _)
    · exact (View.readAt_writes_full (Val := Elt F) ruM.view _ _ _ _ []).trans (rounded_eq _ _ _ _)
    · exact (View.readAt_writes_full (Val := Elt F) rdM.view _ _ _ _ []).trans (rounded_eq _ _ _ _)
  isplitl [HG]
  · iexists _; isplitr; swap; · iexact HG
    ipureintro
    exact (View.read_writes_full _ _ _ _ _).trans (rounded_eq _ _ _ _)
  isplitl [HU]
  · iexists _; isplitr; swap; · iexact HU
    ipureintro
    exact (View.read_writes_full _ _ _ _ _).trans (rounded_eq _ _ _ _)
  isplitl [HD]
  · iexists _; isplitr; swap; · iexact HD
    ipureintro
    exact (View.read_writes_full _ _ _ _ _).trans (rounded_eq _ _ _ _)
  isplitl [Hfg Hqg Hfu Hqu Hfd Hqd]
  · isplitl [Hfg Hqg]
    · isplitl [Hfg]; · iexists _; iexact Hfg
      iexact Hqg
    isplitl [Hfu Hqu]
    · isplitl [Hfu]; · iexists _; iexact Hfu
      iexact Hqu
    isplitl [Hfd]; · iexists _; iexact Hfd
    iexact Hqd
  isplitl [Hfg_src Hrg Hfu_src Hru Hfd_src Hrd]
  · isplitl [Hfg_src Hrg]
    · iapply (splitG c G q b).2; isplitl [Hfg_src]; · iexact Hfg_src
      iexact Hrg
    isplitl [Hfu_src Hru]
    · iapply (splitU c U q b).2; isplitl [Hfu_src]; · iexact Hfu_src
      iexact Hru
    iapply (splitD c D q b).2; isplitl [Hfd_src]; · iexact Hfd_src
    iexact Hrd
  iexists _; iexact HW

set_option maxHeartbeats 8000000 in
/-- The last expert's first tile: wait for the weights, round them, multiply. -/
theorem runB2 (c : Dev nD) (t : Fin grid0.N) (arg5 : Memref sig .tc .vmem S256x4096 .bf16) (harg5 : arg5.IsWhole) (arg9 : Memref sig .tc .vmem S256x4096 .bf16) (harg9 : arg9.IsWhole)
    (T1 : Held (F := F) c teM) (T2 : Held (F := F) c firstM) (T3 : Held (F := F) c nextM) (T4 : Held (F := F) c usedM) (x : Vec F S256x4096 .bf16) (G : Held (F := F) c gM) (U : Held (F := F) c uM) (D : Held (F := F) c dM) (q q' : PosShare TreeShare) (b : BitVec 32)
    (h1 : ¬k0_cond1 (grid0.coords t) = 1#1)
    (h2 : k0_cond2 (grid0.coords t) (usedW c T4) (firstW c t T2) = 1#1)
    (h3 : ¬k0_cond3 (nextW c t T3) = 1#1)
    (h4 : k0_cond4 (grid0.coords t) (usedW c T4) = 1#1)
    (h5 : ¬k0_cond5 (grid0.coords t) (usedW c T4) = 1#1)
    (W : Waits sig Unit) (K : PUnit → sProp 𝕄) :
    iprop(tabs c T1 T2 T3 T4 ∗ owns (c : Thread nD τ) arg5 fullShare x ∗ (∃ d, owns (c : Thread nD τ) arg9 fullShare d) ∗ (∃ d, owns (c : Thread nD τ) rgM fullShare d) ∗ (∃ d, owns (c : Thread nD τ) ruM fullShare d) ∗ (∃ d, owns (c : Thread nD τ) rdM fullShare d) ∗ inflight c G U D q b ∗ owes (c : Thread nD τ) 0 W
        ∗ (iprop(tabs c T1 T2 T3 T4 ∗ owns (c : Thread nD τ) arg5 fullShare x ∗ owns (c : Thread nD τ) arg9 fullShare (out x (rG G b) (rU U b) (rD D b)) ∗ owns (c : Thread nD τ) rgM fullShare (rG G b) ∗ owns (c : Thread nD τ) ruM fullShare (rU U b) ∗ owns (c : Thread nD τ) rdM fullShare (rD D b) ∗ idleP c ∗ wholeP c G U D q ∗ (∃ W', owes (c : Thread nD τ) 0 W')) -∗ K ⟨⟩))
      ⊢ wp frame (wpE (defs₀ (F := F)) Variants.none c none) Set.univ (body t arg5 harg5 arg9 harg9) K := by
  haveI : Fact (¬k0_cond1 (grid0.coords t) = 1#1) := ⟨h1⟩
  haveI : Fact (k0_cond2 (grid0.coords t) (usedW c T4) (firstW c t T2) = 1#1) := ⟨h2⟩
  haveI : Fact (¬k0_cond3 (nextW c t T3) = 1#1) := ⟨h3⟩
  haveI : Fact (k0_cond4 (grid0.coords t) (usedW c T4) = 1#1) := ⟨h4⟩
  haveI : Fact (¬k0_cond5 (grid0.coords t) (usedW c T4) = 1#1) := ⟨h5⟩
  unfold body cc0_moe_expert_ffn owns
  iintro ⟨⟨HT1, HT2, HT3, HT4⟩, ⟨%f0, %hf0, H0⟩, ⟨%d1, %f1, -, H1⟩, ⟨%dg, %fg, -, HG⟩, ⟨%du, %fu, -, HU⟩, ⟨%dd, %fd, -, HD⟩, ⟨⟨⟨%sg, Hfg⟩, Hrg⟩, ⟨⟨%su, Hfu⟩, Hru⟩, ⟨⟨%sd, Hfd⟩, Hrd⟩⟩, HW, Hk⟩
  obtain rfl := harg5.eq_unread hf0
  sl_exec (disch := first | sl_exact h1 | sl_exact h2 | sl_exact h3 | sl_exact h4 | sl_exact h5)
  sl_step
  iapply Hk
  isplitl [HT1 HT2 HT3 HT4]
  · isplitl [HT1]; · iexact HT1
    isplitl [HT2]; · iexact HT2
    isplitl [HT3]; · iexact HT3
    iexact HT4
  isplitl [H0]
  · iexists _; isplitr; · ipureintro; exact harg5.read_unread _
    iexact H0
  isplitl [H1]
  · iexists _; isplitr; swap; · iexact H1
    ipureintro
    refine (View.read_writes_full _ _ _ _ _).trans ?_
    refine out_of (read_tile x arg5 harg5 _) ?_ ?_ ?_
    · exact (View.readAt_writes_full (Val := Elt F) rgM.view _ _ _ _ []).trans (rounded_eq _ _ _ _)
    · exact (View.readAt_writes_full (Val := Elt F) ruM.view _ _ _ _ []).trans (rounded_eq _ _ _ _)
    · exact (View.readAt_writes_full (Val := Elt F) rdM.view _ _ _ _ []).trans (rounded_eq _ _ _ _)
  isplitl [HG]
  · iexists _; isplitr; swap; · iexact HG
    ipureintro
    exact (View.read_writes_full _ _ _ _ _).trans (rounded_eq _ _ _ _)
  isplitl [HU]
  · iexists _; isplitr; swap; · iexact HU
    ipureintro
    exact (View.read_writes_full _ _ _ _ _).trans (rounded_eq _ _ _ _)
  isplitl [HD]
  · iexists _; isplitr; swap; · iexact HD
    ipureintro
    exact (View.read_writes_full _ _ _ _ _).trans (rounded_eq _ _ _ _)
  isplitl [Hfg_dst Hfg Hfu_dst Hfu Hfd_dst Hfd]
  · isplitl [Hfg_dst Hfg]
    · isplitl [Hfg_dst]; · iexists _; iexact Hfg_dst
      iexact Hfg
    isplitl [Hfu_dst Hfu]
    · isplitl [Hfu_dst]; · iexists _; iexact Hfu_dst
      iexact Hfu
    isplitl [Hfd_dst]; · iexists _; iexact Hfd_dst
    iexact Hfd
  isplitl [Hfg_src Hrg Hfu_src Hru Hfd_src Hrd]
  · isplitl [Hfg_src Hrg]
    · iapply (splitG c G q b).2; isplitl [Hfg_src]; · iexact Hfg_src
      iexact Hrg
    isplitl [Hfu_src Hru]
    · iapply (splitU c U q b).2; isplitl [Hfu_src]; · iexact Hfu_src
      iexact Hru
    iapply (splitD c D q b).2; isplitl [Hfd_src]; · iexact Hfd_src
    iexact Hrd
  iexists _; iexact HW

set_option maxHeartbeats 8000000 in
/-- A later tile of an expert: multiply by the rounded weights at hand. -/
theorem runC (c : Dev nD) (t : Fin grid0.N) (arg5 : Memref sig .tc .vmem S256x4096 .bf16) (harg5 : arg5.IsWhole) (arg9 : Memref sig .tc .vmem S256x4096 .bf16) (harg9 : arg9.IsWhole)
    (T1 : Held (F := F) c teM) (T2 : Held (F := F) c firstM) (T3 : Held (F := F) c nextM) (T4 : Held (F := F) c usedM) (x : Vec F S256x4096 .bf16) (g u : FVec F S4096x512 .bf16) (d : FVec F S512x4096 .bf16)
    (h1 : ¬k0_cond1 (grid0.coords t) = 1#1)
    (h2 : ¬k0_cond2 (grid0.coords t) (usedW c T4) (firstW c t T2) = 1#1)
    (h4 : k0_cond4 (grid0.coords t) (usedW c T4) = 1#1)
    (h5 : ¬k0_cond5 (grid0.coords t) (usedW c T4) = 1#1)
    (W : Waits sig Unit) (K : PUnit → sProp 𝕄) :
    iprop(tabs c T1 T2 T3 T4 ∗ owns (c : Thread nD τ) arg5 fullShare x ∗ (∃ d, owns (c : Thread nD τ) arg9 fullShare d) ∗ owns (c : Thread nD τ) rgM fullShare g ∗ owns (c : Thread nD τ) ruM fullShare u ∗ owns (c : Thread nD τ) rdM fullShare d ∗ owes (c : Thread nD τ) 0 W
        ∗ (iprop(tabs c T1 T2 T3 T4 ∗ owns (c : Thread nD τ) arg5 fullShare x ∗ owns (c : Thread nD τ) arg9 fullShare (out x g u d) ∗ owns (c : Thread nD τ) rgM fullShare g ∗ owns (c : Thread nD τ) ruM fullShare u ∗ owns (c : Thread nD τ) rdM fullShare d ∗ (∃ W', owes (c : Thread nD τ) 0 W')) -∗ K ⟨⟩))
      ⊢ wp frame (wpE (defs₀ (F := F)) Variants.none c none) Set.univ (body t arg5 harg5 arg9 harg9) K := by
  haveI : Fact (¬k0_cond1 (grid0.coords t) = 1#1) := ⟨h1⟩
  haveI : Fact (¬k0_cond2 (grid0.coords t) (usedW c T4) (firstW c t T2) = 1#1) := ⟨h2⟩
  haveI : Fact (k0_cond4 (grid0.coords t) (usedW c T4) = 1#1) := ⟨h4⟩
  haveI : Fact (¬k0_cond5 (grid0.coords t) (usedW c T4) = 1#1) := ⟨h5⟩
  unfold body cc0_moe_expert_ffn owns
  iintro ⟨⟨HT1, HT2, HT3, HT4⟩, ⟨%f0, %hf0, H0⟩, ⟨%d1, %f1, -, H1⟩, ⟨%fg, %hg, HG⟩, ⟨%fu, %hu, HU⟩, ⟨%fd, %hd, HD⟩, HW, Hk⟩
  obtain rfl := harg5.eq_unread hf0
  sl_exec (disch := first | sl_exact h1 | sl_exact h2 | sl_exact h4 | sl_exact h5)
  sl_step
  iapply Hk
  isplitl [HT1 HT2 HT3 HT4]
  · isplitl [HT1]; · iexact HT1
    isplitl [HT2]; · iexact HT2
    isplitl [HT3]; · iexact HT3
    iexact HT4
  isplitl [H0]
  · iexists _; isplitr; · ipureintro; exact harg5.read_unread _
    iexact H0
  isplitl [H1]
  · iexists _; isplitr; swap; · iexact H1
    ipureintro
    refine (View.read_writes_full _ _ _ _ _).trans ?_
    exact out_of (read_tile x arg5 harg5 _) ((View.readAt_full _ _ _).trans hg) ((View.readAt_full _ _ _).trans hu) ((View.readAt_full _ _ _).trans hd)
  isplitl [HG]
  · iexists _; isplitr; swap; · iexact HG
    ipureintro; exact hg
  isplitl [HU]
  · iexists _; isplitr; swap; · iexact HU
    ipureintro; exact hu
  isplitl [HD]
  · iexists _; isplitr; swap; · iexact HD
    ipureintro; exact hd
  iexists _; iexact HW

set_option maxHeartbeats 8000000 in
/-- A tile past the last one in use: zeros. -/
theorem runD (c : Dev nD) (t : Fin grid0.N) (arg5 : Memref sig .tc .vmem S256x4096 .bf16) (harg5 : arg5.IsWhole) (arg9 : Memref sig .tc .vmem S256x4096 .bf16) (harg9 : arg9.IsWhole)
    (T1 : Held (F := F) c teM) (T2 : Held (F := F) c firstM) (T3 : Held (F := F) c nextM) (T4 : Held (F := F) c usedM)
    (h1 : ¬k0_cond1 (grid0.coords t) = 1#1)
    (h2 : ¬k0_cond2 (grid0.coords t) (usedW c T4) (firstW c t T2) = 1#1)
    (h4 : ¬k0_cond4 (grid0.coords t) (usedW c T4) = 1#1)
    (h5 : k0_cond5 (grid0.coords t) (usedW c T4) = 1#1)
    (W : Waits sig Unit) (K : PUnit → sProp 𝕄) :
    iprop(tabs c T1 T2 T3 T4 ∗ (∃ d, owns (c : Thread nD τ) arg9 fullShare d) ∗ owes (c : Thread nD τ) 0 W
        ∗ (iprop(tabs c T1 T2 T3 T4 ∗ owns (c : Thread nD τ) arg9 fullShare zeros ∗ (∃ W', owes (c : Thread nD τ) 0 W')) -∗ K ⟨⟩))
      ⊢ wp frame (wpE (defs₀ (F := F)) Variants.none c none) Set.univ (body t arg5 harg5 arg9 harg9) K := by
  haveI : Fact (¬k0_cond1 (grid0.coords t) = 1#1) := ⟨h1⟩
  haveI : Fact (¬k0_cond2 (grid0.coords t) (usedW c T4) (firstW c t T2) = 1#1) := ⟨h2⟩
  haveI : Fact (¬k0_cond4 (grid0.coords t) (usedW c T4) = 1#1) := ⟨h4⟩
  haveI : Fact (k0_cond5 (grid0.coords t) (usedW c T4) = 1#1) := ⟨h5⟩
  unfold body cc0_moe_expert_ffn owns
  iintro ⟨⟨HT1, HT2, HT3, HT4⟩, ⟨%d1, %f1, -, H1⟩, HW, Hk⟩
  sl_exec (disch := first | sl_exact h1 | sl_exact h2 | sl_exact h4 | sl_exact h5)
  sl_step
  iapply Hk
  isplitl [HT1 HT2 HT3 HT4]
  · isplitl [HT1]; · iexact HT1
    isplitl [HT2]; · iexact HT2
    isplitl [HT3]; · iexact HT3
    iexact HT4
  isplitl [H1]
  · iexists _; isplitr; swap; · iexact H1
    ipureintro
    exact View.read_writes_full _ _ _ _ _
  iexists _; iexact HW

end Cert.Expert

end
-- ==== Proof.ExpertPlan.lean ====
module

public import proofs.«01_k».proof.Proof.ExpertRun
public import proofs.«01_k».proof.Proof.ExpertTables

@[expose] public section

set_option maxRecDepth 65536

noncomputable section

/-! # The experts: the body's branches, from the tables -/

namespace Cert.Expert

open Idealize.ShloMosaic Idealize.ShloMosaic.TcCoe Idealize.ShloMosaic.WordCmp
open Cert.Kernel7Ideal Cert.Kernel7Ideal.Gen Cert.ExpertTables

variable {F : FTy → Type} [FloatOps F]

theorem coord_eq : ∀ t : Fin grid0.N, ((grid0.coords t) 0).val = t.val := by decide +kernel
theorem off4_eq : ∀ t : Fin grid0.N, k0_off4 (grid0.coords t) 0 = t.val := by decide +kernel
theorem off5_eq : ∀ t : Fin grid0.N, k0_off5 (grid0.coords t) 0 = t.val := by decide +kernel
theorem point_lt (t : Fin grid0.N) : t.val < 160 := lt_of_lt_of_eq t.isLt N_0

/-! ## The words -/

section Words
variable (c : Dev nD) (t : Fin grid0.N)
theorem teW_eq (T : IVec S160 32) : teW (F := F) c T = word T 0 := by
  unfold teW word; rw [View.readAt_apply]
  exact congrArg T (funext fun a => by fin_cases a; exact Fin.ext rfl)
theorem firstW_eq (T : IVec S160 32) : firstW (F := F) c t T = word T t.val := by
  unfold firstW word; rw [View.readAt_apply]
  refine congrArg T (funext fun a => ?_)
  fin_cases a
  exact Fin.ext ((show _ = k0_off4 (grid0.coords t) 0 from rfl).trans ((off4_eq t).trans (Nat.mod_eq_of_lt (point_lt t)).symm))
theorem nextW_eq (T : IVec S160 32) : nextW (F := F) c t T = word T t.val := by
  unfold nextW word; rw [View.readAt_apply]
  refine congrArg T (funext fun a => ?_)
  fin_cases a
  exact Fin.ext ((show _ = k0_off5 (grid0.coords t) 0 from rfl).trans ((off5_eq t).trans (Nat.mod_eq_of_lt (point_lt t)).symm))
theorem usedW_eq (T : IVec S1 32) : usedW (F := F) c T = T (ValueIdx.ix1 0) := by
  unfold usedW; rw [View.readAt_apply]
  exact congrArg T (funext fun a => by fin_cases a; exact Fin.ext rfl)
end Words

/-! ## The branches -/

theorem branch (b : Bool) : (Scalar.cmpi .ne (Scalar.extui (BitVec.ofBool b) : BitVec 32) 0#32 : BitVec 1) = 1#1 ↔ b = true := by revert b; decide
theorem branch_not (b : Bool) : (Scalar.cmpi .ne (Scalar.extui (Scalar.xori (BitVec.ofBool b) 1#1) : BitVec 32) 0#32 : BitVec 1) = 1#1 ↔ ¬b = true := by revert b; decide
theorem branch_and (b b' : Bool) : (Scalar.cmpi .ne (Scalar.extui (Scalar.andi (BitVec.ofBool b) (BitVec.ofBool b')) : BitVec 32) 0#32 : BitVec 1) = 1#1 ↔ b = true ∧ b' = true := by revert b b'; decide

theorem cond1_iff (t : Fin grid0.N) : k0_cond1 (grid0.coords t) = 1#1 ↔ t.val = 0 := by
  revert t; decide +kernel
theorem slt_point (t : Fin grid0.N) (v : BitVec 32) : (BitVec.ofNat 32 ((grid0.coords t) 0).val).slt v = true ↔ (t.val : ℤ) < v.toInt := by
  rw [coord_eq]
  have ht : (BitVec.ofNat 32 t.val).toInt = (t.val : ℤ) := toInt_ofNat_of_lt (by have := point_lt t; simp; omega)
  rw [BitVec.slt_iff_toInt_lt, ht]
theorem cond2_iff (t : Fin grid0.N) (v f : BitVec 32) : k0_cond2 (grid0.coords t) v f = 1#1 ↔ (t.val : ℤ) < v.toInt ∧ f = 1#32 := by
  refine (branch_and ((BitVec.ofNat 32 ((grid0.coords t) 0).val).slt v) (f == 1#32)).trans ?_
  rw [slt_point, beq_iff_eq]
theorem cond3_iff (v : BitVec 32) : k0_cond3 v = 1#1 ↔ 0 ≤ v.toInt := by
  refine (branch ((0#32).sle v)).trans ?_
  rw [BitVec.sle_iff_toInt_le]; exact Iff.rfl
theorem cond4_iff (t : Fin grid0.N) (v : BitVec 32) : k0_cond4 (grid0.coords t) v = 1#1 ↔ (t.val : ℤ) < v.toInt :=
  (branch _).trans (slt_point t v)
theorem cond5_iff (t : Fin grid0.N) (v : BitVec 32) : k0_cond5 (grid0.coords t) v = 1#1 ↔ ¬(t.val : ℤ) < v.toInt :=
  (branch_not _).trans (not_congr (slt_point t v))

/-! ## The copies stay inside the weights -/

section Checks
variable (i : grid0.Coords) (w v f n : BitVec 32) (h : w.toNat < 32)
include h
theorem chk1_of : k0_chk1 i w := fun _ a => by unfold k0_off1; fin_cases a <;> simp <;> omega
theorem chk2_of : k0_chk2 i w := fun _ a => by unfold k0_off2; fin_cases a <;> simp <;> omega
theorem chk3_of : k0_chk3 i w := fun _ a => by unfold k0_off3; fin_cases a <;> simp <;> omega
theorem chk4_of : k0_chk4 i v f n w := fun _ _ a => by unfold k0_off7; fin_cases a <;> simp <;> omega
theorem chk5_of : k0_chk5 i v f n w := fun _ _ a => by unfold k0_off9; fin_cases a <;> simp <;> omega
theorem chk6_of : k0_chk6 i v f n w := fun _ _ a => by unfold k0_off11; fin_cases a <;> simp <;> omega
end Checks

end Cert.Expert

end
-- ==== Proof.ExpertFrame.lean ====
module

public import proofs.«01_k».proof.Proof.ExpertPlan

@[expose] public section

set_option maxRecDepth 65536

noncomputable section

/-! # The experts: the whole grid

Before a row tile the rounding buffers hold the expert of the tile before, and the weights of the expert that follows,
if one does, are on their way into the staging buffers.  A weight is read from its two halves in turn. -/

namespace Cert.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen Cert.ExpertTables

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers as launched. -/
abbrev V (c : Dev nD) (b : Ref sig .tc) : Buf (Elt F) ((c : Thread nD τ).loc b) := m ((c : Thread nD τ).loc b)

section Tables
variable (c : Dev nD)
abbrev teT : IVec S160 32 := V m c main_arg1
abbrev firstT : IVec S160 32 := V m c main_arg2
abbrev nextT : IVec S160 32 := V m c main_arg3
abbrev usedT : IVec S1 32 := V m c main_arg4
/-- The tables agree, on core `c`. -/
abbrev Agrees : Prop := Agree (teT m c) (firstT m c) (nextT m c) (usedT m c)
abbrev gW : Held (F := F) c gM := V m c main_arg5
abbrev uW : Held (F := F) c uM := V m c main_arg6
abbrev dW : Held (F := F) c dM := V m c main_arg7
abbrev tabs' : sProp 𝕄 := tabs (F := F) c (teT m c) (firstT m c) (nextT m c) (usedT m c)
/-- Row tile `j` is in use. -/
abbrev Used (j : ℕ) : Prop := (j : ℤ) < count (usedT m c)
/-- The weights at a share. -/
abbrev wts (q : PosShare TreeShare) : sProp 𝕄 := wholeP c (gW m c) (uW m c) (dW m c) q
/-- The rounding buffers hold expert `b`. -/
abbrev hold (b : BitVec 32) : sProp 𝕄 :=
  iprop(owns (c : Thread nD τ) rgM fullShare (rG (gW m c) b) ∗ owns (c : Thread nD τ) ruM fullShare (rU (uW m c) b) ∗ owns (c : Thread nD τ) rdM fullShare (rD (dW m c) b))
/-- The rounding buffers, whatever they hold. -/
abbrev anyHeld : sProp 𝕄 :=
  iprop((∃ d, owns (c : Thread nD τ) rgM fullShare d) ∗ (∃ d, owns (c : Thread nD τ) ruM fullShare d) ∗ (∃ d, owns (c : Thread nD τ) rdM fullShare d))
/-- What the rounding buffers hold after row tile `j`. -/
def kept (j : ℕ) : sProp 𝕄 := if Used m c j then hold m c (word (teT m c) j) else anyHeld (F := F) c
/-- The two halves, in either order. -/
def Pair (q q' : PosShare TreeShare) : Prop := (q = fullShare.left ∧ q' = fullShare.right) ∨ (q = fullShare.right ∧ q' = fullShare.left)
/-- What is under way after row tile `j`. -/
def ahead (j : ℕ) : sProp 𝕄 :=
  if 0 ≤ (word (nextT m c) j).toInt
  then iprop(∃ q q', ⌜Pair q q'⌝ ∗ inflight c (gW m c) (uW m c) (dW m c) q (word (nextT m c) j) ∗ wts m c q')
  else iprop(idleP (F := F) c ∗ wts m c fullShare.left ∗ wts m c fullShare.right)
/-- The state before row tile `k`. -/
def inv (k : ℕ) : sProp 𝕄 :=
  if k = 0 then iprop(tabs' m c ∗ anyHeld (F := F) c ∗ (∃ r, prngReg c r) ∗ idleP (F := F) c ∗ wts m c fullShare.left ∗ wts m c fullShare.right)
  else iprop(tabs' m c ∗ kept m c (k - 1) ∗ (∃ r, prngReg c r) ∗ ahead m c (k - 1))
/-- What row tile `j` leaves: its rows through its expert, or zeros. -/
def tile (x : FVec F S256x4096 .bf16) (j : ℕ) : FVec F S256x4096 .bf16 :=
  if Used m c j then out x (rG (gW m c) (word (teT m c) j)) (rU (uW m c) (word (teT m c) j)) (rD (dW m c) (word (teT m c) j)) else zeros

theorem kept_any (j : ℕ) : kept m c j ⊢ (anyHeld (F := F) c : sProp 𝕄) := by
  unfold kept
  split
  · iintro ⟨HG, HU, HD⟩
    isplitl [HG]; · iexists _; iexact HG
    isplitl [HU]; · iexists _; iexact HU
    iexists _; iexact HD
  · exact .rfl
theorem wts_pair (q q' : PosShare TreeShare) (h : Pair q q') : iprop(wts m c q ∗ wts m c q') ⊢ (iprop(wts m c fullShare.left ∗ wts m c fullShare.right) : sProp 𝕄) := by
  rcases h with ⟨rfl, rfl⟩ | ⟨rfl, rfl⟩
  · exact .rfl
  · iintro ⟨H, H'⟩; isplitl [H']; · iexact H'
    iexact H
theorem Pair.symm {q q' : PosShare TreeShare} (h : Pair q q') : Pair q' q := h.elim (fun h => Or.inr ⟨h.2, h.1⟩) fun h => Or.inl ⟨h.2, h.1⟩
theorem pair_lr : Pair fullShare.left fullShare.right := Or.inl ⟨rfl, rfl⟩
end Tables

/-! ## One point -/

set_option maxHeartbeats 4000000 in
/-- One row tile, from the state before it to the state after it. -/
theorem step (c : Dev nD) (hA : Agrees m c) (t : Fin grid0.N) (arg5 : Memref sig .tc .vmem S256x4096 .bf16) (harg5 : arg5.IsWhole) (arg9 : Memref sig .tc .vmem S256x4096 .bf16) (harg9 : arg9.IsWhole)
    (x : Vec F S256x4096 .bf16) (W : Waits sig Unit) (K : PUnit → sProp 𝕄) :
    iprop(inv m c t.val ∗ owns (c : Thread nD τ) arg5 fullShare x ∗ (∃ d, owns (c : Thread nD τ) arg9 fullShare d) ∗ owes (c : Thread nD τ) 0 W
        ∗ (iprop(inv m c (t.val + 1) ∗ owns (c : Thread nD τ) arg5 fullShare x ∗ owns (c : Thread nD τ) arg9 fullShare (tile m c x t.val) ∗ (∃ W', owes (c : Thread nD τ) 0 W')) -∗ K ⟨⟩))
      ⊢ wp frame (wpE (defs₀ (F := F)) Variants.none c none) Set.univ (body t arg5 harg5 arg9 harg9) K := by
  have ht := point_lt t
  have eU : usedW (F := F) c (usedT m c) = (usedT m c) (ValueIdx.ix1 0) := usedW_eq c _
  have eF : firstW (F := F) c t (firstT m c) = word (firstT m c) t.val := firstW_eq c t _
  have eN : nextW (F := F) c t (nextT m c) = word (nextT m c) t.val := nextW_eq c t _
  have eT : teW (F := F) c (teT m c) = word (teT m c) 0 := teW_eq c _
  have i2 : k0_cond2 (grid0.coords t) (usedW (F := F) c (usedT m c)) (firstW (F := F) c t (firstT m c)) = 1#1 ↔ Used m c t.val ∧ word (firstT m c) t.val = 1#32 := by
    rw [cond2_iff, eU, eF]; exact Iff.rfl
  have i3 : k0_cond3 (nextW (F := F) c t (nextT m c)) = 1#1 ↔ 0 ≤ (word (nextT m c) t.val).toInt := by rw [cond3_iff, eN]
  have i4 : k0_cond4 (grid0.coords t) (usedW (F := F) c (usedT m c)) = 1#1 ↔ Used m c t.val := by rw [cond4_iff, eU]; exact Iff.rfl
  have i5 : k0_cond5 (grid0.coords t) (usedW (F := F) c (usedT m c)) = 1#1 ↔ ¬Used m c t.val := by rw [cond5_iff, eU]; exact Iff.rfl
  have hn : 0 ≤ (word (nextT m c) t.val).toInt → (nextW (F := F) c t (nextT m c)).toNat < 32 := fun h => by rw [eN]; exact hA.next_lt _ h
  unfold inv
  rw [if_neg (show ¬t.val + 1 = 0 by omega), show t.val + 1 - 1 = t.val by omega]
  by_cases h0 : t.val = 0
  · have hu : Used m c t.val := by rw [h0]; exact hA.used_pos
    have hf : word (firstT m c) t.val = 1#32 := by rw [h0]; exact hA.first_zero
    have hw : (teW (F := F) c (teT m c)).toNat < 32 := by rw [eT]; exact hA.expert_lt _
    have eT' : teW (F := F) c (teT m c) = word (teT m c) t.val := by rw [eT, h0]
    rw [if_pos h0]
    unfold ahead kept tile
    rw [if_pos hu, if_pos hu]
    by_cases h3 : 0 ≤ (word (nextT m c) t.val).toInt
    · rw [if_pos h3]
      have run := runA1 (F := F) c t arg5 harg5 arg9 harg9 (teT m c) (firstT m c) (nextT m c) (usedT m c) x (gW m c) (uW m c) (dW m c) fullShare.left fullShare.right
        ((cond1_iff t).mpr h0) (i2.mpr ⟨hu, hf⟩) (i3.mpr h3) (i4.mpr hu) (fun h => i5.mp h hu) (chk1_of _ _ hw) (chk2_of _ _ hw) (chk3_of _ _ hw)
        (chk4_of _ _ _ _ _ (hn h3)) (chk5_of _ _ _ _ _ (hn h3)) (chk6_of _ _ _ _ _ (hn h3)) W K
      rw [eT', eN] at run
      iintro ⟨⟨HT, ⟨HG, HU, HD⟩, Hp, HI, HL, HR⟩, H0, H1, HW, Hk⟩
      iapply run
      isplitl [HT]; · iexact HT
      isplitl [H0]; · iexact H0
      isplitl [H1]; · iexact H1
      isplitl [HG]; · iexact HG
      isplitl [HU]; · iexact HU
      isplitl [HD]; · iexact HD
      isplitl [HI]; · iexact HI
      isplitl [HL]; · iexact HL
      isplitl [HR]; · iexact HR
      isplitl [HW]; · iexact HW
      iintro ⟨HT, H0, H1, HG, HU, HD, HF, HL, HW⟩
      iapply Hk
      isplitl [HT HG HU HD Hp HF HL]
      · isplitl [HT]; · iexact HT
        isplitl [HG HU HD]
        · isplitl [HG]; · iexact HG
          isplitl [HU]; · iexact HU
          iexact HD
        isplitl [Hp]; · iexact Hp
        iexists fullShare.right, fullShare.left
        isplitr; · ipureintro; exact pair_lr.symm
        isplitl [HF]; · iexact HF
        iexact HL
      isplitl [H0]; · iexact H0
      isplitl [H1]; · iexact H1
      iexact HW
    · rw [if_neg h3]
      have run := runA2 (F := F) c t arg5 harg5 arg9 harg9 (teT m c) (firstT m c) (nextT m c) (usedT m c) x (gW m c) (uW m c) (dW m c) fullShare.left fullShare.right
        ((cond1_iff t).mpr h0) (i2.mpr ⟨hu, hf⟩) (fun h => h3 (i3.mp h)) (i4.mpr hu) (fun h => i5.mp h hu) (chk1_of _ _ hw) (chk2_of _ _ hw) (chk3_of _ _ hw) W K
      rw [eT'] at run
      iintro ⟨⟨HT, ⟨HG, HU, HD⟩, Hp, HI, HL, HR⟩, H0, H1, HW, Hk⟩
      iapply run
      isplitl [HT]; · iexact HT
      isplitl [H0]; · iexact H0
      isplitl [H1]; · iexact H1
      isplitl [HG]; · iexact HG
      isplitl [HU]; · iexact HU
      isplitl [HD]; · iexact HD
      isplitl [HI]; · iexact HI
      isplitl [HL]; · iexact HL
      isplitl [HW]; · iexact HW
      iintro ⟨HT, H0, H1, HG, HU, HD, HI, HL, HW⟩
      iapply Hk
      isplitl [HT HG HU HD Hp HI HL HR]
      · isplitl [HT]; · iexact HT
        isplitl [HG HU HD]
        · isplitl [HG]; · iexact HG
          isplitl [HU]; · iexact HU
          iexact HD
        isplitl [Hp]; · iexact Hp
        isplitl [HI]; · iexact HI
        isplitl [HL]; · iexact HL
        iexact HR
      isplitl [H0]; · iexact H0
      isplitl [H1]; · iexact H1
      iexact HW
  · rw [if_neg h0]
    obtain ⟨j, hj⟩ : ∃ j, t.val = j + 1 := ⟨t.val - 1, by omega⟩
    have hj' : j < 159 := by omega
    have hfs := hA.first_step j hj'
    have hns := hA.next_step j hj'
    have c1 : ¬k0_cond1 (grid0.coords t) = 1#1 := fun h => h0 ((cond1_iff t).mp h)
    rw [show t.val - 1 = j by omega]
    by_cases hu : Used m c t.val
    · have hu' : Used m c j := by
        have : ((t.val : ℕ) : ℤ) < count (usedT m c) := hu
        show ((j : ℕ) : ℤ) < count (usedT m c)
        rw [hj] at this; push_cast at this; omega
      by_cases hf : word (firstT m c) t.val = 1#32
      · have hnj : word (nextT m c) j = word (teT m c) t.val := by rw [hns, ← hj, if_pos hf]
        have hpos : 0 ≤ (word (teT m c) t.val).toInt := by
          have := hA.expert_lt t.val
          rw [BitVec.toInt_eq_toNat_cond]; split <;> omega
        have e1 : ahead m c j = (iprop(∃ q q', ⌜Pair q q'⌝ ∗ inflight c (gW m c) (uW m c) (dW m c) q (word (teT m c) t.val) ∗ wts m c q') : sProp 𝕄) := by
          unfold ahead; rw [hnj, if_pos hpos]
        rw [e1]
        have e2 : kept m c t.val = (hold m c (word (teT m c) t.val) : sProp 𝕄) := by unfold kept; rw [if_pos hu]
        have e3 : tile m c x t.val = out x (rG (gW m c) (word (teT m c) t.val)) (rU (uW m c) (word (teT m c) t.val)) (rD (dW m c) (word (teT m c) t.val)) := by unfold tile; rw [if_pos hu]
        rw [e2, e3]
        unfold ahead
        by_cases h3 : 0 ≤ (word (nextT m c) t.val).toInt
        · rw [if_pos h3]
          iintro ⟨⟨HT, Hb, Hp, ⟨%q, %q', %hq, HF, HQ⟩⟩, H0, H1, HW, Hk⟩
          ihave Hb' := (kept_any m c j) $$ Hb
          icases Hb' with ⟨HG, HU, HD⟩
          have run := runB1 (F := F) c t arg5 harg5 arg9 harg9 (teT m c) (firstT m c) (nextT m c) (usedT m c) x (gW m c) (uW m c) (dW m c) q q' (word (teT m c) t.val)
            c1 (i2.mpr ⟨hu, hf⟩) (i3.mpr h3) (i4.mpr hu) (fun h => i5.mp h hu) (chk4_of _ _ _ _ _ (hn h3)) (chk5_of _ _ _ _ _ (hn h3)) (chk6_of _ _ _ _ _ (hn h3)) W K
          rw [eN] at run
          iapply run
          isplitl [HT]; · iexact HT
          isplitl [H0]; · iexact H0
          isplitl [H1]; · iexact H1
          isplitl [HG]; · iexact HG
          isplitl [HU]; · iexact HU
          isplitl [HD]; · iexact HD
          isplitl [HF]; · iexact HF
          isplitl [HQ]; · iexact HQ
          isplitl [HW]; · iexact HW
          iintro ⟨HT, H0, H1, HG, HU, HD, HF, HQ, HW⟩
          iapply Hk
          isplitl [HT HG HU HD Hp HF HQ]
          · isplitl [HT]; · iexact HT
            isplitl [HG HU HD]
            · isplitl [HG]; · iexact HG
              isplitl [HU]; · iexact HU
              iexact HD
            isplitl [Hp]; · iexact Hp
            iexists q', q
            isplitr; · ipureintro; exact hq.symm
            isplitl [HF]; · iexact HF
            iexact HQ
          isplitl [H0]; · iexact H0
          isplitl [H1]; · iexact H1
          iexact HW
        · rw [if_neg h3]
          iintro ⟨⟨HT, Hb, Hp, ⟨%q, %q', %hq, HF, HQ⟩⟩, H0, H1, HW, Hk⟩
          ihave Hb' := (kept_any m c j) $$ Hb
          icases Hb' with ⟨HG, HU, HD⟩
          have run := runB2 (F := F) c t arg5 harg5 arg9 harg9 (teT m c) (firstT m c) (nextT m c) (usedT m c) x (gW m c) (uW m c) (dW m c) q q' (word (teT m c) t.val)
            c1 (i2.mpr ⟨hu, hf⟩) (fun h => h3 (i3.mp h)) (i4.mpr hu) (fun h => i5.mp h hu) W K
          iapply run
          isplitl [HT]; · iexact HT
          isplitl [H0]; · iexact H0
          isplitl [H1]; · iexact H1
          isplitl [HG]; · iexact HG
          isplitl [HU]; · iexact HU
          isplitl [HD]; · iexact HD
          isplitl [HF]; · iexact HF
          isplitl [HW]; · iexact HW
          iintro ⟨HT, H0, H1, HG, HU, HD, HI, HL, HW⟩
          iapply Hk
          isplitl [HT HG HU HD Hp HI HL HQ]
          · isplitl [HT]; · iexact HT
            isplitl [HG HU HD]
            · isplitl [HG]; · iexact HG
              isplitl [HU]; · iexact HU
              iexact HD
            isplitl [Hp]; · iexact Hp
            isplitl [HI]; · iexact HI
            iapply (wts_pair m c q q' hq)
            isplitl [HL]; · iexact HL
            iexact HQ
          isplitl [H0]; · iexact H0
          isplitl [H1]; · iexact H1
          iexact HW
      · have hte : word (teT m c) j = word (teT m c) t.val := by
          by_contra hne
          refine hf ?_
          rw [hj, hfs, if_pos ⟨by have : ((t.val : ℕ) : ℤ) < count (usedT m c) := hu; rw [hj] at this; push_cast at this; exact this, by rw [← hj]; exact hne⟩]
        have hnj : word (nextT m c) j = word (nextT m c) t.val := by rw [hns, ← hj, if_neg hf]
        have e1 : ahead m c j = (ahead m c t.val : sProp 𝕄) := by unfold ahead; rw [hnj]
        have e0 : kept m c j = (hold m c (word (teT m c) t.val) : sProp 𝕄) := by unfold kept; rw [if_pos hu', hte]
        have e2 : kept m c t.val = (hold m c (word (teT m c) t.val) : sProp 𝕄) := by unfold kept; rw [if_pos hu]
        have e3 : tile m c x t.val = out x (rG (gW m c) (word (teT m c) t.val)) (rU (uW m c) (word (teT m c) t.val)) (rD (dW m c) (word (teT m c) t.val)) := by unfold tile; rw [if_pos hu]
        rw [e1, e0, e2, e3]
        have run := runC (F := F) c t arg5 harg5 arg9 harg9 (teT m c) (firstT m c) (nextT m c) (usedT m c) x (rG (gW m c) (word (teT m c) t.val)) (rU (uW m c) (word (teT m c) t.val)) (rD (dW m c) (word (teT m c) t.val))
            c1 (fun h => hf (i2.mp h).2) (i4.mpr hu) (fun h => i5.mp h hu) W K
        iintro ⟨⟨HT, ⟨HG, HU, HD⟩, Hp, Ha⟩, H0, H1, HW, Hk⟩
        iapply run
        isplitl [HT]; · iexact HT
        isplitl [H0]; · iexact H0
        isplitl [H1]; · iexact H1
        isplitl [HG]; · iexact HG
        isplitl [HU]; · iexact HU
        isplitl [HD]; · iexact HD
        isplitl [HW]; · iexact HW
        iintro ⟨HT, H0, H1, HG, HU, HD, HW⟩
        iapply Hk
        isplitl [HT HG HU HD Hp Ha]
        · isplitl [HT]; · iexact HT
          isplitl [HG HU HD]
          · isplitl [HG]; · iexact HG
            isplitl [HU]; · iexact HU
            iexact HD
          isplitl [Hp]; · iexact Hp
          iexact Ha
        isplitl [H0]; · iexact H0
        isplitl [H1]; · iexact H1
        iexact HW
    · have hf : ¬word (firstT m c) t.val = 1#32 := by
        rw [hj, hfs, if_neg (fun h => hu (by show ((t.val : ℕ) : ℤ) < count (usedT m c); rw [hj]; push_cast; exact h.1))]; decide
      have hnj : word (nextT m c) j = word (nextT m c) t.val := by rw [hns, ← hj, if_neg hf]
      have e1 : ahead m c j = (ahead m c t.val : sProp 𝕄) := by unfold ahead; rw [hnj]
      have e2 : kept m c t.val = (anyHeld (F := F) c : sProp 𝕄) := by unfold kept; rw [if_neg hu]
      have e3 : tile m c x t.val = zeros := by unfold tile; rw [if_neg hu]
      rw [e1, e2, e3]
      have run := runD (F := F) c t arg5 harg5 arg9 harg9 (teT m c) (firstT m c) (nextT m c) (usedT m c)
          c1 (fun h => hu (i2.mp h).1) (fun h => hu (i4.mp h)) (i5.mpr hu) W K
      iintro ⟨⟨HT, Hb, Hp, Ha⟩, H0, H1, HW, Hk⟩
      ihave Hb' := (kept_any m c j) $$ Hb
      iapply run
      isplitl [HT]; · iexact HT
      isplitl [H1]; · iexact H1
      isplitl [HW]; · iexact HW
      iintro ⟨HT, H1, HW⟩
      iapply Hk
      isplitl [HT Hb' Hp Ha]
      · isplitl [HT]; · iexact HT
        isplitl [Hb']; · iexact Hb'
        isplitl [Hp]; · iexact Hp
        iexact Ha
      isplitl [H0]; · iexact H0
      isplitl [H1]; · iexact H1
      iexact HW

end Cert.Expert

end
-- ==== Proof.ExpertLaunch.lean ====
module

public import proofs.«01_k».proof.Proof.ExpertFrame

@[expose] public section

set_option maxRecDepth 65536

noncomputable section

/-! # The experts: the launch -/

namespace Cert.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen Cert.ExpertTables

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tables, as the call finds them. -/
def tables : (p : Fin 1) → (pcfgs (F := F) p).Adm := fun _ => ⟨fun k => m (((0 : Dev nD) : Thread nD τ).loc (pre0.ref k)), trivial⟩
/-- The call with its tables read. -/
abbrev cf : Pipeline.Cfg sig Λ₀ := cfg0 (tables m 0)

theorem main_entry (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_region (pcfgs (F := F)) 0 defs₀ 𝒱₀ m main fun c => (main_chain c).trans rfl

/-- Row tile `t` of the rows. -/
def rowsAt (c : Dev nD) (t : Fin grid0.N) : Vec F S256x4096 .bf16 := (((cf m).win 0).blk t).view.read (Elt F) (V m c main_arg0)

/-- The proof data: the arrays as found; each point leaves its row tile through its expert. -/
def dats (_ : Fin 1) (c : Dev nD) : Dat τ (Elt F) Unit ℕ (Pipeline.UD sig nD τ) ℕ (cf m) c where
  A w := V m c (Pipeline.arrRef spec0 w)
  after w t := match w with
    | ⟨0, _⟩ => rowsAt m c t
    | ⟨1, _⟩ => tile m c (rowsAt m c t) t.val
  Φ t := inv m c t.val
  q _ := fullShare
  owed _ := 0

theorem A_eq (c : Dev nD) (w : Fin 2) : (dats m 0 c).A w = V m c (Pipeline.arrRef spec0 w) := by
  dsimp only [dats]
theorem inv_castSucc (c : Dev nD) (t : Fin (cf m).N) : (dats m 0 c).Φ t.castSucc = inv m c t.val := by
  dsimp only [dats]; simp only [Fin.coe_castSucc]
theorem inv_succ (c : Dev nD) (t : Fin (cf m).N) : (dats m 0 c).Φ t.succ = inv m c (t.val + 1) := by
  dsimp only [dats]; simp only [Fin.val_succ]
theorem after_x (c : Dev nD) (t : Fin (cf m).N) : (dats m 0 c).after 0 t = rowsAt m c t := by dsimp only [dats]; rfl
theorem after_o (c : Dev nD) (t : Fin (cf m).N) : (dats m 0 c).after 1 t = tile m c (rowsAt m c t) t.val := by dsimp only [dats]; rfl
theorem before_x (c : Dev nD) (t : Fin (cf m).N) (d) : (dats m 0 c).before 0 t d = rowsAt m c t :=
  ((dats m 0 c).before_in_eq_fetched 0 rfl (fun _ => rfl) (fun _ _ _ => rfl) (fun t => by rw [after_x]; unfold Dat.blockOf rowsAt; rw [A_eq]; try rfl) t d).trans
    (by unfold Dat.fetched Dat.blockOf rowsAt; rw [A_eq]; try rfl)

/-! ## One point -/

abbrev xStage (t : Fin (cf m).N) : Memref sig .tc .vmem S256x4096 .bf16 := spec0_0.stage ((cf m).slots t 0)
abbrev oStage (t : Fin (cf m).N) : Memref sig .tc .vmem S256x4096 .bf16 := spec0_1.stage ((cf m).slots t 1)
abbrev bodyAt (t : Fin (cf m).N) : Prog (TpuEff nD τ sig (Elt F) Λ₀ .tc) PUnit :=
  body t (xStage m t) (hstage0_0 (((cf m).slots t 0).cast nbuf0_0)) (oStage m t) (hstage0_1 (((cf m).slots t 1).cast nbuf0_1))

def pre (c : Dev nD) (t : Fin (cf m).N) : sProp 𝕄 :=
  iprop((dats m 0 c).Φ t.castSucc ∗ (dats m 0 c).owesAt () t.castSucc
    ∗ (∃ d, owns (c : Thread nD τ) (xStage m t) fullShare ((dats m 0 c).before 0 t d))
    ∗ (∃ d, owns (c : Thread nD τ) (oStage m t) fullShare ((dats m 0 c).before 1 t d)))
def post (c : Dev nD) (t : Fin (cf m).N) : sProp 𝕄 :=
  iprop((dats m 0 c).Φ t.succ ∗ (dats m 0 c).owesAt () t.succ
    ∗ owns (c : Thread nD τ) (xStage m t) fullShare ((dats m 0 c).after 0 t)
    ∗ owns (c : Thread nD τ) (oStage m t) fullShare ((dats m 0 c).after 1 t))

set_option maxHeartbeats 2000000 in
theorem point (c : Dev nD) (hA : Agrees m c) (t : Fin (cf m).N) :
    pre m c t ⊢ wp frame (wpE (defs₀ (F := F)) Variants.none c none) Set.univ (bodyAt m t) (fun _ => post m c t) := by
  unfold pre post
  simp only [before_x]
  rw [after_x, after_o]
  rw [inv_castSucc m c t, inv_succ m c t]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩⟩
  iapply (step m c hA t (xStage m t) (hstage0_0 (((cf m).slots t 0).cast nbuf0_0)) (oStage m t) (hstage0_1 (((cf m).slots t 1).cast nbuf0_1)) (rowsAt m c t) W _)
  isplitl [HI]; · iexact HI
  isplitl [H0]; · iexact H0
  isplitl [H1]; · iexists _; iexact H1
  isplitl [HW]; · iexact HW
  iintro ⟨HI, H0, H1, ⟨%W', HW'⟩⟩
  isplitl [HI]; · iexact HI
  isplitl [HW']
  · iexists W'; isplitr; · ipureintro; exact fun _ _ => Or.inl trivial
    iexact HW'
  isplitl [H0]; · iexact H0
  iexact H1

theorem row_eq (t : Fin (cf m).N) :
    defs₀ (F := F) .tc (cf m).body ((cf m).bodyArgs t ((cf m).slots t)) = bodyAt m t := by
  unfold defs₀; rw [Defs.onTc_tc]

/-- The result's window is written at every point. -/
theorem busy (pf : pre0.Contents (Elt F)) (t : Fin grid0.N) : idle0 pf 1 (grid0.coords t) = false := by
  show (!(k0_cond4 (grid0.coords t) (pf.atD 3 ![0]) == 1#1) && !(k0_cond5 (grid0.coords t) (pf.atD 3 ![0]) == 1#1)) = false
  by_cases h : (t.val : ℤ) < (pf.atD 3 ![0] : BitVec 32).toInt
  · rw [(cond4_iff t _).mpr h]; rfl
  · rw [(cond5_iff t _).mpr h, Bool.and_comm]; rfl

theorem obligation (c : Dev nD) (hA : Agrees m c) : BodyObligation (dats (F := F) m 0 c) (defs₀ (F := F)) Variants.none () Set.univ := fun t => by
  rw [bigSep_W0, bigSep_W0, row_eq]
  have hb : idle0 (tables (F := F) m 0).1 1 ((pcfg0.gridAt (tables (F := F) m 0).1).coords t) = false := busy _ t
  refine triple_restated (point m c hA t) rfl .rfl fun _ => ?_
  unfold post
  dsimp only
  split
  · next h => exact absurd (h.symm.trans hb) (by decide)
  · exact .rfl

/-! ## The launch -/

abbrev ownCells : Fin 3 → SemLoc sig := fun j => (![SemLoc.dma 4, SemLoc.dma 5, SemLoc.dma 6] : Fin 3 → SemLoc sig) j
theorem ownCells_facts : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 4) 0 ∗ semVal ((c : Thread nD τ), SemLoc.dma 5) 0 ∗ semVal ((c : Thread nD τ), SemLoc.dma 6) 0) := by
  rw [Pipeline.ownSems0_eq_of_list c ownCells [0, 1, 2] (by decide) (by decide)]; rfl
theorem cell_eq (c : Dev nD) {l l' : SemLoc sig} (h : l = l') : cellP (F := F) c l = semVal ((c : Thread nD τ), l') 0 :=
  congrArg (fun x => (semVal ((c : Thread nD τ), x) 0 : sProp 𝕄)) h

theorem idle_eq (c : Dev nD) : (idleP c : sProp 𝕄) = iprop(((∃ f, slotP (F := F) c sgM f) ∗ semVal ((c : Thread nD τ), SemLoc.dma 4) 0) ∗ ((∃ f, slotP (F := F) c suM f) ∗ semVal ((c : Thread nD τ), SemLoc.dma 5) 0)
    ∗ ((∃ f, slotP (F := F) c sdM f) ∗ semVal ((c : Thread nD τ), SemLoc.dma 6) 0)) := by
  unfold idleP; rw [cell_eq c cellG_eq, cell_eq c cellU_eq, cell_eq c cellD_eq]

def moved : Finset (Ref sig .tc) := {main_arg5, main_arg6, main_arg7}
theorem moved_sub : moved ⊆ Pipeline.restRefsP sig pre0 spec0 := by decide
theorem moved_eq (c : Dev nD) :
    (bigSep moved (fun b => ((c : Thread nD τ).loc b) ↦{fullShare} V m c b) : sProp 𝕄)
      = wts m c fullShare := by
  rw [BI.bigSep_eq_bigSepL_of_eq [main_arg5, main_arg6, main_arg7] (by decide) (by decide)]; rfl
theorem launch_eq (c : Dev nD) :
    (Pipeline.ΦD ownCells spec0 moved (V m) c : sProp 𝕄)
      = iprop(iprop((∃ d, owns (c : Thread nD τ) sgM fullShare d) ∗ (∃ d, owns (c : Thread nD τ) suM fullShare d) ∗ (∃ d, owns (c : Thread nD τ) sdM fullShare d)
          ∗ (∃ d, owns (c : Thread nD τ) rgM fullShare d) ∗ (∃ d, owns (c : Thread nD τ) ruM fullShare d) ∗ (∃ d, owns (c : Thread nD τ) rdM fullShare d)) ∗ (∃ r, prngReg c r)
          ∗ iprop(semVal ((c : Thread nD τ), SemLoc.dma 4) 0 ∗ semVal ((c : Thread nD τ), SemLoc.dma 5) 0 ∗ semVal ((c : Thread nD τ), SemLoc.dma 6) 0) ∗ wts m c fullShare) := by
  rw [Pipeline.ΦD_eq, scopedRest0_eq, ownCells_eq, moved_eq]; simp only [sgM, suM, sdM, rgM, ruM, rdM, owns_whole]; try rfl
theorem tabs_eq (c : Dev nD) :
    (Pipeline.ΦT (U := Pipeline.UD sig nD τ) pre0 (tables m 0).1 c : sProp 𝕄) = tabs' m c := by
  unfold Pipeline.ΦT Pipeline.prefHeld
  rw [bigSep_univ_eq_bigSepL [(0 : Fin 4), 1, 2, 3] (by decide) (by decide)]
  obtain rfl : c = 0 := Subsingleton.elim _ _
  rfl

theorem wts_split (c : Dev nD) : (wts m c fullShare : sProp 𝕄) ⊣⊢ iprop(wts m c fullShare.left ∗ wts m c fullShare.right) := by
  have eg : (wholeG (F := F) c (gW m c) fullShare : sProp 𝕄) ⊣⊢ iprop(wholeG c (gW m c) fullShare.left ∗ wholeG c (gW m c) fullShare.right) := pointsTo_share (PosShare.mem_left_op_right fullShare)
  have eu : (wholeU (F := F) c (uW m c) fullShare : sProp 𝕄) ⊣⊢ iprop(wholeU c (uW m c) fullShare.left ∗ wholeU c (uW m c) fullShare.right) := pointsTo_share (PosShare.mem_left_op_right fullShare)
  have ed : (wholeD (F := F) c (dW m c) fullShare : sProp 𝕄) ⊣⊢ iprop(wholeD c (dW m c) fullShare.left ∗ wholeD c (dW m c) fullShare.right) := pointsTo_share (PosShare.mem_left_op_right fullShare)
  constructor
  · iintro ⟨HG, HU, HD⟩
    ihave HG := eg.1 $$ HG
    icases HG with ⟨HG, HG'⟩
    ihave HU := eu.1 $$ HU
    icases HU with ⟨HU, HU'⟩
    ihave HD := ed.1 $$ HD
    icases HD with ⟨HD, HD'⟩
    isplitl [HG HU HD]
    · isplitl [HG]; · iexact HG
      isplitl [HU]; · iexact HU
      iexact HD
    isplitl [HG']; · iexact HG'
    isplitl [HU']; · iexact HU'
    iexact HD'
  · iintro ⟨⟨HG, HU, HD⟩, ⟨HG', HU', HD'⟩⟩
    isplitl [HG HG']
    · iapply eg.2; isplitl [HG]; · iexact HG
      iexact HG'
    isplitl [HU HU']
    · iapply eu.2; isplitl [HU]; · iexact HU
      iexact HU'
    iapply ed.2; isplitl [HD]; · iexact HD
    iexact HD'

/-- Scratch at some contents, as a copy's target. -/
theorem scratch_iff (c : Dev nD) {S : Shape} (M : Memref sig .tc .vmem S .f32) :
    (iprop(∃ d, owns (c : Thread nD τ) M fullShare d) : sProp 𝕄) ⊣⊢ iprop(∃ f, slotP (F := F) c M f) := by
  constructor
  · unfold owns; iintro ⟨%d, %f, -, H⟩; iexists f; iexact H
  · unfold owns; iintro ⟨%f, H⟩; iexists _, f; isplitr; swap; · iexact H
    ipureintro; rfl

theorem enter (c : Dev nD) : iprop(Pipeline.ΦD ownCells spec0 moved (V m) c ∗ Pipeline.ΦT (U := Pipeline.UD sig nD τ) pre0 (tables m 0).1 c) ⊢ (dats m 0 c).Φ 0 := by
  rw [launch_eq, tabs_eq, show (dats m 0 c).Φ 0 = inv m c 0 from rfl]
  unfold inv; rw [if_pos rfl]; rw [idle_eq]
  iintro ⟨⟨⟨HSG, HSU, HSD, HG, HU, HD⟩, Hp, ⟨H4, H5, H6⟩, Hw⟩, HT⟩
  isplitl [HT]; · iexact HT
  isplitl [HG HU HD]
  · isplitl [HG]; · iexact HG
    isplitl [HU]; · iexact HU
    iexact HD
  isplitl [Hp]; · iexact Hp
  isplitl [HSG HSU HSD H4 H5 H6]
  · isplitl [HSG H4]
    · isplitl [HSG]; · iapply (scratch_iff (F := F) c sgM).1; iexact HSG
      iexact H4
    isplitl [HSU H5]
    · isplitl [HSU]; · iapply (scratch_iff (F := F) c suM).1; iexact HSU
      iexact H5
    isplitl [HSD]; · iapply (scratch_iff (F := F) c sdM).1; iexact HSD
    iexact H6
  iapply (wts_split m c).1; iexact Hw

theorem leave (c : Dev nD) (hA : Agrees m c) : (dats m 0 c).Φ (Fin.last (cf m).N) ⊢ Pipeline.ΦD ownCells spec0 moved (V m) c := by
  rw [launch_eq, show (dats m 0 c).Φ (Fin.last (cf m).N) = inv m c grid0.N from rfl]
  unfold inv; rw [N_0, if_neg (by decide)]
  unfold ahead; rw [if_neg (not_le.mpr hA.next_last), idle_eq]
  iintro ⟨-, Hb, Hp, ⟨⟨HSG, H4⟩, ⟨HSU, H5⟩, ⟨HSD, H6⟩⟩, Hw⟩
  ihave Hb' := (kept_any m c 159) $$ Hb
  icases Hb' with ⟨HG, HU, HD⟩
  isplitl [HSG HSU HSD HG HU HD]
  · isplitl [HSG]; · iapply (scratch_iff (F := F) c sgM).2; iexact HSG
    isplitl [HSU]; · iapply (scratch_iff (F := F) c suM).2; iexact HSU
    isplitl [HSD]; · iapply (scratch_iff (F := F) c sdM).2; iexact HSD
    isplitl [HG]; · iexact HG
    isplitl [HU]; · iexact HU
    iexact HD
  isplitl [Hp]; · iexact Hp
  isplitl [H4 H5 H6]
  · isplitl [H4]; · iexact H4
    isplitl [H5]; · iexact H5
    iexact H6
  iapply (wts_split m c).2; iexact Hw

set_option backward.isDefEq.respectTransparency.types false in
/-- The call ends, with every counter back at zero. -/
theorem run_quiet (hA : ∀ c, Agrees m c) : θ_run defs (onTc (τ := τ) (main (F := F))) (s₀ m ρ) (fun r => (Pipeline.FramePost (Pipeline.pin (pcfgs (F := F)) (tables m)) (dats m) 0 (V m)) r ∧ r.2.sem = fun _ => 0) :=
  Pipeline.θ_run_frameP_dma (Q' := _) (pcfgs (F := F)) (tables m) (dats m) (0 : Fin 1) launch0 ownCells defs₀ Variants.none ownCells_facts moved moved_sub m ρ main
    (hbody := fun c => (obligation m c (hA c)).loose) (hshare := fun c => (dats m 0 c).share_full fun _ => rfl)
    (howed := fun _ _ => rfl) (V := V m) (hmain := main_entry m Variants.none) (hA := A_eq m)
    (hpf := fun c k => by obtain rfl : c = 0 := Subsingleton.elim _ _; rfl)
    (hin := enter m) (hout := fun c => leave m c (hA c))

theorem rest_main_arg1 : main_arg1 ∈ Pipeline.restRefs sig spec0 := Pipeline.mem_restRefs_of main_arg1 (by decide) (by decide)
theorem rest_main_arg2 : main_arg2 ∈ Pipeline.restRefs sig spec0 := Pipeline.mem_restRefs_of main_arg2 (by decide) (by decide)
theorem rest_main_arg3 : main_arg3 ∈ Pipeline.restRefs sig spec0 := Pipeline.mem_restRefs_of main_arg3 (by decide) (by decide)
theorem rest_main_arg4 : main_arg4 ∈ Pipeline.restRefs sig spec0 := Pipeline.mem_restRefs_of main_arg4 (by decide) (by decide)
theorem rest_main_arg5 : main_arg5 ∈ Pipeline.restRefs sig spec0 := Pipeline.mem_restRefs_of main_arg5 (by decide) (by decide)
theorem rest_main_arg6 : main_arg6 ∈ Pipeline.restRefs sig spec0 := Pipeline.mem_restRefs_of main_arg6 (by decide) (by decide)
theorem rest_main_arg7 : main_arg7 ∈ Pipeline.restRefs sig spec0 := Pipeline.mem_restRefs_of main_arg7 (by decide) (by decide)

/-- The arguments end as they began, and the counters at zero. -/
theorem args_kept (hA : ∀ c, Agrees m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).1 0).trans (((dats m 0 c).arrAt_in 0 rfl _).trans (A_eq m c 0)),
      (h.1 c).2 main_arg1 (rest_main_arg1),
      (h.1 c).2 main_arg2 (rest_main_arg2),
      (h.1 c).2 main_arg3 (rest_main_arg3),
      (h.1 c).2 main_arg4 (rest_main_arg4),
      (h.1 c).2 main_arg5 (rest_main_arg5),
      (h.1 c).2 main_arg6 (rest_main_arg6),
      (h.1 c).2 main_arg7 (rest_main_arg7)⟩, h.2⟩) (run_quiet m ρ hA)

end Cert.Expert

end
-- ==== Proof.ExpertValue.lean ====
/- The experts: what a grid point writes, and the whole result array. -/
module

public import proofs.«01_k».proof.Proof.ExpertSpec
public import proofs.«01_k».proof.Proof.ExpertLaunch

@[expose] public section

set_option maxRecDepth 65536

noncomputable section

namespace Cert.ExpertValue

open Cert.Kernel7Ideal Cert.Kernel7Ideal.Gen Idealize.ShloMosaic Idealize.ShloMosaic.TcCoe Idealize.SL.Sem
open Cert.Expert Cert.ExpertSpec Cert.ExpertTables Cert.Products

variable (m : (ℓ : Loc nD τ sig) → Buf (Elt Ideal) ℓ) (ρ : Dev nD → PrngReg) (c : Dev nD)

abbrev X : Rows := m ((c : Thread nD τ).loc main_arg0)
abbrev G : Wide := m ((c : Thread nD τ).loc main_arg5)
abbrev U : Wide := m ((c : Thread nD τ).loc main_arg6)
abbrev D : Down := m ((c : Thread nD τ).loc main_arg7)

theorem moves_in : ∀ t : Fin grid0.N, cc0_transform_0 (grid0.coords t) 0 = t.val ∧ cc0_transform_0 (grid0.coords t) 1 = 0 := by decide +kernel
theorem moves_out : ∀ t : Fin grid0.N, cc0_transform_4 (grid0.coords t) 0 = t.val ∧ cc0_transform_4 (grid0.coords t) 1 = 0 := by decide +kernel
theorem index0 (t : Fin grid0.N) : ((cf m).win 0).index t (0 : Fin 2) = t.val ∧ ((cf m).win 0).index t (1 : Fin 2) = 0 := moves_in t
theorem index1 (t : Fin grid0.N) : ((cf m).win 1).index t (0 : Fin 2) = t.val ∧ ((cf m).win 1).index t (1 : Fin 2) = 0 := moves_out t

theorem writes_back (t : Fin grid0.N) : ((cf m).win 1).flush t = true := by
  show (true && (decide (t.val + 1 = grid0.N) || decide (∃ h : t.val + 1 < grid0.N, ((cf m).win 1).index ⟨t.val + 1, h⟩ ≠ ((cf m).win 1).index t))) = true
  rw [Bool.true_and, Bool.or_eq_true, decide_eq_true_iff, decide_eq_true_iff]
  by_cases h : t.val + 1 = grid0.N
  · exact Or.inl h
  · have lt : t.val < grid0.N := t.isLt
    have lt' : t.val + 1 < grid0.N := by omega
    refine Or.inr ⟨lt', fun e => ?_⟩
    have e0 := congrFun e (0 : Fin 2)
    have a : ((cf m).win 1).index ⟨t.val + 1, lt'⟩ (0 : Fin 2) = t.val + 1 := (index1 m ⟨t.val + 1, lt'⟩).1
    have b : ((cf m).win 1).index t (0 : Fin 2) = t.val := (index1 m t).1
    exact absurd (a.symm.trans (e0.trans b)) (by omega)

/-- The tile a grid point works on. -/
def at_ (t : Fin grid0.N) : Fin 160 := ⟨t.val, point_lt t⟩

theorem rows_read (t : Fin grid0.N) (r : Fin 256) (k : Fin 4096) : rowsAt m c t (ix2 r k) = X m c (ix2 (rowOf (at_ t) r) k) := by
  obtain ⟨e0, e1⟩ := index0 m t
  show V m c main_arg0 ((((cf m).win 0).blk t).view.emb (ix2 r k : S256x4096.Idx)) = _
  refine congrArg (X m c) (funext fun a => Fin.ext ?_)
  match a with
  | ⟨0, _⟩ => show ((cf m).win 0).index t (0 : Fin 2) * 256 + 1 * r.val = 256 * t.val + r.val; omega
  | ⟨1, _⟩ => show ((cf m).win 0).index t (1 : Fin 2) * 4096 + 1 * k.val = k.val; omega

/-! ## An expert's weights, entry by entry -/

theorem drop_units {α : Type} {A B : Nat} (x : (⟨4, ![1, 1, A, B]⟩ : Shape).Idx → α) (h : (⟨4, ![1, 1, A, B]⟩ : Shape).ShapeCasts ⟨2, ![A, B]⟩) (a : Fin A) (b : Fin B) :
    shapeCast ⟨2, ![A, B]⟩ x h (ix2 a b) = x (ValueIdx.ix4 0 0 a b) :=
  shapeCast_apply x h _ _ (by
    rw [Shape.rowMajor_val_two, Shape.rowMajor_val_four]
    show ((0 * 1 + 0) * A + a.val) * B + b.val = a.val * B + b.val
    simp)

theorem rG_at (b : BitVec 32) (k : Fin 4096) (f : Fin 512) : rG (F := Ideal) (c := c) (gW m c) b (ix2 k f) = G m c (ValueIdx.ix4 0 (pick b) k f) := by
  let M : Memref sig .tc .hbm S1x1x4096x512 .f32 := gM.slice (Rect.unit (s := S2x32x4096x512) ![0, min b.toNat 31, 0, 0] S1x1x4096x512.size (srcG_inb b)) (fun _ => rfl)
  show shapeCast S4096x512 (M.view.read (Elt Ideal) (G m c)) squeezes_S1x1x4096x512_S4096x512.numel_eq (ix2 k f) = _
  refine (drop_units (A := 4096) (B := 512) _ _ k f).trans ?_
  rw [View.read_apply]
  refine congrArg (G m c) (funext fun a => Fin.ext ?_)
  match a with
  | ⟨0, _⟩ => rfl
  | ⟨1, _⟩ => rfl
  | ⟨2, _⟩ => show 0 + 1 * k.val = k.val; omega
  | ⟨3, _⟩ => show 0 + 1 * f.val = f.val; omega

theorem rU_at (b : BitVec 32) (k : Fin 4096) (f : Fin 512) : rU (F := Ideal) (c := c) (uW m c) b (ix2 k f) = U m c (ValueIdx.ix4 0 (pick b) k f) := by
  let M : Memref sig .tc .hbm S1x1x4096x512 .f32 := uM.slice (Rect.unit (s := S2x32x4096x512) ![0, min b.toNat 31, 0, 0] S1x1x4096x512.size (srcG_inb b)) (fun _ => rfl)
  show shapeCast S4096x512 (M.view.read (Elt Ideal) (U m c)) squeezes_S1x1x4096x512_S4096x512.numel_eq (ix2 k f) = _
  refine (drop_units (A := 4096) (B := 512) _ _ k f).trans ?_
  rw [View.read_apply]
  refine congrArg (U m c) (funext fun a => Fin.ext ?_)
  match a with
  | ⟨0, _⟩ => rfl
  | ⟨1, _⟩ => rfl
  | ⟨2, _⟩ => show 0 + 1 * k.val = k.val; omega
  | ⟨3, _⟩ => show 0 + 1 * f.val = f.val; omega

theorem rD_at (b : BitVec 32) (f : Fin 512) (k : Fin 4096) : rD (F := Ideal) (c := c) (dW m c) b (ix2 f k) = D m c (ValueIdx.ix4 0 (pick b) f k) := by
  let M : Memref sig .tc .hbm S1x1x512x4096 .f32 := dM.slice (Rect.unit (s := S2x32x512x4096) ![0, min b.toNat 31, 0, 0] S1x1x512x4096.size (srcD_inb b)) (fun _ => rfl)
  show shapeCast S512x4096 (M.view.read (Elt Ideal) (D m c)) squeezes_S1x1x512x4096_S512x4096.numel_eq (ix2 f k) = _
  refine (drop_units (A := 512) (B := 4096) _ _ f k).trans ?_
  rw [View.read_apply]
  refine congrArg (D m c) (funext fun a => Fin.ext ?_)
  match a with
  | ⟨0, _⟩ => rfl
  | ⟨1, _⟩ => rfl
  | ⟨2, _⟩ => show 0 + 1 * f.val = f.val; omega
  | ⟨3, _⟩ => show 0 + 1 * k.val = k.val; omega

/-! ## A point's result -/

theorem gated_at (p q : FVec Ideal S256x512 .f32) (r : Fin 256) (f : Fin 512) :
    gated (F := Ideal) p q (ix2 r f) = p (ix2 r f) * Ideal.logistic (p (ix2 r f)) * q (ix2 r f) := by
  show p (ix2 r f) * (Ideal.ofBits .f32 0x3F000000#32 * Ideal.tanh (Ideal.ofBits .f32 0x3F000000#32 * p (ix2 r f)) + Ideal.ofBits .f32 0x3F000000#32) * q (ix2 r f) = _
  rw [sigmoid_eq]

theorem out_at (x : FVec Ideal S256x4096 .bf16) (g u : FVec Ideal S4096x512 .bf16) (d : FVec Ideal S512x4096 .bf16) (r : Fin 256) (k : Fin 4096) :
    out (F := Ideal) x g u d (ix2 r k) = ∑ f : Fin 512, (prod x g (ix2 r f) * Ideal.logistic (prod x g (ix2 r f)) * prod x u (ix2 r f)) * d (ix2 f k) := by
  refine (dot_at (M := 256) (K := 512) (N := 4096) (gated (F := Ideal) (prod x g) (prod x u)) d r k).trans ?_
  refine Finset.sum_congr rfl fun f _ => ?_
  rw [gated_at]

theorem prod_at (t : Fin grid0.N) (w : Wide) (g : FVec Ideal S4096x512 .bf16) (b : BitVec 32) (hg : ∀ (k : Fin 4096) (f : Fin 512), g (ix2 k f) = w (ValueIdx.ix4 0 (pick b) k f)) (r : Fin 256) (f : Fin 512) :
    prod (F := Ideal) (rowsAt m c t) g (ix2 r f) = lin (X m c) w b (rowOf (at_ t) r) f := by
  refine (dot_at (M := 256) (K := 4096) (N := 512) (rowsAt m c t) g r f).trans ?_
  unfold lin
  refine Finset.sum_congr rfl fun k _ => ?_
  rw [rows_read, hg]

/-- The result array. -/
def outArr : S40960x4096.Idx → EReal := fun i => spec (X m c) (teT m c) (usedT m c) (G m c) (U m c) (D m c) (i 0) (i 1)

theorem tile_at (t : Fin grid0.N) (r : Fin 256) (k : Fin 4096) :
    tile m c (rowsAt m c t) t.val (ix2 r k) = spec (X m c) (teT m c) (usedT m c) (G m c) (U m c) (D m c) (rowOf (at_ t) r) k := by
  have hq : (rowOf (at_ t) r).val / 256 = t.val := by show (256 * t.val + r.val) / 256 = t.val; omega
  unfold tile spec
  rw [hq]
  split
  · refine (out_at _ _ _ _ r k).trans (Finset.sum_congr rfl fun f _ => ?_)
    rw [prod_at m c t (G m c) _ _ (rG_at m c _), prod_at m c t (U m c) _ _ (rU_at m c _), rD_at]
    rfl
  · show Ideal.ofBits .bf16 0x0000#16 = 0
    simp [Ideal.ofBits, Ideal.ieee]

theorem flushed_at (t : Fin grid0.N) (r : Fin 256) (k : Fin 4096) : (dats m 0 c).flushed 1 t (ix2 r k : S256x4096.Idx)
    = spec (X m c) (teT m c) (usedT m c) (G m c) (U m c) (D m c) (rowOf (at_ t) r) k := by
  show ((cf m).win 1).cut (grid0.coords t) ((dats m 0 c).after 1 t) (ix2 r k : S256x4096.Idx) = _
  rw [after_o]
  exact tile_at m c t r k

theorem mem_blk (t : Fin grid0.N) (i : S40960x4096.Idx) : i ∈ (((cf m).win 1).blk t).view.set ↔ (i 0 : Nat) / 256 = t.val := by
  refine (Eq.to_iff (congrArg (i ∈ ·) (View.set_slice_whole (κ := .tc) main_v0 (((cf m).win 1).rect t)))).trans ?_
  refine (Rect.mem_set_unit (s := S40960x4096)).trans ?_
  obtain ⟨e0, e1⟩ := index1 m t
  have h1 : (i 1 : Nat) < 4096 := (i 1).isLt
  constructor
  · intro h
    have a0 : ((cf m).win 1).index t (0 : Fin 2) * 256 ≤ (i 0 : Nat) ∧ (i 0 : Nat) < ((cf m).win 1).index t (0 : Fin 2) * 256 + 256 := h 0
    omega
  · intro h a
    match a with
    | ⟨0, _⟩ => show ((cf m).win 1).index t (0 : Fin 2) * 256 ≤ (i 0 : Nat) ∧ (i 0 : Nat) < ((cf m).win 1).index t (0 : Fin 2) * 256 + 256; omega
    | ⟨1, _⟩ => show ((cf m).win 1).index t (1 : Fin 2) * 4096 ≤ (i 1 : Nat) ∧ (i 1 : Nat) < ((cf m).win 1).index t (1 : Fin 2) * 4096 + 4096; omega

theorem cover (i : S40960x4096.Idx) : ∃ t : Fin grid0.N, ((cf m).win 1).flush t = true ∧ i ∈ (((cf m).win 1).blk t).view.set := by
  have h0 : (i 0 : Nat) < 40960 := (i 0).isLt
  have hN : grid0.N = 160 := N_0
  refine ⟨⟨(i 0 : Nat) / 256, by omega⟩, writes_back m _, ?_⟩
  rw [mem_blk]

theorem flushed_eq (t : Fin grid0.N) : (dats m 0 c).flushed 1 t = (((cf m).win 1).blk t).view.read (Elt Ideal) (outArr m c) := by
  refine funext fun (i : S256x4096.Idx) => ?_
  obtain ⟨r, k, hi⟩ : ∃ (r : Fin 256) (k : Fin 4096), i = ix2 r k := ⟨i 0, i 1, funext fun a => match a with
    | ⟨0, _⟩ => rfl
    | ⟨1, _⟩ => rfl⟩
  rw [hi]
  refine (flushed_at m c t r k).trans ?_
  obtain ⟨e0, e1⟩ := index1 m t
  have hj : (((cf m).win 1).blk t).view.emb (ix2 r k : S256x4096.Idx) = (ix2 (rowOf (at_ t) r) k : S40960x4096.Idx) :=
    funext fun a => Fin.ext (match a with
    | ⟨0, _⟩ => by show ((cf m).win 1).index t (0 : Fin 2) * 256 + 1 * r.val = 256 * t.val + r.val; omega
    | ⟨1, _⟩ => by show ((cf m).win 1).index t (1 : Fin 2) * 4096 + 1 * k.val = k.val; omega)
  show _ = outArr m c ((((cf m).win 1).blk t).view.emb (ix2 r k : S256x4096.Idx))
  rw [hj]
  rfl

theorem final_eq : (dats m 0 c).arrAt 1 (cf m).N = outArr m c :=
  (dats m 0 c).arrAt_eq_of_cover 1 (outArr m c) (fun t _ => flushed_eq m c t) (cover m)

/-- The call ends with every used row tile through its expert, the arguments as they began. -/
theorem run_out (hA : ∀ c, Agrees m c) : θ_run defs (onTc (τ := τ) (main (F := Ideal))) ⟨m, fun _ => 0, ρ⟩ fun r => ∀ c : Dev nD,
      r.2.mem ((c : Thread nD τ).loc main_v0) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 1).trans (final_eq m c),
      ((h.1 c).1 0).trans (((dats m 0 c).arrAt_in 0 rfl _).trans (A_eq m c 0)),
      (h.1 c).2 main_arg1 rest_main_arg1, (h.1 c).2 main_arg2 rest_main_arg2, (h.1 c).2 main_arg3 rest_main_arg3, (h.1 c).2 main_arg4 rest_main_arg4,
      (h.1 c).2 main_arg5 rest_main_arg5, (h.1 c).2 main_arg6 rest_main_arg6, (h.1 c).2 main_arg7 rest_main_arg7⟩)
    (run_quiet m ρ hA)

end Cert.ExpertValue

end
-- ==== Proof.ExpertClaims.lean ====
/- The experts' claims: the frames under the tables' precondition, and the equation between the kernel and its reference. -/
module

public import proofs.«01_k».proof.Defs
public import proofs.«01_k».proof.Proof.ExpertValue
public import proofs.«01_k».proof.Proof.ExpertLaunchBits
public import proofs.«01_k».proof.Proof.Gen.Reference7Ideal.Run
public import Idealize.ShloMosaic.Adequacy
public import Idealize.ShloMosaic.Init

@[expose] public section

set_option maxRecDepth 65536

noncomputable section

namespace Cert.Expert.Claims

open Idealize.ShloMosaic Idealize.ShloMosaic.TcCoe Idealize.SL.Sem

theorem kernelFacts : Cert.Kernel7.Facts := Cert.Kernel7.Gen.facts
theorem idealFacts : Cert.Kernel7Ideal.Facts := Cert.Kernel7Ideal.Gen.facts
theorem refFacts : Cert.Reference7Ideal.Facts := Cert.Reference7Ideal.Gen.facts
theorem preFacts : Cert.Pre_tables_agree.Facts := Cert.Pre_tables_agree.Gen.facts

theorem frame_kernel : Cert.quiescent_Kernel7 := fun m ρ hpre =>
  Cert.ExpertBits.args_kept m ρ fun c => Cert.ExpertTables.agree_of _ _ _ _ _ _ _ _ (hpre c)
theorem agrees (m) (hpre : Cert.Pre_Kernel7Ideal m) (c : Dev Cert.Kernel7Ideal.nD) : Cert.Expert.Agrees m c :=
  Cert.ExpertTables.agree_of _ _ _ _ _ _ _ _ (hpre c)
theorem frame_ideal : Cert.quiescent_Kernel7Ideal := fun m ρ hpre => Cert.Expert.args_kept m ρ (agrees m hpre)
theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)
theorem frame_ref_pre : Cert.quiescent_Reference7Ideal_pre_tables_agree := fun m ρ _ => frame_ref m ρ trivial

theorem preserves : Cert.preserves_Kernel7_Kernel7Ideal := trivial

theorem algebraic : Cert.algebraic_Kernel7Ideal_Reference7Ideal := by
  intro m ρ m' ρ' hpre hagree
  refine ⟨fun c => Cert.ExpertValue.outArr m c, Cert.ExpertValue.run_out m ρ (agrees m hpre), ?_⟩
  refine (θ_run Cert.Reference7Ideal.defs _ _).mono (fun r h c => ?_) (Cert.Reference7Ideal.Value.run m' ρ')
  obtain ⟨a0, a1, a2, a3, a4, a5, a6, a7⟩ := hagree c
  refine ⟨(h c).1.trans (Eq.trans ?_ (funext fun i => Cert.ExpertSpec.refOut_at (Cert.ExpertValue.X m c) (Cert.Expert.teT m c) (Cert.Expert.usedT m c)
    (Cert.ExpertValue.G m c) (Cert.ExpertValue.U m c) (Cert.ExpertValue.D m c) (agrees m hpre c).expert_lt i)), (h c).2⟩
  rw [a0, a1, a4, a5, a6, a7]
  rfl

end Cert.Expert.Claims

end
-- ==== Proof.lean ====
module

public import proofs.«01_k».proof.Defs
public import proofs.«01_k».proof.Proof.AttnClaims
public import proofs.«01_k».proof.Proof.InClaims
public import proofs.«01_k».proof.Proof.MergeClaims
public import proofs.«01_k».proof.Proof.OutClaims
public import proofs.«01_k».proof.Proof.EmbedClaims
public import proofs.«01_k».proof.Proof.GluClaims
public import proofs.«01_k».proof.Proof.ExpertClaims

@[expose] public section

noncomputable section

namespace Cert.Proof

open Cert.Attn.Claims

theorem claim : Cert.Claim :=
  ⟨kernelFacts, idealFacts, refFacts,
    Cert.InProj.Claims.kernelFacts, Cert.InProj.Claims.idealFacts, Cert.InProj.Claims.refFacts,
    Cert.Merge.Claims.kernelFacts, Cert.Merge.Claims.idealFacts, Cert.Merge.Claims.refFacts,
    Cert.OutProj.Claims.kernelFacts, Cert.OutProj.Claims.idealFacts, Cert.OutProj.Claims.refFacts,
    Cert.Embed.Claims.kernelFacts, Cert.Embed.Claims.idealFacts, Cert.Embed.Claims.refFacts,
    Cert.Glu.Claims.kernelFacts, Cert.Glu.Claims.idealFacts, Cert.Glu.Claims.refFacts,
    Cert.Expert.Claims.kernelFacts, Cert.Expert.Claims.idealFacts, Cert.Expert.Claims.refFacts,
    preFacts, Cert.Expert.Claims.preFacts, frame_kernel, frame_ideal, frame_ideal_pre, frame_ref, frame_ref_pre,
    Cert.InProj.Claims.frame_kernel, Cert.InProj.Claims.frame_ideal, Cert.InProj.Claims.frame_ref,
    Cert.Merge.Claims.frame_kernel, Cert.Merge.Claims.frame_ideal, Cert.Merge.Claims.frame_ref,
    Cert.OutProj.Claims.frame_kernel, Cert.OutProj.Claims.frame_ideal, Cert.OutProj.Claims.frame_ref,
    Cert.Embed.Claims.frame_kernel, Cert.Embed.Claims.frame_ideal, Cert.Embed.Claims.frame_ref,
    Cert.Glu.Claims.frame_kernel, Cert.Glu.Claims.frame_ideal, Cert.Glu.Claims.frame_ref,
    Cert.Expert.Claims.frame_kernel, Cert.Expert.Claims.frame_ideal, Cert.Expert.Claims.frame_ref, Cert.Expert.Claims.frame_ref_pre,
    preserves, algebraic,
    Cert.InProj.Claims.preserves, Cert.InProj.Claims.algebraic,
    Cert.Merge.Claims.preserves, Cert.Merge.Claims.algebraic,
    Cert.OutProj.Claims.preserves, Cert.OutProj.Claims.algebraic,
    Cert.Embed.Claims.preserves, Cert.Embed.Claims.algebraic,
    Cert.Glu.Claims.preserves, Cert.Glu.Claims.algebraic,
    Cert.Expert.Claims.preserves, Cert.Expert.Claims.algebraic⟩

end Cert.Proof
